-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v27) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)
      ∧ m' ((c.tc : Thread Cert.OutReferenceIdeal.nD Cert.OutReferenceIdeal.τ).loc Cert.OutReferenceIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v9)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v34) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v40) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v55) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOut : Cert.Out.Facts) (hOutIdeal : Cert.OutIdeal.Facts) (hOutReferenceIdeal : Cert.OutReferenceIdeal.Facts) (hLast : Cert.Last.Facts) (hLastIdeal : Cert.LastIdeal.Facts) (hLastReferenceIdeal : Cert.LastReferenceIdeal.Facts) (hMerge : Cert.Merge.Facts) (hMergeIdeal : Cert.MergeIdeal.Facts) (hMergeReferenceIdeal : Cert.MergeReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Out (hOut := hOut)
    ∧ quiescent_OutIdeal (hOutIdeal := hOutIdeal)
    ∧ quiescent_OutReferenceIdeal (hOutReferenceIdeal := hOutReferenceIdeal)
    ∧ quiescent_Last (hLast := hLast)
    ∧ quiescent_LastIdeal (hLastIdeal := hLastIdeal)
    ∧ quiescent_LastReferenceIdeal (hLastReferenceIdeal := hLastReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Out_OutIdeal
    ∧ algebraic_OutIdeal_OutReferenceIdeal (hOutIdeal := hOutIdeal) (hOutReferenceIdeal := hOutReferenceIdeal)
    ∧ preserves_Last_LastIdeal
    ∧ algebraic_LastIdeal_LastReferenceIdeal (hLastIdeal := hLastIdeal) (hLastReferenceIdeal := hLastReferenceIdeal)
    ∧ preserves_Merge_MergeIdeal
    ∧ algebraic_MergeIdeal_MergeReferenceIdeal (hMergeIdeal := hMergeIdeal) (hMergeReferenceIdeal := hMergeReferenceIdeal)
-- ==== Pre_finite_scores.lean ====
abbrev S3x16384x8x128 : Shape := ⟨4, ![3, 16384, 8, 128]⟩
abbrev S3x16384x2x128 : Shape := ⟨4, ![3, 16384, 2, 128]⟩
abbrev S_ : Shape := ⟨0, ![]⟩

class Facts : Prop where
  bcast_S_S3x16384x8x128 : S_.BroadcastsInDim S3x16384x8x128 (![] : Fin 0 → Fin S3x16384x8x128.rank)
  bcast_S_S3x16384x2x128 : S_.BroadcastsInDim S3x16384x2x128 (![] : Fin 0 → Fin S3x16384x2x128.rank)

variable [Facts]

def fn {F : FTy → Type} [FloatOps F] (main_arg0 : FVec F S3x16384x8x128 .f32) (main_arg1 : FVec F S3x16384x2x128 .f32) (main_arg2 : FVec F S3x16384x2x128 .f32) : IVec S3x16384x8x128 1 × IVec S3x16384x2x128 1 :=
  let main_v0 : FVec F S3x16384x8x128 .f32 := Host.absf main_arg0
  let main_cst : FVec F S_ .f32 := constant S_ .f32 0x7F800000#32
  let main_v1 : FVec F S3x16384x8x128 .f32 := broadcastInDim S3x16384x8x128 ![] bcast_S_S3x16384x8x128 main_cst
  let main_v2 : IVec S3x16384x8x128 1 := cmpf .olt main_v0 main_v1
  let main_v3 : FVec F S3x16384x2x128 .f32 := Host.absf main_arg1
  let main_cst_0 : FVec F S_ .f32 := constant S_ .f32 0x7F800000#32
  let main_v4 : FVec F S3x16384x2x128 .f32 := broadcastInDim S3x16384x2x128 ![] bcast_S_S3x16384x2x128 main_cst_0
  let main_v5 : IVec S3x16384x2x128 1 := cmpf .olt main_v3 main_v4
  (main_v2, main_v5)
-- ==== Kernel.lean ====
abbrev S3x16384x8x128 : Shape := ⟨4, ![3, 16384, 8, 128]⟩
abbrev S3x16384x2x128 : Shape := ⟨4, ![3, 16384, 2, 128]⟩
abbrev S_ : Shape := ⟨0, ![]⟩
abbrev S3x16384x1024 : Shape := ⟨3, ![3, 16384, 1024]⟩
abbrev S3x16384x256 : Shape := ⟨3, ![3, 16384, 256]⟩
abbrev S3x16384x1536 : Shape := ⟨3, ![3, 16384, 1536]⟩
abbrev S1x2048x512 : Shape := ⟨3, ![1, 2048, 512]⟩
abbrev S1x16384x128 : Shape := ⟨3, ![1, 16384, 128]⟩
abbrev S128x8192 : Shape := ⟨2, ![128, 8192]⟩
abbrev S2x128x8192 : Shape := ⟨3, ![2, 128, 8192]⟩
abbrev S1x8192 : Shape := ⟨2, ![1, 8192]⟩
abbrev S1x2048x128 : Shape := ⟨3, ![1, 2048, 128]⟩
abbrev S2048x128 : Shape := ⟨2, ![2048, 128]⟩
abbrev S128x2048 : Shape := ⟨2, ![128, 2048]⟩
abbrev S1x128x128 : Shape := ⟨3, ![1, 128, 128]⟩
abbrev S128x128 : Shape := ⟨2, ![128, 128]⟩
abbrev S8192 : Shape := ⟨1, ![8192]⟩
abbrev S1x512x128 : Shape := ⟨3, ![1, 512, 128]⟩
abbrev S512x128 : Shape := ⟨2, ![512, 128]⟩
abbrev S128x256 : Shape := ⟨2, ![128, 256]⟩
abbrev S512x256 : Shape := ⟨2, ![512, 256]⟩
abbrev S1x256 : Shape := ⟨2, ![1, 256]⟩
abbrev S256 : Shape := ⟨1, ![256]⟩
abbrev S1x128x8192 : Shape := ⟨3, ![1, 128, 8192]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 20
  | .vmem => 13
  | .smem => 0
  | _ => 0

abbrev bufTy : (tb : Table) → Fin (tcTables nBuf tb) → BufTy
  | .hbm, ⟨0, _⟩ => ⟨S3x16384x8x128, .f32⟩
  | .hbm, ⟨1, _⟩ => ⟨S3x16384x2x128, .f32⟩
  | .hbm, ⟨2, _⟩ => ⟨S3x16384x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S3x16384x1024, .f32⟩
  | .hbm, ⟨11, _⟩ => ⟨S3x16384x1024, .f32⟩
  | .hbm, ⟨12, _⟩ => ⟨S3x16384x1024, .f32⟩
  | .hbm, ⟨13, _⟩ => ⟨S3x16384x1024, .bf16⟩
  | .hbm, ⟨14, _⟩ => ⟨S3x16384x256, .f32⟩
  | .hbm, ⟨15, _⟩ => ⟨S3x16384x256, .bf16⟩
  | .hbm, ⟨16, _⟩ => ⟨S3x16384x256, .f32⟩
  | .hbm, ⟨17, _⟩ => ⟨S3x16384x256, .bf16⟩
  | .hbm, ⟨18, _⟩ => ⟨S3x16384x1536, .bf16⟩
  | .hbm, ⟨19, _⟩ => ⟨S3x16384x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S128x8192, .bf16⟩
  | .local _ .vmem, ⟨9, _⟩ => ⟨S2x128x8192, .f32⟩
  | .local _ .vmem, ⟨10, _⟩ => ⟨S1x8192, .f32⟩
  | .local _ .vmem, ⟨11, _⟩ => ⟨S1x8192, .f32⟩
  | .local _ .vmem, ⟨12, _⟩ => ⟨S128x8192, .f32⟩
  | _, _ => ⟨S3x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 8], ![false, false, false]⟩

@[reducible] def k0_t1_loop : Scf.Loop 32 :=
  let c0_i32 : BitVec 32 := 0#32
  let c16_i32 : BitVec 32 := 16#32
  let v49 : BitVec 32 := Scalar.addi c0_i32 c16_i32
  let c1_i32 : BitVec 32 := 1#32
  ⟨c0_i32, v49, c1_i32⟩
def k0_mult1 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v81 : BitVec 32 := Scalar.muli c2_i32 arg12
  let c512_i32 : BitVec 32 := 512#32
  let v82 : BitVec 32 := Scalar.muli v81 c512_i32
  v82
def k0_off1 (k0_t1 : Fin k0_t1_loop.trips) : Fin 3 → Nat :=
  let c0_44 : Index := 0#32
  let c2_i32 : BitVec 32 := 2#32
  let c0_i32 : BitVec 32 := 0#32
  let c1_i32 : BitVec 32 := 1#32
  let arg12 : BitVec 32 := Scf.iv c0_i32 c1_i32 k0_t1
  let v81 : BitVec 32 := Scalar.muli c2_i32 arg12
  let c512_i32 : BitVec 32 := 512#32
  let v82 : BitVec 32 := Scalar.muli v81 c512_i32
  let v83 : BitVec 32 := v82
  let v84 : Index := Scalar.indexCast v83
  let c0_45 : Index := 0#32
  ![0, v84.toNat, 0]
def k0_mult2 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v81 : BitVec 32 := Scalar.muli c2_i32 arg12
  let c512_i32_46 : BitVec 32 := 512#32
  let v87 : BitVec 32 := Scalar.muli v81 c512_i32_46
  v87
def k0_mult3 (k0_t1 : Fin k0_t1_loop.trips) : BitVec 32 :=
  let c2_i32_502 : BitVec 32 := 2#32
  let c0_i32 : BitVec 32 := 0#32
  let c1_i32 : BitVec 32 := 1#32
  let arg12 : BitVec 32 := Scf.iv c0_i32 c1_i32 k0_t1
  let v732 : BitVec 32 := Scalar.muli c2_i32_502 arg12
  let c1_i32_503 : BitVec 32 := 1#32
  let v733 : BitVec 32 := Scalar.addi v732 c1_i32_503
  let c512_i32_504 : BitVec 32 := 512#32
  let v734 : BitVec 32 := Scalar.muli v733 c512_i32_504
  v734
def k0_off2 (k0_t1 : Fin k0_t1_loop.trips) : Fin 3 → Nat :=
  let c0_505 : Index := 0#32
  let c2_i32_502 : BitVec 32 := 2#32
  let c0_i32 : BitVec 32 := 0#32
  let c1_i32 : BitVec 32 := 1#32
  let arg12 : BitVec 32 := Scf.iv c0_i32 c1_i32 k0_t1
  let v732 : BitVec 32 := Scalar.muli c2_i32_502 arg12
  let c1_i32_503 : BitVec 32 := 1#32
  let v733 : BitVec 32 := Scalar.addi v732 c1_i32_503
  let c512_i32_504 : BitVec 32 := 512#32
  let v734 : BitVec 32 := Scalar.muli v733 c512_i32_504
  let v735 : BitVec 32 := v734
  let v736 : Index := Scalar.indexCast v735
  let c0_506 : Index := 0#32
  ![0, v736.toNat, 0]
def k0_mult4 (k0_t1 : Fin k0_t1_loop.trips) : BitVec 32 :=
  let c2_i32_502 : BitVec 32 := 2#32
  let c0_i32 : BitVec 32 := 0#32
  let c1_i32 : BitVec 32 := 1#32
  let arg12 : BitVec 32 := Scf.iv c0_i32 c1_i32 k0_t1
  let v732 : BitVec 32 := Scalar.muli c2_i32_502 arg12
  let c1_i32_503 : BitVec 32 := 1#32
  let v733 : BitVec 32 := Scalar.addi v732 c1_i32_503
  let c512_i32_507 : BitVec 32 := 512#32
  let v739 : BitVec 32 := Scalar.muli v733 c512_i32_507
  v739
def k0_mult5 : BitVec 32 :=
  let c0_i32_53 : BitVec 32 := 0#32
  c0_i32_53
@[reducible] def k0_t2_loop : Scf.Loop 32 :=
  let c0_i32_62 : BitVec 32 := 0#32
  let c64_i32 : BitVec 32 := 64#32
  let v102 : BitVec 32 := Scalar.addi c0_i32_62 c64_i32
  let c1_i32_63 : BitVec 32 := 1#32
  ⟨c0_i32_62, v102, c1_i32_63⟩
def k0_mult6 (k0_t2 : Fin k0_t2_loop.trips) : BitVec 32 :=
  let c2_i32 : BitVec 32 := 2#32
  let c0_i32_62 : BitVec 32 := 0#32
  let c1_i32_63 : BitVec 32 := 1#32
  let arg12 : BitVec 32 := Scf.iv c0_i32_62 c1_i32_63 k0_t2
  let v131 : BitVec 32 := Scalar.muli c2_i32 arg12
  let c1_i32_81 : BitVec 32 := 1#32
  let v132 : BitVec 32 := Scalar.addi v131 c1_i32_81
  let c127_i32 : BitVec 32 := 127#32
  let v133 : BitVec 32 := Scalar.minsi v132 c127_i32
  let c128_i32 : BitVec 32 := 128#32
  let v134 : BitVec 32 := Scalar.muli v133 c128_i32
  v134
def k0_off3 (k0_t2 : Fin k0_t2_loop.trips) : Fin 3 → Nat :=
  let c0_82 : Index := 0#32
  let c2_i32 : BitVec 32 := 2#32
  let c0_i32_62 : BitVec 32 := 0#32
  let c1_i32_63 : BitVec 32 := 1#32
  let arg12 : BitVec 32 := Scf.iv c0_i32_62 c1_i32_63 k0_t2
  let v131 : BitVec 32 := Scalar.muli c2_i32 arg12
  let c1_i32_81 : BitVec 32 := 1#32
  let v132 : BitVec 32 := Scalar.addi v131 c1_i32_81
  let c127_i32 : BitVec 32 := 127#32
  let v133 : BitVec 32 := Scalar.minsi v132 c127_i32
  let c128_i32 : BitVec 32 := 128#32
  let v134 : BitVec 32 := Scalar.muli v133 c128_i32
  let v135 : BitVec 32 := v134
  let v136 : Index := Scalar.indexCast v135
  let c0_83 : Index := 0#32
  ![0, v136.toNat, 0]
def k0_mult7 (k0_t2 : Fin k0_t2_loop.trips) : BitVec 32 :=
  let c2_i32 : BitVec 32 := 2#32
  let c0_i32_62 : BitVec 32 := 0#32
  let c1_i32_63 : BitVec 32 := 1#32
  let arg12 : BitVec 32 := Scf.iv c0_i32_62 c1_i32_63 k0_t2
  let v131 : BitVec 32 := Scalar.muli c2_i32 arg12
  let c128_i32_102 : BitVec 32 := 128#32
  let v166 : BitVec 32 := Scalar.muli v131 c128_i32_102
  v166
def k0_off4 (k0_t2 : Fin k0_t2_loop.trips) : Fin 3 → Nat :=
  let c0_103 : Index := 0#32
  let c2_i32 : BitVec 32 := 2#32
  let c0_i32_62 : BitVec 32 := 0#32
  let c1_i32_63 : BitVec 32 := 1#32
  let arg12 : BitVec 32 := Scf.iv c0_i32_62 c1_i32_63 k0_t2
  let v131 : BitVec 32 := Scalar.muli c2_i32 arg12
  let c128_i32_102 : BitVec 32 := 128#32
  let v166 : BitVec 32 := Scalar.muli v131 c128_i32_102
  let v167 : BitVec 32 := v166
  let v168 : Index := Scalar.indexCast v167
  let c0_104 : Index := 0#32
  ![0, v168.toNat, 0]
def k0_mult8 (k0_t2 : Fin k0_t2_loop.trips) : BitVec 32 :=
  let c2_i32_110 : BitVec 32 := 2#32
  let c0_i32_62 : BitVec 32 := 0#32
  let c1_i32_63 : BitVec 32 := 1#32
  let arg12 : BitVec 32 := Scf.iv c0_i32_62 c1_i32_63 k0_t2
  let v180 : BitVec 32 := Scalar.muli c2_i32_110 arg12
  let c1_i32_111 : BitVec 32 := 1#32
  let v181 : BitVec 32 := Scalar.addi v180 c1_i32_111
  let c1_i32_112 : BitVec 32 := 1#32
  let v182 : BitVec 32 := Scalar.addi v181 c1_i32_112
  let c127_i32_113 : BitVec 32 := 127#32
  let v183 : BitVec 32 := Scalar.minsi v182 c127_i32_113
  let c128_i32_114 : BitVec 32 := 128#32
  let v184 : BitVec 32 := Scalar.muli v183 c128_i32_114
  v184
def k0_off5 (k0_t2 : Fin k0_t2_loop.trips) : Fin 3 → Nat :=
  let c0_115 : Index := 0#32
  let c2_i32_110 : BitVec 32 := 2#32
  let c0_i32_62 : BitVec 32 := 0#32
  let c1_i32_63 : BitVec 32 := 1#32
  let arg12 : BitVec 32 := Scf.iv c0_i32_62 c1_i32_63 k0_t2
  let v180 : BitVec 32 := Scalar.muli c2_i32_110 arg12
  let c1_i32_111 : BitVec 32 := 1#32
  let v181 : BitVec 32 := Scalar.addi v180 c1_i32_111
  let c1_i32_112 : BitVec 32 := 1#32
  let v182 : BitVec 32 := Scalar.addi v181 c1_i32_112
  let c127_i32_113 : BitVec 32 := 127#32
  let v183 : BitVec 32 := Scalar.minsi v182 c127_i32_113
  let c128_i32_114 : BitVec 32 := 128#32
  let v184 : BitVec 32 := Scalar.muli v183 c128_i32_114
  let v185 : BitVec 32 := v184
  let v186 : Index := Scalar.indexCast v185
  let c0_116 : Index := 0#32
  ![0, v186.toNat, 0]
def k0_mult9 (k0_t2 : Fin k0_t2_loop.trips) : BitVec 32 :=
  let c2_i32_110 : BitVec 32 := 2#32
  let c0_i32_62 : BitVec 32 := 0#32
  let c1_i32_63 : BitVec 32 := 1#32
  let arg12 : BitVec 32 := Scf.iv c0_i32_62 c1_i32_63 k0_t2
  let v180 : BitVec 32 := Scalar.muli c2_i32_110 arg12
  let c1_i32_111 : BitVec 32 := 1#32
  let v181 : BitVec 32 := Scalar.addi v180 c1_i32_111
  let c128_i32_136 : BitVec 32 := 128#32
  let v216 : BitVec 32 := Scalar.muli v181 c128_i32_136
  v216
def k0_off6 (k0_t2 : Fin k0_t2_loop.trips) : Fin 3 → Nat :=
  let c0_137 : Index := 0#32
  let c2_i32_110 : BitVec 32 := 2#32
  let c0_i32_62 : BitVec 32 := 0#32
  let c1_i32_63 : BitVec 32 := 1#32
  let arg12 : BitVec 32 := Scf.iv c0_i32_62 c1_i32_63 k0_t2
  let v180 : BitVec 32 := Scalar.muli c2_i32_110 arg12
  let c1_i32_111 : BitVec 32 := 1#32
  let v181 : BitVec 32 := Scalar.addi v180 c1_i32_111
  let c128_i32_136 : BitVec 32 := 128#32
  let v216 : BitVec 32 := Scalar.muli v181 c128_i32_136
  let v217 : BitVec 32 := v216
  let v218 : Index := Scalar.indexCast v217
  let c0_138 : Index := 0#32
  ![0, v218.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S3x16384x8x128 : Shape := ⟨4, ![3, 16384, 8, 128]⟩
abbrev S3x16384x2x128 : Shape := ⟨4, ![3, 16384, 2, 128]⟩
abbrev S3x16384x2x4x128 : Shape := ⟨5, ![3, 16384, 2, 4, 128]⟩
abbrev S3x2x16384x16384x4 : Shape := ⟨5, ![3, 2, 16384, 16384, 4]⟩
abbrev S3x2x4x16384x16384 : Shape := ⟨5, ![3, 2, 4, 16384, 16384]⟩
abbrev S_ : Shape := ⟨0, ![]⟩
abbrev S3x2x4x16384 : Shape := ⟨4, ![3, 2, 4, 16384]⟩
abbrev S3x2x4x16384x1 : Shape := ⟨5, ![3, 2, 4, 16384, 1]⟩
abbrev S3x2x128x4x16384 : Shape := ⟨5, ![3, 2, 128, 4, 16384]⟩
abbrev S3x16384x1024 : Shape := ⟨3, ![3, 16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S3x16384x8x128, .f32⟩
  | .hbm, ⟨1, _⟩ => ⟨S3x16384x2x128, .f32⟩
  | .hbm, ⟨2, _⟩ => ⟨S3x16384x2x128, .f32⟩
  | .hbm, ⟨3, _⟩ => ⟨S3x16384x2x4x128, .f32⟩
  | .hbm, ⟨4, _⟩ => ⟨S3x2x16384x16384x4, .f32⟩
  | .hbm, ⟨5, _⟩ => ⟨S3x2x4x16384x16384, .f32⟩
  | .hbm, ⟨6, _⟩ => ⟨S_, .f32⟩
  | .hbm, ⟨7, _⟩ => ⟨S_, .f32⟩
  | .hbm, ⟨8, _⟩ => ⟨S3x2x4x16384x16384, .f32⟩
  | .hbm, ⟨9, _⟩ => ⟨S3x2x4x16384x16384, .f32⟩
  | .hbm, ⟨10, _⟩ => ⟨S_, .f32⟩
  | .hbm, ⟨11, _⟩ => ⟨S3x2x4x16384, .f32⟩
  | .hbm, ⟨12, _⟩ => ⟨S_, .f32⟩
  | .hbm, ⟨13, _⟩ => ⟨S3x2x4x16384, .f32⟩
  | .hbm, ⟨14, _⟩ => ⟨S3x2x4x16384, .f32⟩
  | .hbm, ⟨15, _⟩ => ⟨S3x2x4x16384x1, .f32⟩
  | .hbm, ⟨16, _⟩ => ⟨S3x2x4x16384x16384, .f32⟩
  | .hbm, ⟨17, _⟩ => ⟨S3x2x4x16384x16384, .f32⟩
  | .hbm, ⟨18, _⟩ => ⟨S3x2x4x16384x16384, .f32⟩
  | .hbm, ⟨19, _⟩ => ⟨S_, .f32⟩
  | .hbm, ⟨20, _⟩ => ⟨S3x2x4x16384, .f32⟩
  | .hbm, ⟨21, _⟩ => ⟨S3x2x4x16384x1, .f32⟩
  | .hbm, ⟨22, _⟩ => ⟨S3x2x4x16384x16384, .f32⟩
  | .hbm, ⟨23, _⟩ => ⟨S3x2x4x16384x16384, .f32⟩
  | .hbm, ⟨24, _⟩ => ⟨S3x2x128x4x16384, .f32⟩
  | .hbm, ⟨25, _⟩ => ⟨S3x16384x2x4x128, .f32⟩
  | .hbm, ⟨26, _⟩ => ⟨S3x16384x1024, .f32⟩
  | .hbm, ⟨27, _⟩ => ⟨S3x16384x1024, .bf16⟩
  | _, _ => ⟨S3x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Ffn.lean ====
abbrev S49152x2048 : Shape := ⟨2, ![49152, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S4x1x2048 : Shape := ⟨3, ![4, 1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S49152x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S4x1x2048, .f32⟩
  | .hbm, ⟨5, _⟩ => ⟨S4x2048x11264, .bf16⟩
  | .hbm, ⟨6, _⟩ => ⟨S4x5632x2048, .bf16⟩
  | .hbm, ⟨7, _⟩ => ⟨S49152x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![48, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S49152x2048 : Shape := ⟨2, ![49152, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S_ : Shape := ⟨0, ![]⟩
abbrev S49152 : Shape := ⟨1, ![49152]⟩
abbrev S49152x1 : Shape := ⟨2, ![49152, 1]⟩
abbrev S1x2048 : Shape := ⟨2, ![1, 2048]⟩
abbrev S2048 : Shape := ⟨1, ![2048]⟩
abbrev S1x2048x11264 : Shape := ⟨3, ![1, 2048, 11264]⟩
abbrev S2048x11264 : Shape := ⟨2, ![2048, 11264]⟩
abbrev S49152x11264 : Shape := ⟨2, ![49152, 11264]⟩
abbrev S49152x5632 : Shape := ⟨2, ![49152, 5632]⟩
abbrev S1x5632x2048 : Shape := ⟨3, ![1, 5632, 2048]⟩
abbrev S5632x2048 : Shape := ⟨2, ![5632, 2048]⟩

abbrev nBuf : Space → Nat
  | .hbm => 44
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S49152x2048, .f32⟩
  | .hbm, ⟨5, _⟩ => ⟨S_, .f32⟩
  | .hbm, ⟨6, _⟩ => ⟨S49152, .f32⟩
  | .hbm, ⟨7, _⟩ => ⟨S49152x1, .f32⟩
  | .hbm, ⟨8, _⟩ => ⟨S_, .f32⟩
  | .hbm, ⟨9, _⟩ => ⟨S49152x1, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S49152x1, .f32⟩
  | .hbm, ⟨15, _⟩ => ⟨S49152x2048, .f32⟩
  | .hbm, ⟨16, _⟩ => ⟨S49152x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S49152x2048, .f32⟩
  | .hbm, ⟨21, _⟩ => ⟨S49152x2048, .f32⟩
  | .hbm, ⟨22, _⟩ => ⟨S1x2048x11264, .f32⟩
  | .hbm, ⟨23, _⟩ => ⟨S2048x11264, .f32⟩
  | .hbm, ⟨24, _⟩ => ⟨S49152x11264, .f32⟩
  | .hbm, ⟨25, _⟩ => ⟨S49152x5632, .f32⟩
  | .hbm, ⟨26, _⟩ => ⟨S49152x5632, .f32⟩
  | .hbm, ⟨27, _⟩ => ⟨S49152x5632, .f32⟩
  | .hbm, ⟨28, _⟩ => ⟨S49152x5632, .f32⟩
  | .hbm, ⟨29, _⟩ => ⟨S_, .f32⟩
  | .hbm, ⟨30, _⟩ => ⟨S49152x5632, .f32⟩
  | .hbm, ⟨31, _⟩ => ⟨S49152x5632, .f32⟩
  | .hbm, ⟨32, _⟩ => ⟨S_, .f32⟩
  | .hbm, ⟨33, _⟩ => ⟨S49152x5632, .f32⟩
  | .hbm, ⟨34, _⟩ => ⟨S49152x5632, .f32⟩
  | .hbm, ⟨35, _⟩ => ⟨S49152x5632, .f32⟩
  | .hbm, ⟨36, _⟩ => ⟨S49152x5632, .f32⟩
  | .hbm, ⟨37, _⟩ => ⟨S1x5632x2048, .f32⟩
  | .hbm, ⟨38, _⟩ => ⟨S5632x2048, .f32⟩
  | .hbm, ⟨39, _⟩ => ⟨S49152x2048, .f32⟩
  | .hbm, ⟨40, _⟩ => ⟨S_, .f32⟩
  | .hbm, ⟨41, _⟩ => ⟨S49152x2048, .f32⟩
  | .hbm, ⟨42, _⟩ => ⟨S49152x2048, .f32⟩
  | .hbm, ⟨43, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Out.lean ====
abbrev S49152x2048 : Shape := ⟨2, ![49152, 2048]⟩
abbrev S49152x512 : Shape := ⟨2, ![49152, 512]⟩
abbrev S49152x1024 : Shape := ⟨2, ![49152, 1024]⟩
abbrev S4x2048x13824 : Shape := ⟨3, ![4, 2048, 13824]⟩
abbrev S4x512x2048 : Shape := ⟨3, ![4, 512, 2048]⟩
abbrev S4x1024x2048 : Shape := ⟨3, ![4, 1024, 2048]⟩
abbrev S4x2048x2048 : Shape := ⟨3, ![4, 2048, 2048]⟩
abbrev S512x2048 : Shape := ⟨2, ![512, 2048]⟩
abbrev S1x2048x512 : Shape := ⟨3, ![1, 2048, 512]⟩
abbrev S512x512 : Shape := ⟨2, ![512, 512]⟩
abbrev S512x1024 : Shape := ⟨2, ![512, 1024]⟩
abbrev S1x512x512 : Shape := ⟨3, ![1, 512, 512]⟩
abbrev S1x1024x512 : Shape := ⟨3, ![1, 1024, 512]⟩
abbrev S1x512x2048 : Shape := ⟨3, ![1, 512, 2048]⟩
abbrev S2048x512 : Shape := ⟨2, ![2048, 512]⟩
abbrev S1024x512 : Shape := ⟨2, ![1024, 512]⟩

abbrev nBuf : Space → Nat
  | .hbm => 20
  | .vmem => 26
  | .smem => 0
  | _ => 0

abbrev bufTy : (tb : Table) → Fin (tcTables nBuf tb) → BufTy
  | .hbm, ⟨0, _⟩ => ⟨S49152x2048, .f32⟩
  | .hbm, ⟨1, _⟩ => ⟨S49152x2048, .f32⟩
  | .hbm, ⟨2, _⟩ => ⟨S49152x512, .f32⟩
  | .hbm, ⟨3, _⟩ => ⟨S49152x1024, .f32⟩
  | .hbm, ⟨4, _⟩ => ⟨S49152x1024, .f32⟩
  | .hbm, ⟨5, _⟩ => ⟨S4x2048x13824, .f32⟩
  | .hbm, ⟨6, _⟩ => ⟨S4x512x2048, .f32⟩
  | .hbm, ⟨7, _⟩ => ⟨S4x1024x2048, .f32⟩
  | .hbm, ⟨8, _⟩ => ⟨S4x1024x2048, .f32⟩
  | .hbm, ⟨9, _⟩ => ⟨S4x2048x2048, .f32⟩
  | .hbm, ⟨10, _⟩ => ⟨S49152x2048, .bf16⟩
  | .hbm, ⟨11, _⟩ => ⟨S4x2048x13824, .bf16⟩
  | .hbm, ⟨12, _⟩ => ⟨S49152x512, .bf16⟩
  | .hbm, ⟨13, _⟩ => ⟨S49152x1024, .bf16⟩
  | .hbm, ⟨14, _⟩ => ⟨S49152x1024, .bf16⟩
  | .hbm, ⟨15, _⟩ => ⟨S4x512x2048, .bf16⟩
  | .hbm, ⟨16, _⟩ => ⟨S4x1024x2048, .bf16⟩
  | .hbm, ⟨17, _⟩ => ⟨S4x1024x2048, .bf16⟩
  | .hbm, ⟨18, _⟩ => ⟨S4x2048x2048, .bf16⟩
  | .hbm, ⟨19, _⟩ => ⟨S49152x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x512x512, .bf16⟩
  | .local _ .vmem, ⟨17, _⟩ => ⟨S1x512x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x512x2048, .bf16⟩
  | .local _ .vmem, ⟨23, _⟩ => ⟨S1x512x2048, .bf16⟩
  | .local _ .vmem, ⟨24, _⟩ => ⟨S512x2048, .f32⟩
  | .local _ .vmem, ⟨25, _⟩ => ⟨S512x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![96, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== OutReferenceIdeal.lean ====
abbrev S49152x2048 : Shape := ⟨2, ![49152, 2048]⟩
abbrev S49152x512 : Shape := ⟨2, ![49152, 512]⟩
abbrev S49152x1024 : Shape := ⟨2, ![49152, 1024]⟩
abbrev S4x2048x13824 : Shape := ⟨3, ![4, 2048, 13824]⟩
abbrev S4x512x2048 : Shape := ⟨3, ![4, 512, 2048]⟩
abbrev S4x1024x2048 : Shape := ⟨3, ![4, 1024, 2048]⟩
abbrev S4x2048x2048 : Shape := ⟨3, ![4, 2048, 2048]⟩
abbrev S1x2048x13824 : Shape := ⟨3, ![1, 2048, 13824]⟩
abbrev S2048x13824 : Shape := ⟨2, ![2048, 13824]⟩
abbrev S2048x6144 : Shape := ⟨2, ![2048, 6144]⟩
abbrev S49152x6144 : Shape := ⟨2, ![49152, 6144]⟩
abbrev S_ : Shape := ⟨0, ![]⟩
abbrev S49152x3x2048 : Shape := ⟨3, ![49152, 3, 2048]⟩
abbrev S49152x1x2048 : Shape := ⟨3, ![49152, 1, 2048]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S49152x2048, .f32⟩
  | .hbm, ⟨2, _⟩ => ⟨S49152x512, .f32⟩
  | .hbm, ⟨3, _⟩ => ⟨S49152x1024, .f32⟩
  | .hbm, ⟨4, _⟩ => ⟨S49152x1024, .f32⟩
  | .hbm, ⟨5, _⟩ => ⟨S4x2048x13824, .f32⟩
  | .hbm, ⟨6, _⟩ => ⟨S4x512x2048, .f32⟩
  | .hbm, ⟨7, _⟩ => ⟨S4x1024x2048, .f32⟩
  | .hbm, ⟨8, _⟩ => ⟨S4x1024x2048, .f32⟩
  | .hbm, ⟨9, _⟩ => ⟨S4x2048x2048, .f32⟩
  | .hbm, ⟨10, _⟩ => ⟨S1x2048x13824, .f32⟩
  | .hbm, ⟨11, _⟩ => ⟨S2048x13824, .f32⟩
  | .hbm, ⟨12, _⟩ => ⟨S2048x6144, .f32⟩
  | .hbm, ⟨13, _⟩ => ⟨S49152x6144, .f32⟩
  | .hbm, ⟨14, _⟩ => ⟨S49152x6144, .f32⟩
  | .hbm, ⟨15, _⟩ => ⟨S49152x6144, .f32⟩
  | .hbm, ⟨16, _⟩ => ⟨S_, .f32⟩
  | .hbm, ⟨17, _⟩ => ⟨S49152x6144, .f32⟩
  | .hbm, ⟨18, _⟩ => ⟨S49152x6144, .f32⟩
  | .hbm, ⟨19, _⟩ => ⟨S_, .f32⟩
  | .hbm, ⟨20, _⟩ => ⟨S49152x6144, .f32⟩
  | .hbm, ⟨21, _⟩ => ⟨S49152x6144, .f32⟩
  | .hbm, ⟨22, _⟩ => ⟨S49152x3x2048, .f32⟩
  | .hbm, ⟨23, _⟩ => ⟨S49152x1x2048, .f32⟩
  | .hbm, ⟨24, _⟩ => ⟨S49152x2048, .f32⟩
  | .hbm, ⟨25, _⟩ => ⟨S1x512x2048, .f32⟩
  | .hbm, ⟨26, _⟩ => ⟨S512x2048, .f32⟩
  | .hbm, ⟨27, _⟩ => ⟨S49152x2048, .f32⟩
  | .hbm, ⟨28, _⟩ => ⟨S49152x2048, .f32⟩
  | .hbm, ⟨29, _⟩ => ⟨S49152x1x2048, .f32⟩
  | .hbm, ⟨30, _⟩ => ⟨S49152x2048, .f32⟩
  | .hbm, ⟨31, _⟩ => ⟨S1x1024x2048, .f32⟩
  | .hbm, ⟨32, _⟩ => ⟨S1024x2048, .f32⟩
  | .hbm, ⟨33, _⟩ => ⟨S49152x2048, .f32⟩
  | .hbm, ⟨34, _⟩ => ⟨S49152x2048, .f32⟩
  | .hbm, ⟨35, _⟩ => ⟨S49152x2048, .f32⟩
  | .hbm, ⟨36, _⟩ => ⟨S49152x1x2048, .f32⟩
  | .hbm, ⟨37, _⟩ => ⟨S49152x2048, .f32⟩
  | .hbm, ⟨38, _⟩ => ⟨S1x1024x2048, .f32⟩
  | .hbm, ⟨39, _⟩ => ⟨S1024x2048, .f32⟩
  | .hbm, ⟨40, _⟩ => ⟨S49152x2048, .f32⟩
  | .hbm, ⟨41, _⟩ => ⟨S49152x2048, .f32⟩
  | .hbm, ⟨42, _⟩ => ⟨S49152x2048, .f32⟩
  | .hbm, ⟨43, _⟩ => ⟨S1x2048x2048, .f32⟩
  | .hbm, ⟨44, _⟩ => ⟨S2048x2048, .f32⟩
  | .hbm, ⟨45, _⟩ => ⟨S49152x2048, .f32⟩
  | .hbm, ⟨46, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Last.lean ====
abbrev S49152x2048 : Shape := ⟨2, ![49152, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S4x1x2048 : Shape := ⟨3, ![4, 1, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S49152x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S4x1x2048, .f32⟩
  | .hbm, ⟨6, _⟩ => ⟨S4x2048x11264, .bf16⟩
  | .hbm, ⟨7, _⟩ => ⟨S4x5632x2048, .bf16⟩
  | .hbm, ⟨8, _⟩ => ⟨S1x2048, .f32⟩
  | .hbm, ⟨9, _⟩ => ⟨S49152x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![48, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastReferenceIdeal.lean ====
abbrev S49152x2048 : Shape := ⟨2, ![49152, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S_ : Shape := ⟨0, ![]⟩
abbrev S49152 : Shape := ⟨1, ![49152]⟩
abbrev S49152x1 : Shape := ⟨2, ![49152, 1]⟩
abbrev S1x2048 : Shape := ⟨2, ![1, 2048]⟩
abbrev S1x2048x11264 : Shape := ⟨3, ![1, 2048, 11264]⟩
abbrev S2048x11264 : Shape := ⟨2, ![2048, 11264]⟩
abbrev S49152x11264 : Shape := ⟨2, ![49152, 11264]⟩
abbrev S49152x5632 : Shape := ⟨2, ![49152, 5632]⟩
abbrev S1x5632x2048 : Shape := ⟨3, ![1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S49152x2048, .f32⟩
  | .hbm, ⟨6, _⟩ => ⟨S_, .f32⟩
  | .hbm, ⟨7, _⟩ => ⟨S49152, .f32⟩
  | .hbm, ⟨8, _⟩ => ⟨S49152x1, .f32⟩
  | .hbm, ⟨9, _⟩ => ⟨S_, .f32⟩
  | .hbm, ⟨10, _⟩ => ⟨S49152x1, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S49152x1, .f32⟩
  | .hbm, ⟨16, _⟩ => ⟨S49152x2048, .f32⟩
  | .hbm, ⟨17, _⟩ => ⟨S49152x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S49152x2048, .f32⟩
  | .hbm, ⟨22, _⟩ => ⟨S49152x2048, .f32⟩
  | .hbm, ⟨23, _⟩ => ⟨S1x2048x11264, .f32⟩
  | .hbm, ⟨24, _⟩ => ⟨S2048x11264, .f32⟩
  | .hbm, ⟨25, _⟩ => ⟨S49152x11264, .f32⟩
  | .hbm, ⟨26, _⟩ => ⟨S49152x5632, .f32⟩
  | .hbm, ⟨27, _⟩ => ⟨S49152x5632, .f32⟩
  | .hbm, ⟨28, _⟩ => ⟨S49152x5632, .f32⟩
  | .hbm, ⟨29, _⟩ => ⟨S49152x5632, .f32⟩
  | .hbm, ⟨30, _⟩ => ⟨S_, .f32⟩
  | .hbm, ⟨31, _⟩ => ⟨S49152x5632, .f32⟩
  | .hbm, ⟨32, _⟩ => ⟨S49152x5632, .f32⟩
  | .hbm, ⟨33, _⟩ => ⟨S_, .f32⟩
  | .hbm, ⟨34, _⟩ => ⟨S49152x5632, .f32⟩
  | .hbm, ⟨35, _⟩ => ⟨S49152x5632, .f32⟩
  | .hbm, ⟨36, _⟩ => ⟨S49152x5632, .f32⟩
  | .hbm, ⟨37, _⟩ => ⟨S49152x5632, .f32⟩
  | .hbm, ⟨38, _⟩ => ⟨S1x5632x2048, .f32⟩
  | .hbm, ⟨39, _⟩ => ⟨S5632x2048, .f32⟩
  | .hbm, ⟨40, _⟩ => ⟨S49152x2048, .f32⟩
  | .hbm, ⟨41, _⟩ => ⟨S_, .f32⟩
  | .hbm, ⟨42, _⟩ => ⟨S49152x2048, .f32⟩
  | .hbm, ⟨43, _⟩ => ⟨S49152x2048, .f32⟩
  | .hbm, ⟨44, _⟩ => ⟨S49152x2048, .f32⟩
  | .hbm, ⟨45, _⟩ => ⟨S49152x2048, .f32⟩
  | .hbm, ⟨46, _⟩ => ⟨S_, .f32⟩
  | .hbm, ⟨47, _⟩ => ⟨S49152, .f32⟩
  | .hbm, ⟨48, _⟩ => ⟨S49152x1, .f32⟩
  | .hbm, ⟨49, _⟩ => ⟨S_, .f32⟩
  | .hbm, ⟨50, _⟩ => ⟨S49152x1, .f32⟩
  | .hbm, ⟨51, _⟩ => ⟨S49152x1, .f32⟩
  | .hbm, ⟨52, _⟩ => ⟨S_, .f32⟩
  | .hbm, ⟨53, _⟩ => ⟨S49152x1, .f32⟩
  | .hbm, ⟨54, _⟩ => ⟨S49152x1, .f32⟩
  | .hbm, ⟨55, _⟩ => ⟨S49152x1, .f32⟩
  | .hbm, ⟨56, _⟩ => ⟨S49152x2048, .f32⟩
  | .hbm, ⟨57, _⟩ => ⟨S49152x2048, .f32⟩
  | .hbm, ⟨58, _⟩ => ⟨S1x2048, .f32⟩
  | .hbm, ⟨59, _⟩ => ⟨S49152x2048, .f32⟩
  | .hbm, ⟨60, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Merge.lean ====
abbrev S3x16384x512 : Shape := ⟨3, ![3, 16384, 512]⟩
abbrev S12x4096x512 : Shape := ⟨3, ![12, 4096, 512]⟩
abbrev S48x1024x512 : Shape := ⟨3, ![48, 1024, 512]⟩
abbrev S3x16384x128 : Shape := ⟨3, ![3, 16384, 128]⟩
abbrev S12x4096x128 : Shape := ⟨3, ![12, 4096, 128]⟩
abbrev S48x1024x128 : Shape := ⟨3, ![48, 1024, 128]⟩
abbrev S49152x512 : Shape := ⟨2, ![49152, 512]⟩
abbrev S3x4x4096x512 : Shape := ⟨4, ![3, 4, 4096, 512]⟩
abbrev S3x16x1024x512 : Shape := ⟨4, ![3, 16, 1024, 512]⟩
abbrev S49152x128 : Shape := ⟨2, ![49152, 128]⟩
abbrev S3x4x4096x128 : Shape := ⟨4, ![3, 4, 4096, 128]⟩
abbrev S3x16x1024x128 : Shape := ⟨4, ![3, 16, 1024, 128]⟩
abbrev S1024x512 : Shape := ⟨2, ![1024, 512]⟩
abbrev S1x4x256x512 : Shape := ⟨4, ![1, 4, 256, 512]⟩
abbrev S1x16x64x512 : Shape := ⟨4, ![1, 16, 64, 512]⟩
abbrev S1024x128 : Shape := ⟨2, ![1024, 128]⟩
abbrev S1x4x256x128 : Shape := ⟨4, ![1, 4, 256, 128]⟩
abbrev S1x16x64x128 : Shape := ⟨4, ![1, 16, 64, 128]⟩
abbrev S4x1024x128 : Shape := ⟨3, ![4, 1024, 128]⟩
abbrev S1x1024x128 : Shape := ⟨3, ![1, 1024, 128]⟩
abbrev S1x1x256x128 : Shape := ⟨4, ![1, 1, 256, 128]⟩
abbrev S256x128 : Shape := ⟨2, ![256, 128]⟩
abbrev S1x256x128 : Shape := ⟨3, ![1, 256, 128]⟩
abbrev S1x1x64x128 : Shape := ⟨4, ![1, 1, 64, 128]⟩
abbrev S64x128 : Shape := ⟨2, ![64, 128]⟩
abbrev S1x64x128 : Shape := ⟨3, ![1, 64, 128]⟩
abbrev S1024x1 : Shape := ⟨2, ![1024, 1]⟩

abbrev nBuf : Space → Nat
  | .hbm => 13
  | .vmem => 18
  | .smem => 0
  | _ => 0

abbrev bufTy : (tb : Table) → Fin (tcTables nBuf tb) → BufTy
  | .hbm, ⟨0, _⟩ => ⟨S3x16384x512, .f32⟩
  | .hbm, ⟨1, _⟩ => ⟨S12x4096x512, .f32⟩
  | .hbm, ⟨2, _⟩ => ⟨S48x1024x512, .f32⟩
  | .hbm, ⟨3, _⟩ => ⟨S3x16384x128, .f32⟩
  | .hbm, ⟨4, _⟩ => ⟨S12x4096x128, .f32⟩
  | .hbm, ⟨5, _⟩ => ⟨S48x1024x128, .f32⟩
  | .hbm, ⟨6, _⟩ => ⟨S49152x512, .f32⟩
  | .hbm, ⟨7, _⟩ => ⟨S3x4x4096x512, .f32⟩
  | .hbm, ⟨8, _⟩ => ⟨S3x16x1024x512, .f32⟩
  | .hbm, ⟨9, _⟩ => ⟨S49152x128, .f32⟩
  | .hbm, ⟨10, _⟩ => ⟨S3x4x4096x128, .f32⟩
  | .hbm, ⟨11, _⟩ => ⟨S3x16x1024x128, .f32⟩
  | .hbm, ⟨12, _⟩ => ⟨S49152x512, .bf16⟩
  | .local _ .vmem, ⟨0, _⟩ => ⟨S1024x512, .f32⟩
  | .local _ .vmem, ⟨1, _⟩ => ⟨S1024x512, .f32⟩
  | .local _ .vmem, ⟨2, _⟩ => ⟨S1x4x256x512, .f32⟩
  | .local _ .vmem, ⟨3, _⟩ => ⟨S1x4x256x512, .f32⟩
  | .local _ .vmem, ⟨4, _⟩ => ⟨S1x16x64x512, .f32⟩
  | .local _ .vmem, ⟨5, _⟩ => ⟨S1x16x64x512, .f32⟩
  | .local _ .vmem, ⟨6, _⟩ => ⟨S1024x128, .f32⟩
  | .local _ .vmem, ⟨7, _⟩ => ⟨S1024x128, .f32⟩
  | .local _ .vmem, ⟨8, _⟩ => ⟨S1x4x256x128, .f32⟩
  | .local _ .vmem, ⟨9, _⟩ => ⟨S1x4x256x128, .f32⟩
  | .local _ .vmem, ⟨10, _⟩ => ⟨S1x16x64x128, .f32⟩
  | .local _ .vmem, ⟨11, _⟩ => ⟨S1x16x64x128, .f32⟩
  | .local _ .vmem, ⟨12, _⟩ => ⟨S1024x512, .bf16⟩
  | .local _ .vmem, ⟨13, _⟩ => ⟨S1024x512, .bf16⟩
  | .local _ .vmem, ⟨14, _⟩ => ⟨S4x1024x128, .f32⟩
  | .local _ .vmem, ⟨15, _⟩ => ⟨S4x1024x128, .f32⟩
  | .local _ .vmem, ⟨16, _⟩ => ⟨S1x1024x128, .f32⟩
  | .local _ .vmem, ⟨17, _⟩ => ⟨S1x1024x128, .f32⟩
  | _, _ => ⟨S3x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S3x16384x512 : Shape := ⟨3, ![3, 16384, 512]⟩
abbrev S12x4096x512 : Shape := ⟨3, ![12, 4096, 512]⟩
abbrev S48x1024x512 : Shape := ⟨3, ![48, 1024, 512]⟩
abbrev S3x16384x128 : Shape := ⟨3, ![3, 16384, 128]⟩
abbrev S12x4096x128 : Shape := ⟨3, ![12, 4096, 128]⟩
abbrev S48x1024x128 : Shape := ⟨3, ![48, 1024, 128]⟩
abbrev S_ : Shape := ⟨0, ![]⟩
abbrev S3x1x16384x512 : Shape := ⟨4, ![3, 1, 16384, 512]⟩
abbrev S3x16384x1x512 : Shape := ⟨4, ![3, 16384, 1, 512]⟩
abbrev S3x16384x4x128 : Shape := ⟨4, ![3, 16384, 4, 128]⟩
abbrev S3x4x4096x512 : Shape := ⟨4, ![3, 4, 4096, 512]⟩
abbrev S3x4096x4x512 : Shape := ⟨4, ![3, 4096, 4, 512]⟩
abbrev S3x16x1024x512 : Shape := ⟨4, ![3, 16, 1024, 512]⟩
abbrev S3x1024x16x512 : Shape := ⟨4, ![3, 1024, 16, 512]⟩
abbrev S3x1x16384x128 : Shape := ⟨4, ![3, 1, 16384, 128]⟩
abbrev S3x16384x1x128 : Shape := ⟨4, ![3, 16384, 1, 128]⟩
abbrev S3x16384x4 : Shape := ⟨3, ![3, 16384, 4]⟩
abbrev S3x4x4096x128 : Shape := ⟨4, ![3, 4, 4096, 128]⟩
abbrev S3x4096x4x128 : Shape := ⟨4, ![3, 4096, 4, 128]⟩
abbrev S3x16x1024x128 : Shape := ⟨4, ![3, 16, 1024, 128]⟩
abbrev S3x1024x16x128 : Shape := ⟨4, ![3, 1024, 16, 128]⟩
abbrev S1x3x16384x4 : Shape := ⟨4, ![1, 3, 16384, 4]⟩
abbrev S3x3x16384x4 : Shape := ⟨4, ![3, 3, 16384, 4]⟩
abbrev S3x3x16384x4x1 : Shape := ⟨5, ![3, 3, 16384, 4, 1]⟩
abbrev S1x3x16384x4x128 : Shape := ⟨5, ![1, 3, 16384, 4, 128]⟩
abbrev S3x3x16384x4x128 : Shape := ⟨5, ![3, 3, 16384, 4, 128]⟩
abbrev S49152x512 : Shape := ⟨2, ![49152, 512]⟩

abbrev nBuf : Space → Nat
  | .hbm => 67
  | .vmem => 0
  | .smem => 0
  | _ => 0

abbrev bufTy : (tb : Table) → Fin (tcTables nBuf tb) → BufTy
  | .hbm, ⟨0, _⟩ => ⟨S3x16384x512, .f32⟩
  | .hbm, ⟨1, _⟩ => ⟨S12x4096x512, .f32⟩
  | .hbm, ⟨2, _⟩ => ⟨S48x1024x512, .f32⟩
  | .hbm, ⟨3, _⟩ => ⟨S3x16384x128, .f32⟩
  | .hbm, ⟨4, _⟩ => ⟨S12x4096x128, .f32⟩
  | .hbm, ⟨5, _⟩ => ⟨S48x1024x128, .f32⟩
  | .hbm, ⟨6, _⟩ => ⟨S_, .f32⟩
  | .hbm, ⟨7, _⟩ => ⟨S_, .f32⟩
  | .hbm, ⟨8, _⟩ => ⟨S3x1x16384x512, .f32⟩
  | .hbm, ⟨9, _⟩ => ⟨S3x16384x1x512, .f32⟩
  | .hbm, ⟨10, _⟩ => ⟨S3x16384x512, .f32⟩
  | .hbm, ⟨11, _⟩ => ⟨S3x16384x4x128, .f32⟩
  | .hbm, ⟨12, _⟩ => ⟨S3x4x4096x512, .f32⟩
  | .hbm, ⟨13, _⟩ => ⟨S3x4096x4x512, .f32⟩
  | .hbm, ⟨14, _⟩ => ⟨S3x16384x512, .f32⟩
  | .hbm, ⟨15, _⟩ => ⟨S3x16384x4x128, .f32⟩
  | .hbm, ⟨16, _⟩ => ⟨S3x16x1024x512, .f32⟩
  | .hbm, ⟨17, _⟩ => ⟨S3x1024x16x512, .f32⟩
  | .hbm, ⟨18, _⟩ => ⟨S3x16384x512, .f32⟩
  | .hbm, ⟨19, _⟩ => ⟨S3x16384x4x128, .f32⟩
  | .hbm, ⟨20, _⟩ => ⟨S3x1x16384x128, .f32⟩
  | .hbm, ⟨21, _⟩ => ⟨S3x16384x1x128, .f32⟩
  | .hbm, ⟨22, _⟩ => ⟨S3x16384x128, .f32⟩
  | .hbm, ⟨23, _⟩ => ⟨S3x16384x4, .f32⟩
  | .hbm, ⟨24, _⟩ => ⟨S3x16384x4, .f32⟩
  | .hbm, ⟨25, _⟩ => ⟨S3x16384x4, .f32⟩
  | .hbm, ⟨26, _⟩ => ⟨S3x4x4096x128, .f32⟩
  | .hbm, ⟨27, _⟩ => ⟨S3x4096x4x128, .f32⟩
  | .hbm, ⟨28, _⟩ => ⟨S3x16384x128, .f32⟩
  | .hbm, ⟨29, _⟩ => ⟨S3x16384x4, .f32⟩
  | .hbm, ⟨30, _⟩ => ⟨S3x16384x4, .f32⟩
  | .hbm, ⟨31, _⟩ => ⟨S3x16384x4, .f32⟩
  | .hbm, ⟨32, _⟩ => ⟨S3x16x1024x128, .f32⟩
  | .hbm, ⟨33, _⟩ => ⟨S3x1024x16x128, .f32⟩
  | .hbm, ⟨34, _⟩ => ⟨S3x16384x128, .f32⟩
  | .hbm, ⟨35, _⟩ => ⟨S3x16384x4, .f32⟩
  | .hbm, ⟨36, _⟩ => ⟨S3x16384x4, .f32⟩
  | .hbm, ⟨37, _⟩ => ⟨S3x16384x4, .f32⟩
  | .hbm, ⟨38, _⟩ => ⟨S1x3x16384x4, .f32⟩
  | .hbm, ⟨39, _⟩ => ⟨S1x3x16384x4, .f32⟩
  | .hbm, ⟨40, _⟩ => ⟨S1x3x16384x4, .f32⟩
  | .hbm, ⟨41, _⟩ => ⟨S3x3x16384x4, .f32⟩
  | .hbm, ⟨42, _⟩ => ⟨S_, .f32⟩
  | .hbm, ⟨43, _⟩ => ⟨S3x16384x4, .f32⟩
  | .hbm, ⟨44, _⟩ => ⟨S_, .f32⟩
  | .hbm, ⟨45, _⟩ => ⟨S3x16384x4, .f32⟩
  | .hbm, ⟨46, _⟩ => ⟨S3x16384x4, .f32⟩
  | .hbm, ⟨47, _⟩ => ⟨S1x3x16384x4, .f32⟩
  | .hbm, ⟨48, _⟩ => ⟨S3x3x16384x4, .f32⟩
  | .hbm, ⟨49, _⟩ => ⟨S3x3x16384x4, .f32⟩
  | .hbm, ⟨50, _⟩ => ⟨S3x3x16384x4, .f32⟩
  | .hbm, ⟨51, _⟩ => ⟨S_, .f32⟩
  | .hbm, ⟨52, _⟩ => ⟨S3x16384x4, .f32⟩
  | .hbm, ⟨53, _⟩ => ⟨S1x3x16384x4, .f32⟩
  | .hbm, ⟨54, _⟩ => ⟨S3x3x16384x4, .f32⟩
  | .hbm, ⟨55, _⟩ => ⟨S3x3x16384x4, .f32⟩
  | .hbm, ⟨56, _⟩ => ⟨S3x3x16384x4x1, .f32⟩
  | .hbm, ⟨57, _⟩ => ⟨S1x3x16384x4x128, .f32⟩
  | .hbm, ⟨58, _⟩ => ⟨S1x3x16384x4x128, .f32⟩
  | .hbm, ⟨59, _⟩ => ⟨S1x3x16384x4x128, .f32⟩
  | .hbm, ⟨60, _⟩ => ⟨S3x3x16384x4x128, .f32⟩
  | .hbm, ⟨61, _⟩ => ⟨S3x3x16384x4x128, .f32⟩
  | .hbm, ⟨62, _⟩ => ⟨S3x3x16384x4x128, .f32⟩
  | .hbm, ⟨63, _⟩ => ⟨S_, .f32⟩
  | .hbm, ⟨64, _⟩ => ⟨S3x16384x4x128, .f32⟩
  | .hbm, ⟨65, _⟩ => ⟨S49152x512, .f32⟩
  | .hbm, ⟨66, _⟩ => ⟨S49152x512, .bf16⟩
  | _, _ => ⟨S3x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Proof.DenseFrameIdeal.lean ====
module

public import proofs.«01_k».proof.Proof.Gen.KernelIdeal.Frame
public import proofs.«01_k».proof.Proof.Gen.KernelIdeal.Loops

@[expose] public section

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run -/

set_option maxHeartbeats 4000000 in
/-- The attention body at any point, on any staging buffers: it runs to its end and gives back the three
    inputs unchanged, and the output and the five scratch buffers at some contents. -/
theorem kernelRun (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x2048x512 .bf16) (harg6 : arg6.IsWhole) (arg7 : Memref sig .tc .vmem S128x8192 .bf16) (harg7 : arg7.IsWhole) (arg8 : Memref sig .tc .vmem S2x128x8192 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S128x8192 .f32) (harg11 : arg11.IsWhole)
    (x0 : Vec F S1x2048x512 .bf16) (x1 : Vec F S1x16384x128 .bf16) (x2 : Vec F S1x16384x128 .bf16) (E : Set ℕ) (Q : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)) -∗ Q ⟨⟩))
      ⊢ wp frame (wpE (defs₀ (F := F)) Variants.none c none) E (cc0_dense_attn i arg3 harg3 arg4 harg4 arg5 harg5 arg6 harg6 arg7 harg7 arg8 harg8 arg9 harg9 arg10 harg10 arg11 harg11) Q := by
  simp only [cc0_dense_attn_eq_skeleton]; unfold cc0_dense_attn_skel
  unfold owns
  iintro ⟨⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, Hk⟩
  obtain rfl := harg3.eq_unread hf3; obtain rfl := harg4.eq_unread hf4; obtain rfl := harg5.eq_unread hf5
  sl_exec
  refine Classical.byCases (p := kernelRun.sl.v80 c i arg3 harg3 arg4 harg4 arg5 harg5 arg6 harg6 arg7 harg7 arg8 harg8 arg9 harg9 arg10 harg10 arg11 harg11 x0 x1 x2 = 1#1) (fun hB => ?_) (fun hB => ?_)
  · rw [if_pos hB]
    sl_exec
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; iexists _; isplitr
      swap
      · iexact H6
      ipureintro; rfl
    isplitl [H7]
    · iexists _; iexists _; isplitr
      swap
      · iexact H7
      ipureintro; rfl
    isplitl [H8]
    · iexists _; iexists _; isplitr
      swap
      · iexact H8
      ipureintro; rfl
    isplitl [H9]
    · iexists _; iexists _; isplitr
      swap
      · iexact H9
      ipureintro; rfl
    isplitl [H10]
    · iexists _; iexists _; isplitr
      swap
      · iexact H10
      ipureintro; rfl
    iexists _; iexists _; isplitr
    swap
    · iexact H11
    ipureintro; rfl
  · rw [if_neg hB]
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; iexists _; isplitr
      swap
      · iexact H6
      ipureintro; rfl
    isplitl [H7]
    · iexists _; iexists _; isplitr
      swap
      · iexact H7
      ipureintro; rfl
    isplitl [H8]
    · iexists _; iexists _; isplitr
      swap
      · iexact H8
      ipureintro; rfl
    isplitl [H9]
    · iexists _; iexists _; isplitr
      swap
      · iexact H9
      ipureintro; rfl
    isplitl [H10]
    · iexists _; iexists _; isplitr
      swap
      · iexact H10
      ipureintro; rfl
    iexists _; iexists _; isplitr
    swap
    · iexact H11
    ipureintro; rfl

/-! ## What the launch and the proof data say of the buffers -/

section
variable (m : (ℓ : Loc nD τ sig) → Buf (Elt F) ℓ) (ρ : Dev nD → PrngReg)

/-- A window's current staging buffer at a point, and that it is a whole buffer. -/
abbrev ms0 (t : Fin cfg0.N) : Memref sig .tc .vmem S1x2048x512 .bf16 := win0_0.stage (cfg0.slots t 0)
abbrev ms1 (t : Fin cfg0.N) : Memref sig .tc .vmem S1x16384x128 .bf16 := win0_1.stage (cfg0.slots t 1)
abbrev ms2 (t : Fin cfg0.N) : Memref sig .tc .vmem S1x16384x128 .bf16 := win0_2.stage (cfg0.slots t 2)
abbrev ms3 (t : Fin cfg0.N) : Memref sig .tc .vmem S1x2048x512 .bf16 := win0_3.stage (cfg0.slots t 3)
theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)

/-- No input window is ever idle. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl

/-- The five scratch buffers of the launch. -/
abbrev sc0 : Memref sig .tc .vmem S128x8192 .bf16 := Memref.whole cc0_scratch0
abbrev sc1 : Memref sig .tc .vmem S2x128x8192 .f32 := Memref.whole cc0_scratch1
abbrev sc2 : Memref sig .tc .vmem S1x8192 .f32 := Memref.whole cc0_scratch2
abbrev sc3 : Memref sig .tc .vmem S1x8192 .f32 := Memref.whole cc0_scratch3
abbrev sc4 : Memref sig .tc .vmem S128x8192 .f32 := Memref.whole cc0_scratch4

/-- What the region hands the body and takes back: the five scratch buffers and the generator register. -/
theorem PhiA0_eq (c : Dev nD) : (Pipeline.ΦA spec0 c : sProp 𝕄) =
    iprop(((∃ d, owns (c : Thread nD τ) sc0 fullShare d) ∗ (∃ d, owns (c : Thread nD τ) sc1 fullShare d) ∗ (∃ d, owns (c : Thread nD τ) sc2 fullShare d)
      ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The output window is not named. -/
def forgets0 : Fin 4 → Bool := fun w => w.val == 3

/-- The proof data: each input keeps its block, the output is left at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

/-- Each input's staging buffer holds its block when the body is called. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## One grid point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms3 t) fullShare d))

set_option maxHeartbeats 800000 in
/-- The body's triple at a point, from the run on any buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  iintro ⟨⟨⟨S0, S1, S2, S3, S4⟩, Hg⟩, Ho, ⟨%d0, H0⟩, ⟨%d1, H1⟩, ⟨%d2, H2⟩, ⟨%d3, H3⟩⟩
  iapply (kernelRun c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  iintro ⟨H0, H1, H2, H3, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  iexact H3

/-- The body table's row at a point is the body on that point's buffers. -/
theorem defs₀_row (t : Fin cfg0.N) :
    defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every fair run of the program ends, with the pipeline's arrays as the proof data says and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: every fair run ends with the three argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main_quiescent m ρ)

end

end Cert.KernelIdeal.Dense

end
-- ==== Proof.FfnValue.lean ====
module

public import proofs.«01_k».proof.Proof.Gen.FfnIdeal.Value
public import Idealize.ShloMosaic.Lib.Pipeline.ValueKit

@[expose] public section

set_option maxRecDepth 16384

noncomputable section

namespace Cert.FfnIdeal.Half

open Cert.FfnIdeal Cert.FfnIdeal.Gen
open Idealize.ShloMosaic Idealize.ShloMosaic.TcCoe Idealize.SL.Sem
open Idealize.ShloMosaic.Pipeline (Dat)

/-! ## The half-step, written plainly -/

section
variable (X : FVec Ideal S49152x2048 .f32) (N : FVec Ideal S4x2048 .f32) (W : FVec Ideal S4x2048x11264 .f32) (O : FVec Ideal S4x5632x2048 .f32)

/-- Row `r` of the input, normalised by its root mean square and scaled by the gain. -/
def un (r : Fin 49152) (k : Fin 2048) : EReal :=
  X (ix2 r k) * Ideal.rsqrt (Ideal.div (∑ x : Fin 2048, X (ix2 r x) * X (ix2 r x)) (Ideal.ofBits FTy.f32 1157627904#32) + Ideal.ofBits FTy.f32 897988541#32)
    * N (ix2 0 k)

/-- Column `h` of the input projection of row `r`. -/
def hid (r : Fin 49152) (h : Fin 11264) : EReal := ∑ k : Fin 2048, un X N r k * W (ix3 0 k h)

/-- Half of the gated hidden unit `h` of row `r`. -/
def act (r : Fin 49152) (h : Fin 5632) : EReal :=
  (Ideal.ofBits FTy.f32 1056964608#32 * hid X N W r ⟨h.val, by omega⟩) * Ideal.logistic (hid X N W r ⟨h.val, by omega⟩)
    * hid X N W r ⟨5632 + h.val, by omega⟩

/-- What hidden units `512 s … 512 s + 511` add to entry `d` of row `r`. -/
def part (r : Fin 49152) (d : Fin 2048) (s : ℕ) : EReal :=
  if hs : s < 11 then ∑ k : Fin 512, act X N W r ⟨512 * s + k.val, by omega⟩ * O (ix3 0 ⟨512 * s + k.val, by omega⟩ d) else 0
end

/-! ## The kernel's payloads at an index -/

theorem pay2_at (v6 : Vec Ideal S1024x2048 .f32) (v8 : Vec Ideal S1024x2048 .bf16) (v9 v12 : Vec Ideal S1x2048x512 .bf16)
    (v21 : Vec Ideal S1x512x2048 .bf16) (j : S1024x2048.Idx) :
    k0_pay2 (F := Ideal) v6 v8 v9 v12 v21 j = v6 j + ∑ x : Fin 512,
        ((Ideal.ofBits FTy.f32 1056964608#32 * ∑ l : Fin 2048, v8 (ix2 (j 0) l) * v9 (ix3 0 l x)) *
              Ideal.logistic (∑ l : Fin 2048, v8 (ix2 (j 0) l) * v9 (ix3 0 l x)) *
            ∑ l : Fin 2048, v8 (ix2 (j 0) l) * v12 (ix3 0 l x)) *
          v21 (ix3 0 x (j 1)) := by
  pointwise [k0_pay2]

/-! ## The blocks as parts of the arguments -/

section
variable (m : (ℓ : Loc nD τ sig) → Buf (Elt Ideal) ℓ) (c : Dev nD)

/-- The four arguments. -/
abbrev aX : FVec Ideal S49152x2048 .f32 := m ((c : Thread nD τ).loc main_arg0)
abbrev aN : FVec Ideal S4x2048 .f32 := m ((c : Thread nD τ).loc main_arg1)
abbrev aW : FVec Ideal S4x2048x11264 .f32 := m ((c : Thread nD τ).loc main_arg2)
abbrev aO : FVec Ideal S4x5632x2048 .f32 := m ((c : Thread nD τ).loc main_arg3)

/-- Which block each window shows at a point. -/
theorem idx : ∀ t : Fin cfg0.N, win0_0.index t = ![t.val / 11, 0] ∧ win0_1.index t = ![0, 0, 0] ∧ win0_2.index t = ![0, 0, t.val % 11]
    ∧ win0_3.index t = ![0, 0, 11 + t.val % 11] ∧ win0_4.index t = ![0, t.val % 11, 0] ∧ win0_5.index t = ![t.val / 11, 0] ∧ t.val / 11 < 48 :=
  (by decide +kernel : ∀ t : Fin grid0.N, _)

theorem blk0 (t : Fin cfg0.N) (y : S1024x2048.Idx) (r : Fin 49152) (hr : r.val = 1024 * (t.val / 11) + (y 0).val) :
    iblk (F := Ideal) m c 0 t y = aX m c (ix2 r (y 1)) := by
  blk_point [iblk, V, idx t]

theorem blk1 (t : Fin cfg0.N) (y : S1x1x2048.Idx) :
    iblk (F := Ideal) m c 1 t y = aN m c (ix2 0 (y 2)) := by
  blk_point [iblk, V, idx t]

theorem blk2 (t : Fin cfg0.N) (y : S1x2048x512.Idx) (h : Fin 11264) (hh : h.val = 512 * (t.val % 11) + (y 2).val) :
    iblk (F := Ideal) m c 2 t y = aW m c (ix3 0 (y 1) h) := by
  blk_point [iblk, V, idx t]

theorem blk3 (t : Fin cfg0.N) (y : S1x2048x512.Idx) (h : Fin 11264) (hh : h.val = 5632 + (512 * (t.val % 11) + (y 2).val)) :
    iblk (F := Ideal) m c 3 t y = aW m c (ix3 0 (y 1) h) := by
  blk_point [iblk, V, idx t]

theorem blk4 (t : Fin cfg0.N) (y : S1x512x2048.Idx) (h : Fin 5632) (hh : h.val = 512 * (t.val % 11) + (y 1).val) :
    iblk (F := Ideal) m c 4 t y = aO m c (ix3 0 h (y 2)) := by
  blk_point [iblk, V, idx t]

/-! ## One point of the sweep -/

/-- Over a normalised block and this point's blocks of the weights, the inner sum is this point's part. -/
theorem part_at (t : Fin cfg0.N) (xn : Fin 2048 → EReal) (r : Fin 49152) (d : Fin 2048) (hxn : ∀ k, xn k = un (aX m c) (aN m c) r k) :
    (∑ x : Fin 512,
        ((Ideal.ofBits FTy.f32 1056964608#32 * ∑ l : Fin 2048, xn l * iblk (F := Ideal) m c 2 t (ix3 0 l x)) *
              Ideal.logistic (∑ l : Fin 2048, xn l * iblk (F := Ideal) m c 2 t (ix3 0 l x)) *
            ∑ l : Fin 2048, xn l * iblk (F := Ideal) m c 3 t (ix3 0 l x)) *
          iblk (F := Ideal) m c 4 t (ix3 0 x d) : EReal) = part (aX m c) (aN m c) (aW m c) (aO m c) r d (t.val % 11) := by
  have ht : t.val % 11 < 11 := Nat.mod_lt _ (by omega)
  rw [part, dif_pos ht]
  refine Finset.sum_congr rfl fun x _ => ?_
  have e2 : ∀ l : Fin 2048, (iblk (F := Ideal) m c 2 t (ix3 0 l x) : EReal) = aW m c (ix3 0 l ⟨512 * (t.val % 11) + x.val, by omega⟩) :=
    fun l => blk2 m c t (ix3 0 l x) _ rfl
  have e3 : ∀ l : Fin 2048, (iblk (F := Ideal) m c 3 t (ix3 0 l x) : EReal) = aW m c (ix3 0 l ⟨5632 + (512 * (t.val % 11) + x.val), by omega⟩) :=
    fun l => blk3 m c t (ix3 0 l x) _ rfl
  have e4 : (iblk (F := Ideal) m c 4 t (ix3 0 x d) : EReal) = aO m c (ix3 0 ⟨512 * (t.val % 11) + x.val, by omega⟩ d) :=
    blk4 m c t (ix3 0 x d) _ rfl
  unfold act hid
  simp only [e2, e3, e4, hxn]

/-- At the first point of a row block: the input's rows plus the first part, -/
theorem outA (t : Fin cfg0.N) (h0 : t.val % 11 = 0) (h1 : ¬ 1 ≤ t.val % 11) (y : S1024x2048.Idx) (r : Fin 49152) (d : Fin 2048)
    (hr : r.val = 1024 * (t.val / 11) + (y 0).val) (hd : d.val = (y 1).val) :
    (outsAt0 (F := Ideal) m c t.val t.isLt).1 y = aX m c (ix2 r d) + part (aX m c) (aN m c) (aW m c) (aO m c) r d (t.val % 11) := by
  rw [← part_at m c t (fun k => un (aX m c) (aN m c) r k) r d (fun _ => rfl)]
  rw [outsAt0_A m c t h0 h1]; frame_out
  canon_tiles x h
  all_goals (open_payloads; pointwise [un]; blk_point [iblk, V, idx t])

/-- and the normalised rows in the scratch. -/
theorem outA2 (t : Fin cfg0.N) (h0 : t.val % 11 = 0) (h1 : ¬ 1 ≤ t.val % 11) (y : S1024x2048.Idx) (r : Fin 49152) (d : Fin 2048)
    (hr : r.val = 1024 * (t.val / 11) + (y 0).val) (hd : d.val = (y 1).val) :
    (outsAt0 (F := Ideal) m c t.val t.isLt).2 y = un (aX m c) (aN m c) r d := by
  rw [outsAt0_A m c t h0 h1]; frame_out
  canon_tiles x h
  all_goals (open_payloads; pointwise [un]; blk_point [iblk, V, idx t])

/-- At a later point the scratch is kept, -/
theorem outB2 (t : Fin cfg0.N) (h0 : ¬ t.val % 11 = 0) (h1 : 1 ≤ t.val % 11) :
    (outsAt0 (F := Ideal) m c t.val t.isLt).2 = (outsAt0 (F := Ideal) m c (t.val - 1) (Nat.lt_of_le_of_lt (Nat.sub_le _ _) t.isLt)).2 := by
  rw [outsAt0_B m c t h0 h1]; rfl

/-- and the output gains the point's part. -/
theorem outB (t : Fin cfg0.N) (h0 : ¬ t.val % 11 = 0) (h1 : 1 ≤ t.val % 11) (y : S1024x2048.Idx) (r : Fin 49152) (d : Fin 2048) (hd : d = y 1)
    (hx : ∀ l : Fin 2048, (outsAt0 (F := Ideal) m c (t.val - 1) (Nat.lt_of_le_of_lt (Nat.sub_le _ _) t.isLt)).2 (ix2 (y 0) l) = un (aX m c) (aN m c) r l) :
    (outsAt0 (F := Ideal) m c t.val t.isLt).1 y = (outsAt0 (F := Ideal) m c (t.val - 1) (Nat.lt_of_le_of_lt (Nat.sub_le _ _) t.isLt)).1 y
      + part (aX m c) (aN m c) (aW m c) (aO m c) r d (t.val % 11) := by
  rw [outsAt0_B m c t h0 h1]; frame_out
  rw [pay2_at, ← part_at m c t (fun l => (outsAt0 (F := Ideal) m c (t.val - 1) (Nat.lt_of_le_of_lt (Nat.sub_le _ _) t.isLt)).2 (ix2 (y 0) l)) r d hx, hd]
  simp only [(Memref.isWhole_whole cc0_scratch0).read_unread]

/-- Every point of the sweep: the scratch holds the normalised rows, the output the input plus the parts so far. -/
theorem sweep (n : ℕ) (hn : n < cfg0.N) :
    (∀ (y : S1024x2048.Idx) (r : Fin 49152) (d : Fin 2048), r.val = 1024 * (n / 11) + (y 0).val → d.val = (y 1).val →
      (outsAt0 (F := Ideal) m c n hn).2 y = un (aX m c) (aN m c) r d)
    ∧ ∀ (y : S1024x2048.Idx) (r : Fin 49152) (d : Fin 2048), r.val = 1024 * (n / 11) + (y 0).val → d.val = (y 1).val →
      (outsAt0 (F := Ideal) m c n hn).1 y = aX m c (ix2 r d) + ∑ s ∈ Finset.range (n % 11 + 1), part (aX m c) (aN m c) (aW m c) (aO m c) r d s := by
  induction n with
  | zero =>
    refine ⟨fun y r d hr hd => outA2 m c ⟨0, hn⟩ rfl (by show ¬ 1 ≤ 0 % 11; omega) y r d hr hd, fun y r d hr hd => ?_⟩
    refine (outA m c ⟨0, hn⟩ rfl (by show ¬ 1 ≤ 0 % 11; omega) y r d hr hd).trans ?_
    simp
  | succ n ih =>
    by_cases h0 : (n + 1) % 11 = 0
    · refine ⟨fun y r d hr hd => outA2 m c ⟨n + 1, hn⟩ h0 (by show ¬ 1 ≤ (n + 1) % 11; omega) y r d hr hd, fun y r d hr hd => ?_⟩
      refine (outA m c ⟨n + 1, hn⟩ h0 (by show ¬ 1 ≤ (n + 1) % 11; omega) y r d hr hd).trans ?_
      simp only [h0, zero_add, Finset.sum_range_one]
    · have h1 : 1 ≤ (n + 1) % 11 := by omega
      have hq : (n + 1) / 11 = n / 11 := by omega
      have hm : (n + 1) % 11 = n % 11 + 1 := by omega
      obtain ⟨i2, i1⟩ := ih (Nat.lt_of_succ_lt hn)
      refine ⟨fun y r d hr hd => ?_, fun y r d hr hd => ?_⟩
      · rw [hq] at hr
        exact (congrFun (outB2 m c ⟨n + 1, hn⟩ h0 h1) y).trans (i2 y r d hr hd)
      · rw [hq] at hr
        refine (outB m c ⟨n + 1, hn⟩ h0 h1 y r d (Fin.ext hd) (fun l => i2 (ix2 (y 0) l) r l hr rfl)).trans ?_
        refine (congrArg (· + part (aX m c) (aN m c) (aW m c) (aO m c) r d ((n + 1) % 11)) (i1 y r d hr hd)).trans ?_
        simp only [hm]
        rw [add_assoc, ← Finset.sum_range_succ]

/-- The array the run leaves: the input plus all eleven parts. -/
theorem out_eq (i : S49152x2048.Idx) :
    Cert.FfnIdeal.Value.G5 (F := Ideal) m c i = aX m c i + ∑ s ∈ Finset.range 11, part (aX m c) (aN m c) (aW m c) (aO m c) (i 0) (i 1) s := by
  have h0 : (i 0).val < 49152 := (i 0).isLt
  have h1 : (i 1).val < 2048 := (i 1).isLt
  have hN : cfg0.N = 528 := N_0
  have hp : Value.pt5Of i = 11 * ((i 0).val / 1024) + 10 := by
    show 11 * (1 * ((i 0).val / 1024 - 0) + 1 * ((i 1).val / 2048 - 0)) + 10 = _
    omega
  have hlt : Value.pt5Of i < cfg0.N := by rw [hN, hp]; omega
  rw [Value.G5, dif_pos hlt]
  have hs := Value.outsAt0_sweep (F := Ideal) m c (Value.pt5Of i) hlt
  rw [← hs]
  refine ((sweep m c (Value.pt5Of i) hlt).2 (Value.loc5Of i) (i 0) (i 1) ?_ ?_).trans ?_
  · show (i 0).val = 1024 * (Value.pt5Of i / 11) + (i 0).val % 1024
    rw [hp]; omega
  · show (i 1).val = (i 1).val % 2048
    omega
  · rw [show Value.pt5Of i % 11 + 1 = 11 from by rw [hp]; omega]
    refine congrArg (fun z : S49152x2048.Idx => aX m c z + _) ?_
    exact ix2_eta i
end

end Cert.FfnIdeal.Half

end
-- ==== Proof.FfnEq.lean ====
module

public import proofs.«01_k».proof.Proof.FfnValue
public import proofs.«01_k».proof.Proof.Gen.FfnReferenceIdeal.Run
public import proofs.«01_k».proof.Proof.Gen.FfnReferenceIdeal.Read
public import Idealize.ShloMosaic.Lib.Pipeline.ValueKit

@[expose] public section

set_option maxRecDepth 16384

noncomputable section

namespace Cert.FfnIdeal.Half

open Cert.FfnReferenceIdeal Cert.FfnReferenceIdeal.Read
open Idealize.ShloMosaic Idealize.ShloMosaic.TcCoe Idealize.SL.Sem

/-! ## The reference at an index -/

/-- The factor of the half-step is the real number one half. -/
theorem half_eq : Ideal.ofBits .f32 1056964608#32 = (((1 : ℝ) / 2 : ℝ) : EReal) := by
  simp [Ideal.ofBits, Ideal.ieee, -EReal.coe_mul]; norm_num

/-- A finite factor that is not negative goes into a sum. -/
theorem mul_sum_of_nonneg {ι : Type} (s : Finset ι) (f : ι → EReal) (c : EReal) (h0 : 0 ≤ c) (h1 : c ≠ ⊤) :
    c * ∑ x ∈ s, f x = ∑ x ∈ s, c * f x := by
  classical
  induction s using Finset.induction_on with
  | empty => simp
  | insert a s ha ih => rw [Finset.sum_insert ha, Finset.sum_insert ha, EReal.left_distrib_of_nonneg_of_ne_top h0 h1, ih]

section
variable (X : FVec Ideal S49152x2048 .f32) (N : FVec Ideal S4x2048 .f32) (W : FVec Ideal S4x2048x11264 .f32) (O : FVec Ideal S4x5632x2048 .f32)

/-- The normalised rows, -/
theorem ref_un (i : S49152x2048.Idx) : val_main_v14 (F := Ideal) X N i = un X N (i 0) (i 1) := by
  unfold un
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- the input projection, -/
theorem ref_hid (r : Fin 49152) (h : Fin 11264) : val_main_v17 (F := Ideal) X N W (ix2 r h) = hid X N W r h := by
  refine Eq.trans (b := ∑ x : Fin 2048, val_main_v14 (F := Ideal) X N (ix2 r x) * W (ix3 0 x h)) ?_ ?_
  · pointwise [val_main_v17, val_main_v16, val_main_v15]
  · exact Finset.sum_congr rfl fun x _ => by rw [ref_un]; rfl

/-- the gated hidden units, -/
theorem ref_act (r : Fin 49152) (h : Fin 5632) :
    Ideal.ofBits FTy.f32 1056964608#32 * val_main_v21 (F := Ideal) X N W (ix2 r h) = act X N W r h := by
  have e : val_main_v21 (F := Ideal) X N W (ix2 r h) = val_main_v17 (F := Ideal) X N W (ix2 r ⟨h.val, by omega⟩)
      * Ideal.div 1 (1 + Ideal.exp (-val_main_v17 (F := Ideal) X N W (ix2 r ⟨h.val, by omega⟩)))
      * val_main_v17 (F := Ideal) X N W (ix2 r ⟨5632 + h.val, by omega⟩) := by
    pointwise [val_main_v21, val_main_v20, val_main_v19, val_main_v18, val_main_call0_v5, val_main_call0_v4, val_main_call0_v3, val_main_call0_v2,
      val_main_call0_v1, val_main_call0_v0, val_main_call0_cst, val_main_call0_cst_0]
  rw [e, ref_hid, ref_hid, act, Ideal.logistic, ← mul_assoc, ← mul_assoc]

/-- and the result: the input plus eleven parts of 512 hidden units. -/
theorem ref_out (i : S49152x2048.Idx) :
    val_main_v27 (F := Ideal) X N W O i = X i + ∑ s ∈ Finset.range 11, part X N W O (i 0) (i 1) s := by
  have e : val_main_v27 (F := Ideal) X N W O i
      = X i + Ideal.ofBits FTy.f32 1056964608#32 * ∑ x : Fin 5632, val_main_v21 (F := Ideal) X N W (ix2 (i 0) x) * O (ix3 0 x (i 1)) := by
    pointwise [val_main_v27, val_main_v26, val_main_v25, val_main_v24, val_main_v23, val_main_v22, val_main_cst_2]
  rw [e]
  refine congrArg (X i + ·) ?_
  rw [mul_sum_of_nonneg _ _ _ (by rw [half_eq]; exact_mod_cast (by norm_num : (0 : ℝ) ≤ 1 / 2)) (by rw [half_eq]; exact EReal.coe_ne_top _)]
  refine Eq.trans (b := ∑ x : Fin 5632, act X N W (i 0) x * O (ix3 0 x (i 1))) (Finset.sum_congr rfl fun x _ => ?_) ?_
  · rw [← mul_assoc]
    exact congrArg (· * O (ix3 0 x (i 1))) (ref_act X N W (i 0) x)
  · rw [Finset.sum_range]
    symm
    refine (Finset.sum_congr rfl fun s _ => dif_pos s.isLt).trans ?_
    refine Fin.sum_mul_add_congr (S := 11) (n := 512) (f := fun x : Fin 5632 => act X N W (i 0) x * O (ix3 0 x (i 1))) fun s k hl => ?_
    have e2 : (⟨512 * s.val + k.val, by omega⟩ : Fin 5632) = ⟨s.val * 512 + k.val, hl⟩ := Fin.ext (congrArg (· + k.val) (Nat.mul_comm 512 s.val))
    exact congrArg (fun x : Fin 5632 => act X N W (i 0) x * O (ix3 0 x (i 1))) e2
end

/-! ## The claim of the half-step -/

/-- The kernel's array is the reference's result. -/
theorem final (m : (ℓ : Loc Cert.FfnIdeal.nD Cert.FfnIdeal.τ Cert.FfnIdeal.sig) → Buf (Elt Ideal) ℓ) (c : Dev Cert.FfnIdeal.nD) :
    Cert.FfnIdeal.Value.G5 (F := Ideal) m c = val_main_v27 (F := Ideal) (aX m c) (aN m c) (aW m c) (aO m c) :=
  funext fun i => (out_eq m c i).trans (ref_out _ _ _ _ i).symm

end Cert.FfnIdeal.Half

end
-- ==== Proof.OutValue.lean ====
module

public import proofs.«01_k».proof.Proof.Gen.OutIdeal.Value
public import proofs.«01_k».proof.Proof.Gen.OutReferenceIdeal.Run
public import proofs.«01_k».proof.Proof.Gen.OutReferenceIdeal.Read
public import Idealize.ShloMosaic.Lib.Pipeline.ValueKit

@[expose] public section

set_option maxRecDepth 16384

noncomputable section

namespace Cert.OutIdeal.Mix

open Cert.OutIdeal Cert.OutIdeal.Gen
open Idealize.ShloMosaic Idealize.ShloMosaic.TcCoe Idealize.SL.Sem
open Idealize.ShloMosaic.Pipeline (Dat)

/-! ## The mixer's output, written plainly -/

section
variable (X U : FVec Ideal S49152x2048 .f32) (A : FVec Ideal S49152x512 .f32) (B C : FVec Ideal S49152x1024 .f32)
    (W : FVec Ideal S4x2048x13824 .f32) (WA : FVec Ideal S4x512x2048 .f32) (WB WC : FVec Ideal S4x1024x2048 .f32) (O : FVec Ideal S4x2048x2048 .f32)

/-- Gate logit `h` of row `r`. -/
def gl (r : Fin 49152) (h : Fin 6144) : EReal := ∑ k : Fin 2048, U (ix2 r k) * W (ix3 0 k ⟨7680 + h.val, by omega⟩)

/-- Channel `h` of row `r` of the three gated branches together. -/
def mrg (r : Fin 49152) (h : Fin 2048) : EReal :=
  Ideal.logistic (gl U W r ⟨h.val, by omega⟩) * ∑ k : Fin 512, A (ix2 r k) * WA (ix3 0 k h)
    + Ideal.logistic (gl U W r ⟨2048 + h.val, by omega⟩) * ∑ k : Fin 1024, B (ix2 r k) * WB (ix3 0 k h)
    + Ideal.logistic (gl U W r ⟨4096 + h.val, by omega⟩) * ∑ k : Fin 1024, C (ix2 r k) * WC (ix3 0 k h)

/-- What channels `512 s … 512 s + 511` add to entry `d` of row `r`. -/
def part (r : Fin 49152) (d : Fin 2048) (s : ℕ) : EReal :=
  if hs : s < 4 then ∑ k : Fin 512, mrg U A B C W WA WB WC r ⟨512 * s + k.val, by omega⟩ * O (ix3 0 ⟨512 * s + k.val, by omega⟩ d) else 0
end

/-! ## The kernel's payload at an index -/

theorem pay_at (x1 : Vec Ideal S512x2048 .bf16) (x2 x3 x4 : Vec Ideal S1x2048x512 .bf16) (x5 : Vec Ideal S512x512 .bf16) (x6 x7 : Vec Ideal S512x1024 .bf16)
    (x8 : Vec Ideal S1x512x512 .bf16) (x9 x10 : Vec Ideal S1x1024x512 .bf16) (x11 : Vec Ideal S1x512x2048 .bf16) (acc : Vec Ideal S512x2048 .f32) (j : S512x2048.Idx) :
    k0_pay1 (F := Ideal) (k0_pay3 x1 x2 x5 x8 x3 x6 x9) (k0_pay4 x1 x4) x7 x10 acc x11 j = acc j + ∑ x : Fin 512,
        (Ideal.logistic (∑ l : Fin 2048, x1 (ix2 (j 0) l) * x2 (ix3 0 l x)) * ∑ l : Fin 512, x5 (ix2 (j 0) l) * x8 (ix3 0 l x)
          + Ideal.logistic (∑ l : Fin 2048, x1 (ix2 (j 0) l) * x3 (ix3 0 l x)) * ∑ l : Fin 1024, x6 (ix2 (j 0) l) * x9 (ix3 0 l x)
          + Ideal.logistic (∑ l : Fin 2048, x1 (ix2 (j 0) l) * x4 (ix3 0 l x)) * ∑ l : Fin 1024, x7 (ix2 (j 0) l) * x10 (ix3 0 l x)) * x11 (ix3 0 x (j 1)) := by
  pointwise [k0_pay1, k0_pay2, k0_pay3, k0_pay4]

/-! ## The blocks as parts of the arguments -/

section
variable (m : (ℓ : Loc nD τ sig) → Buf (Elt Ideal) ℓ) (c : Dev nD)

/-- The ten arguments. -/
abbrev aX : FVec Ideal S49152x2048 .f32 := m ((c : Thread nD τ).loc main_arg0)
abbrev aU : FVec Ideal S49152x2048 .f32 := m ((c : Thread nD τ).loc main_arg1)
abbrev aA : FVec Ideal S49152x512 .f32 := m ((c : Thread nD τ).loc main_arg2)
abbrev aB : FVec Ideal S49152x1024 .f32 := m ((c : Thread nD τ).loc main_arg3)
abbrev aC : FVec Ideal S49152x1024 .f32 := m ((c : Thread nD τ).loc main_arg4)
abbrev aW : FVec Ideal S4x2048x13824 .f32 := m ((c : Thread nD τ).loc main_arg5)
abbrev aWA : FVec Ideal S4x512x2048 .f32 := m ((c : Thread nD τ).loc main_arg6)
abbrev aWB : FVec Ideal S4x1024x2048 .f32 := m ((c : Thread nD τ).loc main_arg7)
abbrev aWC : FVec Ideal S4x1024x2048 .f32 := m ((c : Thread nD τ).loc main_arg8)
abbrev aO : FVec Ideal S4x2048x2048 .f32 := m ((c : Thread nD τ).loc main_arg9)

/-- Which block each window shows at a point: the rows, -/
theorem idx : ∀ t : Fin cfg0.N, win0_0.index t = ![t.val / 4, 0] ∧ win0_1.index t = ![t.val / 4, 0] ∧ win0_5.index t = ![t.val / 4, 0]
    ∧ win0_6.index t = ![t.val / 4, 0] ∧ win0_7.index t = ![t.val / 4, 0] ∧ t.val / 4 < 96 :=
  (by decide +kernel : ∀ t : Fin grid0.N, _)

/-- and the weights. -/
theorem idw : ∀ t : Fin cfg0.N, win0_2.index t = ![0, 0, 15 + t.val % 4] ∧ win0_3.index t = ![0, 0, 19 + t.val % 4] ∧ win0_4.index t = ![0, 0, 23 + t.val % 4]
    ∧ win0_8.index t = ![0, 0, t.val % 4] ∧ win0_9.index t = ![0, 0, t.val % 4] ∧ win0_10.index t = ![0, 0, t.val % 4] ∧ win0_11.index t = ![0, t.val % 4, 0] :=
  (by decide +kernel : ∀ t : Fin grid0.N, _)

section
variable (t : Fin cfg0.N)

theorem blk0 (y : S512x2048.Idx) (r : Fin 49152) (hr : r.val = 512 * (t.val / 4) + (y 0).val) : iblk (F := Ideal) m c 0 t y = aX m c (ix2 r (y 1)) := by
  blk_point [iblk, V, idx t]
theorem blk1 (y : S512x2048.Idx) (r : Fin 49152) (hr : r.val = 512 * (t.val / 4) + (y 0).val) : iblk (F := Ideal) m c 1 t y = aU m c (ix2 r (y 1)) := by
  blk_point [iblk, V, idx t]
theorem blk5 (y : S512x512.Idx) (r : Fin 49152) (hr : r.val = 512 * (t.val / 4) + (y 0).val) : iblk (F := Ideal) m c 5 t y = aA m c (ix2 r (y 1)) := by
  blk_point [iblk, V, idx t]
theorem blk6 (y : S512x1024.Idx) (r : Fin 49152) (hr : r.val = 512 * (t.val / 4) + (y 0).val) : iblk (F := Ideal) m c 6 t y = aB m c (ix2 r (y 1)) := by
  blk_point [iblk, V, idx t]
theorem blk7 (y : S512x1024.Idx) (r : Fin 49152) (hr : r.val = 512 * (t.val / 4) + (y 0).val) : iblk (F := Ideal) m c 7 t y = aC m c (ix2 r (y 1)) := by
  blk_point [iblk, V, idx t]
theorem blk2 (y : S1x2048x512.Idx) (h : Fin 13824) (hh : h.val = 7680 + (512 * (t.val % 4) + (y 2).val)) : iblk (F := Ideal) m c 2 t y = aW m c (ix3 0 (y 1) h) := by
  blk_point [iblk, V, idw t]
theorem blk3 (y : S1x2048x512.Idx) (h : Fin 13824) (hh : h.val = 7680 + (2048 + (512 * (t.val % 4) + (y 2).val))) : iblk (F := Ideal) m c 3 t y = aW m c (ix3 0 (y 1) h) := by
  blk_point [iblk, V, idw t]
theorem blk4 (y : S1x2048x512.Idx) (h : Fin 13824) (hh : h.val = 7680 + (4096 + (512 * (t.val % 4) + (y 2).val))) : iblk (F := Ideal) m c 4 t y = aW m c (ix3 0 (y 1) h) := by
  blk_point [iblk, V, idw t]
theorem blk8 (y : S1x512x512.Idx) (h : Fin 2048) (hh : h.val = 512 * (t.val % 4) + (y 2).val) : iblk (F := Ideal) m c 8 t y = aWA m c (ix3 0 (y 1) h) := by
  blk_point [iblk, V, idw t]
theorem blk9 (y : S1x1024x512.Idx) (h : Fin 2048) (hh : h.val = 512 * (t.val % 4) + (y 2).val) : iblk (F := Ideal) m c 9 t y = aWB m c (ix3 0 (y 1) h) := by
  blk_point [iblk, V, idw t]
theorem blk10 (y : S1x1024x512.Idx) (h : Fin 2048) (hh : h.val = 512 * (t.val % 4) + (y 2).val) : iblk (F := Ideal) m c 10 t y = aWC m c (ix3 0 (y 1) h) := by
  blk_point [iblk, V, idw t]
theorem blk11 (y : S1x512x2048.Idx) (h : Fin 2048) (hh : h.val = 512 * (t.val % 4) + (y 1).val) : iblk (F := Ideal) m c 11 t y = aO m c (ix3 0 h (y 2)) := by
  blk_point [iblk, V, idw t]

/-- What a point adds to what it finds in the output block. -/
theorem step_at (acc : Vec Ideal S512x2048 .f32) (y : S512x2048.Idx) (r : Fin 49152) (hr : r.val = 512 * (t.val / 4) + (y 0).val) :
    Value.step12 (F := Ideal) m c t.val t.isLt acc y = acc y + part (aU m c) (aA m c) (aB m c) (aC m c) (aW m c) (aWA m c) (aWB m c) (aWC m c) (aO m c) r (y 1) (t.val % 4) := by
  have ht : t.val % 4 < 4 := Nat.mod_lt _ (by omega)
  unfold Value.step12
  rw [pay_at]
  unfold part
  rw [dif_pos ht]
  refine congrArg (acc y + ·) (Finset.sum_congr rfl fun x _ => ?_)
  have e1 : ∀ l : Fin 2048, (iblk (F := Ideal) m c 1 t (ix2 (y 0) l) : EReal) = aU m c (ix2 r l) := fun l => blk1 m c t (ix2 (y 0) l) r hr
  have e5 : ∀ l : Fin 512, (iblk (F := Ideal) m c 5 t (ix2 (y 0) l) : EReal) = aA m c (ix2 r l) := fun l => blk5 m c t (ix2 (y 0) l) r hr
  have e6 : ∀ l : Fin 1024, (iblk (F := Ideal) m c 6 t (ix2 (y 0) l) : EReal) = aB m c (ix2 r l) := fun l => blk6 m c t (ix2 (y 0) l) r hr
  have e7 : ∀ l : Fin 1024, (iblk (F := Ideal) m c 7 t (ix2 (y 0) l) : EReal) = aC m c (ix2 r l) := fun l => blk7 m c t (ix2 (y 0) l) r hr
  have e2 : ∀ l : Fin 2048, (iblk (F := Ideal) m c 2 t (ix3 0 l x) : EReal) = aW m c (ix3 0 l ⟨7680 + (512 * (t.val % 4) + x.val), by omega⟩) := fun l => blk2 m c t (ix3 0 l x) _ rfl
  have e3 : ∀ l : Fin 2048, (iblk (F := Ideal) m c 3 t (ix3 0 l x) : EReal) = aW m c (ix3 0 l ⟨7680 + (2048 + (512 * (t.val % 4) + x.val)), by omega⟩) := fun l => blk3 m c t (ix3 0 l x) _ rfl
  have e4 : ∀ l : Fin 2048, (iblk (F := Ideal) m c 4 t (ix3 0 l x) : EReal) = aW m c (ix3 0 l ⟨7680 + (4096 + (512 * (t.val % 4) + x.val)), by omega⟩) := fun l => blk4 m c t (ix3 0 l x) _ rfl
  have e8 : ∀ l : Fin 512, (iblk (F := Ideal) m c 8 t (ix3 0 l x) : EReal) = aWA m c (ix3 0 l ⟨512 * (t.val % 4) + x.val, by omega⟩) := fun l => blk8 m c t (ix3 0 l x) _ rfl
  have e9 : ∀ l : Fin 1024, (iblk (F := Ideal) m c 9 t (ix3 0 l x) : EReal) = aWB m c (ix3 0 l ⟨512 * (t.val % 4) + x.val, by omega⟩) := fun l => blk9 m c t (ix3 0 l x) _ rfl
  have e10 : ∀ l : Fin 1024, (iblk (F := Ideal) m c 10 t (ix3 0 l x) : EReal) = aWC m c (ix3 0 l ⟨512 * (t.val % 4) + x.val, by omega⟩) := fun l => blk10 m c t (ix3 0 l x) _ rfl
  have e11 : (iblk (F := Ideal) m c 11 t (ix3 0 x (y 1)) : EReal) = aO m c (ix3 0 ⟨512 * (t.val % 4) + x.val, by omega⟩ (y 1)) := blk11 m c t (ix3 0 x (y 1)) _ rfl
  unfold mrg gl
  simp only [e1, e2, e3, e4, e5, e6, e7, e8, e9, e10, e11]
end

/-- The sweep over a row block: the input plus the parts so far. -/
theorem sweep (b : ℕ) (k : ℕ) (hk : k < 4) (h : 4 * b + k < cfg0.N) (y : S512x2048.Idx) (r : Fin 49152) (hr : r.val = 512 * b + (y 0).val) :
    Pipeline.accAt (Value.reset12 (F := Ideal) m c) (Value.step12 (F := Ideal) m c) (4 * b) k h y
      = aX m c (ix2 r (y 1)) + ∑ s ∈ Finset.range (k + 1), part (aU m c) (aA m c) (aB m c) (aC m c) (aW m c) (aWA m c) (aWB m c) (aWC m c) (aO m c) r (y 1) s := by
  induction k with
  | zero =>
    have e : (4 * b) / 4 = b := by omega
    have e' : (4 * b) % 4 = 0 := by omega
    have h0 := step_at m c ⟨4 * b, h⟩ (iblk (F := Ideal) m c 0 ⟨4 * b, h⟩) y r (by show r.val = 512 * (4 * b / 4) + _; rw [e]; exact hr)
    rw [blk0 m c ⟨4 * b, h⟩ y r (by show r.val = 512 * (4 * b / 4) + _; rw [e]; exact hr)] at h0
    refine Eq.trans h0 ?_
    simp only [e', zero_add, Finset.sum_range_one]
  | succ k ih =>
    have e : (4 * b + (k + 1)) / 4 = b := by omega
    have e' : (4 * b + (k + 1)) % 4 = k + 1 := by omega
    have h0 := step_at m c ⟨4 * b + (k + 1), h⟩ (Pipeline.accAt (Value.reset12 (F := Ideal) m c) (Value.step12 (F := Ideal) m c) (4 * b) k (by omega)) y r
      (by show r.val = 512 * ((4 * b + (k + 1)) / 4) + _; rw [e]; exact hr)
    refine Eq.trans h0 ?_
    rw [ih (by omega) (by omega)]
    simp only [e']
    rw [add_assoc, ← Finset.sum_range_succ]

/-- The array the run leaves: the input plus all four parts. -/
theorem out_eq (i : S49152x2048.Idx) :
    Value.G12 (F := Ideal) m c i = aX m c i + ∑ s ∈ Finset.range 4, part (aU m c) (aA m c) (aB m c) (aC m c) (aW m c) (aWA m c) (aWB m c) (aWC m c) (aO m c) (i 0) (i 1) s := by
  have h0 : (i 0).val < 49152 := (i 0).isLt
  have h1 : (i 1).val < 2048 := (i 1).isLt
  have hN : cfg0.N = 384 := N_0
  have hp : Value.run12Of i = (i 0).val / 512 := by
    show 1 * ((i 0).val / 512 - 0) + 1 * ((i 1).val / 2048 - 0) = _
    omega
  have hlt : 4 * Value.run12Of i + 3 < cfg0.N := by rw [hN, hp]; omega
  rw [Value.G12, dif_pos hlt, sweep m c _ 3 (by omega) hlt (Value.loc12Of i) (i 0) (by rw [hp]; show (i 0).val = 512 * ((i 0).val / 512) + (i 0).val % 512; omega)]
  have e : Value.loc12Of i 1 = i 1 := Fin.ext (show (i 1).val % 2048 = (i 1).val by omega)
  rw [e]
  exact congrArg (fun z : S49152x2048.Idx => aX m c z + _) (ix2_eta i)
end

/-! ## The reference at an index -/

section
open Cert.OutReferenceIdeal Cert.OutReferenceIdeal.Read
variable (X U : FVec Ideal S49152x2048 .f32) (A : FVec Ideal S49152x512 .f32) (B C : FVec Ideal S49152x1024 .f32)
    (W : FVec Ideal S4x2048x13824 .f32) (WA : FVec Ideal S4x512x2048 .f32) (WB WC : FVec Ideal S4x1024x2048 .f32) (O : FVec Ideal S4x2048x2048 .f32)

/-- The gates, -/
theorem ref_gate (r : Fin 49152) (h : Fin 6144) : val_main_v9 (F := Ideal) U W (ix2 r h) = Ideal.logistic (gl U W r h) := by
  have e : val_main_v9 (F := Ideal) U W (ix2 r h) = Ideal.div 1 (1 + Ideal.exp (-val_main_v3 (F := Ideal) U W (ix2 r h))) := by
    pointwise [val_main_v9, val_main_v8, val_main_v7, val_main_v6, val_main_v5, val_main_v4, val_main_cst, val_main_cst_0]
  have e3 : val_main_v3 (F := Ideal) U W (ix2 r h) = gl U W r h := by
    unfold gl
    pointwise [val_main_v3, val_main_v2, val_main_v1, val_main_v0]
  rw [e, e3, Ideal.logistic]

/-- the gates of each branch, -/
theorem ref_gates (r : Fin 49152) (h : Fin 2048) : val_main_v12 (F := Ideal) U W (ix2 r h) = Ideal.logistic (gl U W r ⟨h.val, by omega⟩)
    ∧ val_main_v18 (F := Ideal) U W (ix2 r h) = Ideal.logistic (gl U W r ⟨2048 + h.val, by omega⟩)
    ∧ val_main_v25 (F := Ideal) U W (ix2 r h) = Ideal.logistic (gl U W r ⟨4096 + h.val, by omega⟩) := by
  have hr := r.isLt
  have hh := h.isLt
  refine ⟨?_, ?_, ?_⟩
  · rw [← ref_gate]
    generalize e : val_main_v9 (F := Ideal) U W = G
    pointwise [val_main_v12, val_main_v11, val_main_v10, e]
  · rw [← ref_gate]
    generalize e : val_main_v9 (F := Ideal) U W = G
    pointwise [val_main_v18, val_main_v17, val_main_v10, e]
  · rw [← ref_gate]
    generalize e : val_main_v9 (F := Ideal) U W = G
    pointwise [val_main_v25, val_main_v24, val_main_v10, e]

/-- the branches together, -/
theorem ref_mrg (r : Fin 49152) (h : Fin 2048) : val_main_v30 (F := Ideal) U A B C W WA WB WC (ix2 r h) = mrg U A B C W WA WB WC r h := by
  obtain ⟨g0, g1, g2⟩ := ref_gates U W r h
  unfold mrg
  rw [← g0, ← g1, ← g2]
  generalize e0 : val_main_v12 (F := Ideal) U W = G0
  generalize e1 : val_main_v18 (F := Ideal) U W = G1
  generalize e2 : val_main_v25 (F := Ideal) U W = G2
  pointwise [val_main_v30, val_main_v29, val_main_v28, val_main_v27, val_main_v26, val_main_v23, val_main_v22, val_main_v21, val_main_v20, val_main_v19, val_main_v16,
    val_main_v15, val_main_v14, val_main_v13, e0, e1, e2]

/-- and the result: the input plus four parts of 512 channels. -/
theorem ref_out (i : S49152x2048.Idx) :
    val_main_v34 (F := Ideal) X U A B C W WA WB WC O i = X i + ∑ s ∈ Finset.range 4, part U A B C W WA WB WC O (i 0) (i 1) s := by
  have e : val_main_v34 (F := Ideal) X U A B C W WA WB WC O i = X i + ∑ x : Fin 2048, val_main_v30 (F := Ideal) U A B C W WA WB WC (ix2 (i 0) x) * O (ix3 0 x (i 1)) := by
    generalize e : val_main_v30 (F := Ideal) U A B C W WA WB WC = M
    pointwise [val_main_v34, val_main_v33, val_main_v32, val_main_v31, e]
  rw [e]
  refine congrArg (X i + ·) ?_
  refine (Finset.sum_congr rfl fun x _ => congrArg (· * O (ix3 0 x (i 1))) (ref_mrg U A B C W WA WB WC (i 0) x)).trans ?_
  rw [Finset.sum_range]
  symm
  refine (Finset.sum_congr rfl fun s _ => dif_pos s.isLt).trans ?_
  refine Fin.sum_mul_add_congr (S := 4) (n := 512) (f := fun x : Fin 2048 => mrg U A B C W WA WB WC (i 0) x * O (ix3 0 x (i 1))) fun s k hl => ?_
  have e2 : (⟨512 * s.val + k.val, by omega⟩ : Fin 2048) = ⟨s.val * 512 + k.val, hl⟩ := Fin.ext (congrArg (· + k.val) (Nat.mul_comm 512 s.val))
  exact congrArg (fun x : Fin 2048 => mrg U A B C W WA WB WC (i 0) x * O (ix3 0 x (i 1))) e2
end

/-! ## The claim of the mixer's output -/

/-- The kernel's array is the reference's result. -/
theorem final (m : (ℓ : Loc Cert.OutIdeal.nD Cert.OutIdeal.τ Cert.OutIdeal.sig) → Buf (Elt Ideal) ℓ) (c : Dev Cert.OutIdeal.nD) :
    Cert.OutIdeal.Value.G12 (F := Ideal) m c = Cert.OutReferenceIdeal.Read.val_main_v34 (F := Ideal) (aX m c) (aU m c) (aA m c) (aB m c) (aC m c) (aW m c) (aWA m c) (aWB m c) (aWC m c) (aO m c) :=
  funext fun i => (out_eq m c i).trans (ref_out _ _ _ _ _ _ _ _ _ _ i).symm

end Cert.OutIdeal.Mix

end
-- ==== Proof.LastValue.lean ====
module

public import proofs.«01_k».proof.Proof.Gen.LastIdeal.Value
public import Idealize.ShloMosaic.Lib.Pipeline.ValueKit

@[expose] public section

set_option maxRecDepth 16384

noncomputable section

namespace Cert.LastIdeal.LastHalf

open Cert.LastIdeal Cert.LastIdeal.Gen
open Idealize.ShloMosaic Idealize.ShloMosaic.TcCoe Idealize.SL.Sem
open Idealize.ShloMosaic.Pipeline (Dat)

/-! ## The last half-step, written plainly -/

section
variable (X : FVec Ideal S49152x2048 .f32) (N : FVec Ideal S4x2048 .f32) (W : FVec Ideal S4x2048x11264 .f32) (O : FVec Ideal S4x5632x2048 .f32)

/-- Row `r` of the input, normalised by its root mean square and scaled by the gain. -/
def un (r : Fin 49152) (k : Fin 2048) : EReal :=
  X (ix2 r k) * Ideal.rsqrt (Ideal.div (∑ x : Fin 2048, X (ix2 r x) * X (ix2 r x)) (Ideal.ofBits FTy.f32 1157627904#32) + Ideal.ofBits FTy.f32 897988541#32)
    * N (ix2 3 k)

/-- Column `h` of the input projection of row `r`. -/
def hid (r : Fin 49152) (h : Fin 11264) : EReal := ∑ k : Fin 2048, un X N r k * W (ix3 3 k h)

/-- Half of the gated hidden unit `h` of row `r`. -/
def act (r : Fin 49152) (h : Fin 5632) : EReal :=
  (Ideal.ofBits FTy.f32 1056964608#32 * hid X N W r ⟨h.val, by omega⟩) * Ideal.logistic (hid X N W r ⟨h.val, by omega⟩)
    * hid X N W r ⟨5632 + h.val, by omega⟩

/-- What hidden units `512 s … 512 s + 511` add to entry `d` of row `r`. -/
def part (r : Fin 49152) (d : Fin 2048) (s : ℕ) : EReal :=
  if hs : s < 11 then ∑ k : Fin 512, act X N W r ⟨512 * s + k.val, by omega⟩ * O (ix3 3 ⟨512 * s + k.val, by omega⟩ d) else 0
end

/-- Entry `d` of a row normalised by its root mean square and scaled by the gain. -/
def fin (Y G : Fin 2048 → EReal) (d : Fin 2048) : EReal :=
  Y d * Ideal.rsqrt (Ideal.div (∑ x : Fin 2048, Y x * Y x) (Ideal.ofBits FTy.f32 1157627904#32) + Ideal.ofBits FTy.f32 897988541#32) * G d

/-! ## The kernel's payloads at an index -/

theorem pay2_at (v6 : Vec Ideal S1024x2048 .f32) (v8 : Vec Ideal S1024x2048 .bf16) (v9 v12 : Vec Ideal S1x2048x512 .bf16)
    (v21 : Vec Ideal S1x512x2048 .bf16) (j : S1024x2048.Idx) :
    k0_pay2 (F := Ideal) v6 v8 v9 v12 v21 j = v6 j + ∑ x : Fin 512,
        ((Ideal.ofBits FTy.f32 1056964608#32 * ∑ l : Fin 2048, v8 (ix2 (j 0) l) * v9 (ix3 0 l x)) *
              Ideal.logistic (∑ l : Fin 2048, v8 (ix2 (j 0) l) * v9 (ix3 0 l x)) *
            ∑ l : Fin 2048, v8 (ix2 (j 0) l) * v12 (ix3 0 l x)) *
          v21 (ix3 0 x (j 1)) := by
  pointwise [k0_pay2]

theorem pay3_at (v9 : Vec Ideal S1024x2048 .f32) (v11 : Vec Ideal S1x2048 .f32) (j : S1024x2048.Idx) :
    k0_pay3 (F := Ideal) v9 v11 j = fin (fun x => v9 (ix2 (j 0) x)) (fun d => v11 (ix2 0 d)) (j 1) := by
  unfold fin
  pointwise [k0_pay3]

/-! ## The blocks as parts of the arguments -/

section
variable (m : (ℓ : Loc nD τ sig) → Buf (Elt Ideal) ℓ) (c : Dev nD)

/-- The five arguments. -/
abbrev aX : FVec Ideal S49152x2048 .f32 := m ((c : Thread nD τ).loc main_arg0)
abbrev aN : FVec Ideal S4x2048 .f32 := m ((c : Thread nD τ).loc main_arg1)
abbrev aW : FVec Ideal S4x2048x11264 .f32 := m ((c : Thread nD τ).loc main_arg2)
abbrev aO : FVec Ideal S4x5632x2048 .f32 := m ((c : Thread nD τ).loc main_arg3)
abbrev aF : FVec Ideal S2048 .f32 := m ((c : Thread nD τ).loc main_arg4)

/-- Which block each window shows at a point. -/
theorem idx : ∀ t : Fin cfg0.N, win0_0.index t = ![t.val / 11, 0] ∧ win0_1.index t = ![3, 0, 0] ∧ win0_2.index t = ![3, 0, t.val % 11]
    ∧ win0_3.index t = ![3, 0, 11 + t.val % 11] ∧ win0_4.index t = ![3, t.val % 11, 0] ∧ win0_5.index t = ![0, 0] ∧ t.val / 11 < 48 :=
  (by decide +kernel : ∀ t : Fin grid0.N, _)

theorem blk0 (t : Fin cfg0.N) (y : S1024x2048.Idx) (r : Fin 49152) (hr : r.val = 1024 * (t.val / 11) + (y 0).val) :
    iblk (F := Ideal) m c 0 t y = aX m c (ix2 r (y 1)) := by
  blk_point [iblk, V, idx t]

theorem blk1 (t : Fin cfg0.N) (y : S1x1x2048.Idx) :
    iblk (F := Ideal) m c 1 t y = aN m c (ix2 3 (y 2)) := by
  blk_point [iblk, V, idx t]

theorem blk2 (t : Fin cfg0.N) (y : S1x2048x512.Idx) (h : Fin 11264) (hh : h.val = 512 * (t.val % 11) + (y 2).val) :
    iblk (F := Ideal) m c 2 t y = aW m c (ix3 3 (y 1) h) := by
  blk_point [iblk, V, idx t]

theorem blk3 (t : Fin cfg0.N) (y : S1x2048x512.Idx) (h : Fin 11264) (hh : h.val = 5632 + (512 * (t.val % 11) + (y 2).val)) :
    iblk (F := Ideal) m c 3 t y = aW m c (ix3 3 (y 1) h) := by
  blk_point [iblk, V, idx t]

theorem blk4 (t : Fin cfg0.N) (y : S1x512x2048.Idx) (h : Fin 5632) (hh : h.val = 512 * (t.val % 11) + (y 1).val) :
    iblk (F := Ideal) m c 4 t y = aO m c (ix3 3 h (y 2)) := by
  blk_point [iblk, V, idx t]

theorem blk5 (t : Fin cfg0.N) (y : S1x2048.Idx) : iblk (F := Ideal) m c 5 t y = aF m c (ix1 (y 1)) := by
  blk_point [iblk, V, idx t]

/-! ## One point of the sweep -/

/-- Over a normalised block and this point's blocks of the weights, the inner sum is this point's part. -/
theorem part_at (t : Fin cfg0.N) (xn : Fin 2048 → EReal) (r : Fin 49152) (d : Fin 2048) (hxn : ∀ k, xn k = un (aX m c) (aN m c) r k) :
    (∑ x : Fin 512,
        ((Ideal.ofBits FTy.f32 1056964608#32 * ∑ l : Fin 2048, xn l * iblk (F := Ideal) m c 2 t (ix3 0 l x)) *
              Ideal.logistic (∑ l : Fin 2048, xn l * iblk (F := Ideal) m c 2 t (ix3 0 l x)) *
            ∑ l : Fin 2048, xn l * iblk (F := Ideal) m c 3 t (ix3 0 l x)) *
          iblk (F := Ideal) m c 4 t (ix3 0 x d) : EReal) = part (aX m c) (aN m c) (aW m c) (aO m c) r d (t.val % 11) := by
  have ht : t.val % 11 < 11 := Nat.mod_lt _ (by omega)
  rw [part, dif_pos ht]
  refine Finset.sum_congr rfl fun x _ => ?_
  have e2 : ∀ l : Fin 2048, (iblk (F := Ideal) m c 2 t (ix3 0 l x) : EReal) = aW m c (ix3 3 l ⟨512 * (t.val % 11) + x.val, by omega⟩) :=
    fun l => blk2 m c t (ix3 0 l x) _ rfl
  have e3 : ∀ l : Fin 2048, (iblk (F := Ideal) m c 3 t (ix3 0 l x) : EReal) = aW m c (ix3 3 l ⟨5632 + (512 * (t.val % 11) + x.val), by omega⟩) :=
    fun l => blk3 m c t (ix3 0 l x) _ rfl
  have e4 : (iblk (F := Ideal) m c 4 t (ix3 0 x d) : EReal) = aO m c (ix3 3 ⟨512 * (t.val % 11) + x.val, by omega⟩ d) :=
    blk4 m c t (ix3 0 x d) _ rfl
  unfold act hid
  simp only [e2, e3, e4, hxn]

/-- At the first point of a row block: the input's rows plus the first part, -/
theorem outA (t : Fin cfg0.N) (h0 : t.val % 11 = 0) (h1 : ¬ 1 ≤ t.val % 11) (h2 : ¬ t.val % 11 = 10) (y : S1024x2048.Idx) (r : Fin 49152) (d : Fin 2048)
    (hr : r.val = 1024 * (t.val / 11) + (y 0).val) (hd : d.val = (y 1).val) :
    (outsAt0 (F := Ideal) m c t.val t.isLt).1 y = aX m c (ix2 r d) + part (aX m c) (aN m c) (aW m c) (aO m c) r d (t.val % 11) := by
  rw [← part_at m c t (fun k => un (aX m c) (aN m c) r k) r d (fun _ => rfl)]
  rw [outsAt0_A m c t h0 h1 h2]; frame_out
  canon_tiles x h
  all_goals (open_payloads; pointwise [un]; blk_point [iblk, V, idx t])

/-- and the normalised rows in the scratch. -/
theorem outA2 (t : Fin cfg0.N) (h0 : t.val % 11 = 0) (h1 : ¬ 1 ≤ t.val % 11) (h2 : ¬ t.val % 11 = 10) (y : S1024x2048.Idx) (r : Fin 49152) (d : Fin 2048)
    (hr : r.val = 1024 * (t.val / 11) + (y 0).val) (hd : d.val = (y 1).val) :
    (outsAt0 (F := Ideal) m c t.val t.isLt).2 y = un (aX m c) (aN m c) r d := by
  rw [outsAt0_A m c t h0 h1 h2]; frame_out
  canon_tiles x h
  all_goals (open_payloads; pointwise [un]; blk_point [iblk, V, idx t])

/-- At a later point the scratch is kept, -/
theorem outB2 (t : Fin cfg0.N) (h0 : ¬ t.val % 11 = 0) (h1 : 1 ≤ t.val % 11) (h2 : ¬ t.val % 11 = 10) :
    (outsAt0 (F := Ideal) m c t.val t.isLt).2 = (outsAt0 (F := Ideal) m c (t.val - 1) (Nat.lt_of_le_of_lt (Nat.sub_le _ _) t.isLt)).2 := by
  rw [outsAt0_B m c t h0 h1 h2]; rfl

/-- and the output gains the point's part. -/
theorem outB (t : Fin cfg0.N) (h0 : ¬ t.val % 11 = 0) (h1 : 1 ≤ t.val % 11) (h2 : ¬ t.val % 11 = 10) (y : S1024x2048.Idx) (r : Fin 49152) (d : Fin 2048) (hd : d = y 1)
    (hx : ∀ l : Fin 2048, (outsAt0 (F := Ideal) m c (t.val - 1) (Nat.lt_of_le_of_lt (Nat.sub_le _ _) t.isLt)).2 (ix2 (y 0) l) = un (aX m c) (aN m c) r l) :
    (outsAt0 (F := Ideal) m c t.val t.isLt).1 y = (outsAt0 (F := Ideal) m c (t.val - 1) (Nat.lt_of_le_of_lt (Nat.sub_le _ _) t.isLt)).1 y
      + part (aX m c) (aN m c) (aW m c) (aO m c) r d (t.val % 11) := by
  rw [outsAt0_B m c t h0 h1 h2]; frame_out
  rw [pay2_at, ← part_at m c t (fun l => (outsAt0 (F := Ideal) m c (t.val - 1) (Nat.lt_of_le_of_lt (Nat.sub_le _ _) t.isLt)).2 (ix2 (y 0) l)) r d hx, hd]
  simp only [(Memref.isWhole_whole cc0_scratch0).read_unread]

/-- At the last point of a row block the output's rows are normalised after the last part. -/
theorem outC (t : Fin cfg0.N) (h0 : ¬ t.val % 11 = 0) (h1 : 1 ≤ t.val % 11) (h2 : t.val % 11 = 10) (y : S1024x2048.Idx) (r : Fin 49152)
    (hx : ∀ l : Fin 2048, (outsAt0 (F := Ideal) m c (t.val - 1) (Nat.lt_of_le_of_lt (Nat.sub_le _ _) t.isLt)).2 (ix2 (y 0) l) = un (aX m c) (aN m c) r l) :
    (outsAt0 (F := Ideal) m c t.val t.isLt).1 y
      = fin (fun x => (outsAt0 (F := Ideal) m c (t.val - 1) (Nat.lt_of_le_of_lt (Nat.sub_le _ _) t.isLt)).1 (ix2 (y 0) x)
          + part (aX m c) (aN m c) (aW m c) (aO m c) r x (t.val % 11)) (fun d => aF m c (ix1 d)) (y 1) := by
  have e : ∀ x : Fin 2048, k0_pay2 (F := Ideal) (outsAt0 (F := Ideal) m c (t.val - 1) (Nat.lt_of_le_of_lt (Nat.sub_le _ _) t.isLt)).1
      (outsAt0 (F := Ideal) m c (t.val - 1) (Nat.lt_of_le_of_lt (Nat.sub_le _ _) t.isLt)).2 (iblk m c 2 t) (iblk m c 3 t) (iblk m c 4 t) (ix2 (y 0) x)
      = (outsAt0 (F := Ideal) m c (t.val - 1) (Nat.lt_of_le_of_lt (Nat.sub_le _ _) t.isLt)).1 (ix2 (y 0) x)
          + part (aX m c) (aN m c) (aW m c) (aO m c) r x (t.val % 11) := fun x => by
    rw [pay2_at, ← part_at m c t (fun l => (outsAt0 (F := Ideal) m c (t.val - 1) (Nat.lt_of_le_of_lt (Nat.sub_le _ _) t.isLt)).2 (ix2 (y 0) l)) r x hx]
    rfl
  have e5 : ∀ d : Fin 2048, (iblk (F := Ideal) m c 5 t (ix2 0 d) : EReal) = aF m c (ix1 d) := fun d => blk5 m c t (ix2 0 d)
  rw [outsAt0_C m c t h0 h1 h2]; frame_out
  simp only [(Memref.isWhole_whole cc0_scratch0).read_unread]
  rw [pay3_at]
  simp only [e, e5]

/-- Every point of the sweep but the last of a row block: the scratch holds the normalised rows, the output the input plus the parts so far. -/
theorem sweep (b k : ℕ) (hk : k < 10) (hn : 11 * b + k < cfg0.N) :
    (∀ (y : S1024x2048.Idx) (r : Fin 49152) (d : Fin 2048), r.val = 1024 * b + (y 0).val → d.val = (y 1).val →
      (outsAt0 (F := Ideal) m c (11 * b + k) hn).2 y = un (aX m c) (aN m c) r d)
    ∧ ∀ (y : S1024x2048.Idx) (r : Fin 49152) (d : Fin 2048), r.val = 1024 * b + (y 0).val → d.val = (y 1).val →
      (outsAt0 (F := Ideal) m c (11 * b + k) hn).1 y = aX m c (ix2 r d) + ∑ s ∈ Finset.range (k + 1), part (aX m c) (aN m c) (aW m c) (aO m c) r d s := by
  have hq : (11 * b + k) / 11 = b := by omega
  have hm : (11 * b + k) % 11 = k := by omega
  induction k with
  | zero =>
    have h0 : (11 * b + 0) % 11 = 0 := hm
    have h1 : ¬ 1 ≤ (11 * b + 0) % 11 := by omega
    have h2 : ¬ (11 * b + 0) % 11 = 10 := by omega
    refine ⟨fun y r d hr hd => outA2 m c ⟨11 * b + 0, hn⟩ h0 h1 h2 y r d (by show r.val = 1024 * ((11 * b + 0) / 11) + _; rw [hq]; exact hr) hd, fun y r d hr hd => ?_⟩
    refine (outA m c ⟨11 * b + 0, hn⟩ h0 h1 h2 y r d (by show r.val = 1024 * ((11 * b + 0) / 11) + _; rw [hq]; exact hr) hd).trans ?_
    simp only [h0, zero_add, Finset.sum_range_one]
  | succ k ih =>
    have h0 : ¬ (11 * b + (k + 1)) % 11 = 0 := by omega
    have h1 : 1 ≤ (11 * b + (k + 1)) % 11 := by omega
    have h2 : ¬ (11 * b + (k + 1)) % 11 = 10 := by omega
    obtain ⟨i2, i1⟩ := ih (by omega) (by omega) (by omega) (by omega)
    refine ⟨fun y r d hr hd => ?_, fun y r d hr hd => ?_⟩
    · exact (congrFun (outB2 m c ⟨11 * b + (k + 1), hn⟩ h0 h1 h2) y).trans (i2 y r d hr hd)
    · refine (outB m c ⟨11 * b + (k + 1), hn⟩ h0 h1 h2 y r d (Fin.ext hd) (fun l => i2 (ix2 (y 0) l) r l hr rfl)).trans ?_
      refine (congrArg (· + part (aX m c) (aN m c) (aW m c) (aO m c) r d ((11 * b + (k + 1)) % 11)) (i1 y r d hr hd)).trans ?_
      simp only [hm]
      rw [add_assoc, ← Finset.sum_range_succ]

/-- The array the run leaves: the input plus all eleven parts, each row normalised. -/
theorem out_eq (i : S49152x2048.Idx) :
    Cert.LastIdeal.Value.G6 (F := Ideal) m c i
      = fin (fun x => aX m c (ix2 (i 0) x) + ∑ s ∈ Finset.range 11, part (aX m c) (aN m c) (aW m c) (aO m c) (i 0) x s) (fun d => aF m c (ix1 d)) (i 1) := by
  have h0 : (i 0).val < 49152 := (i 0).isLt
  have h1 : (i 1).val < 2048 := (i 1).isLt
  have hN : cfg0.N = 528 := N_0
  have hp : Value.pt6Of i = 11 * ((i 0).val / 1024) + 10 := by
    show 11 * (1 * ((i 0).val / 1024 - 0) + 1 * ((i 1).val / 2048 - 0)) + 10 = _
    omega
  have hlt : Value.pt6Of i < cfg0.N := by rw [hN, hp]; omega
  rw [Value.G6, dif_pos hlt]
  have hs := Value.outsAt0_sweep (F := Ideal) m c (Value.pt6Of i) hlt
  rw [← hs]
  have hb : 11 * ((i 0).val / 1024) + 9 < cfg0.N := by rw [hN]; omega
  have hpp : Value.pt6Of i - 1 = 11 * ((i 0).val / 1024) + 9 := by rw [hp]; omega
  have hr : (i 0).val = 1024 * ((i 0).val / 1024) + (Value.loc6Of i 0).val := by show _ = 1024 * ((i 0).val / 1024) + (i 0).val % 1024; omega
  obtain ⟨s2, s1⟩ := sweep m c ((i 0).val / 1024) 9 (by omega) hb
  have hm : Value.pt6Of i % 11 = 10 := by rw [hp]; omega
  have o := outC m c ⟨Value.pt6Of i, hlt⟩ (by show ¬ Value.pt6Of i % 11 = 0; omega) (by show 1 ≤ Value.pt6Of i % 11; omega) hm (Value.loc6Of i) (i 0)
    (fun l => by simp only [hpp]; exact s2 (ix2 (Value.loc6Of i 0) l) (i 0) l hr rfl)
  refine o.trans ?_
  have el : Value.loc6Of i 1 = i 1 := Fin.ext (show (i 1).val % 2048 = (i 1).val by omega)
  rw [el]
  refine congrArg (fun Y => fin Y (fun d => aF m c (ix1 d)) (i 1)) (funext fun x => ?_)
  simp only [hpp, hm]
  rw [s1 (ix2 (Value.loc6Of i 0) x) (i 0) x hr rfl, add_assoc, ← Finset.sum_range_succ]
end

end Cert.LastIdeal.LastHalf

end
-- ==== Proof.LastEq.lean ====
module

public import proofs.«01_k».proof.Proof.LastValue
public import proofs.«01_k».proof.Proof.FfnEq
public import proofs.«01_k».proof.Proof.Gen.LastReferenceIdeal.Run
public import proofs.«01_k».proof.Proof.Gen.LastReferenceIdeal.Read
public import Idealize.ShloMosaic.Lib.Pipeline.ValueKit

@[expose] public section

set_option maxRecDepth 16384

noncomputable section

namespace Cert.LastIdeal.LastHalf

open Cert.LastReferenceIdeal Cert.LastReferenceIdeal.Read
open Idealize.ShloMosaic Idealize.ShloMosaic.TcCoe Idealize.SL.Sem

/-! ## The reference at an index -/

open Cert.FfnIdeal.Half (half_eq mul_sum_of_nonneg)

section
variable (X : FVec Ideal S49152x2048 .f32) (N : FVec Ideal S4x2048 .f32) (W : FVec Ideal S4x2048x11264 .f32) (O : FVec Ideal S4x5632x2048 .f32)

/-- The normalised rows, -/
theorem ref_un (i : S49152x2048.Idx) : val_main_v14 (F := Ideal) X N i = un X N (i 0) (i 1) := by
  unfold un
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- the input projection, -/
theorem ref_hid (r : Fin 49152) (h : Fin 11264) : val_main_v17 (F := Ideal) X N W (ix2 r h) = hid X N W r h := by
  refine Eq.trans (b := ∑ x : Fin 2048, val_main_v14 (F := Ideal) X N (ix2 r x) * W (ix3 3 x h)) ?_ ?_
  · pointwise [val_main_v17, val_main_v16, val_main_v15]
  · exact Finset.sum_congr rfl fun x _ => by rw [ref_un]; rfl

/-- the gated hidden units, -/
theorem ref_act (r : Fin 49152) (h : Fin 5632) :
    Ideal.ofBits FTy.f32 1056964608#32 * val_main_v21 (F := Ideal) X N W (ix2 r h) = act X N W r h := by
  have e : val_main_v21 (F := Ideal) X N W (ix2 r h) = val_main_v17 (F := Ideal) X N W (ix2 r ⟨h.val, by omega⟩)
      * Ideal.div 1 (1 + Ideal.exp (-val_main_v17 (F := Ideal) X N W (ix2 r ⟨h.val, by omega⟩)))
      * val_main_v17 (F := Ideal) X N W (ix2 r ⟨5632 + h.val, by omega⟩) := by
    pointwise [val_main_v21, val_main_v20, val_main_v19, val_main_v18, val_main_call0_v5, val_main_call0_v4, val_main_call0_v3, val_main_call0_v2,
      val_main_call0_v1, val_main_call0_v0, val_main_call0_cst, val_main_call0_cst_0]
  rw [e, ref_hid, ref_hid, act, Ideal.logistic, ← mul_assoc, ← mul_assoc]

/-- and the array before the last norm: the input plus eleven parts of 512 hidden units. -/
theorem ref_out (i : S49152x2048.Idx) :
    val_main_v27 (F := Ideal) X N W O i = X i + ∑ s ∈ Finset.range 11, part X N W O (i 0) (i 1) s := by
  have e : val_main_v27 (F := Ideal) X N W O i
      = X i + Ideal.ofBits FTy.f32 1056964608#32 * ∑ x : Fin 5632, val_main_v21 (F := Ideal) X N W (ix2 (i 0) x) * O (ix3 3 x (i 1)) := by
    pointwise [val_main_v27, val_main_v26, val_main_v25, val_main_v24, val_main_v23, val_main_v22, val_main_cst_2]
  rw [e]
  refine congrArg (X i + ·) ?_
  rw [mul_sum_of_nonneg _ _ _ (by rw [half_eq]; exact_mod_cast (by norm_num : (0 : ℝ) ≤ 1 / 2)) (by rw [half_eq]; exact EReal.coe_ne_top _)]
  refine Eq.trans (b := ∑ x : Fin 5632, act X N W (i 0) x * O (ix3 3 x (i 1))) (Finset.sum_congr rfl fun x _ => ?_) ?_
  · rw [← mul_assoc]
    exact congrArg (· * O (ix3 3 x (i 1))) (ref_act X N W (i 0) x)
  · rw [Finset.sum_range]
    symm
    refine (Finset.sum_congr rfl fun s _ => dif_pos s.isLt).trans ?_
    refine Fin.sum_mul_add_congr (S := 11) (n := 512) (f := fun x : Fin 5632 => act X N W (i 0) x * O (ix3 3 x (i 1))) fun s k hl => ?_
    have e2 : (⟨512 * s.val + k.val, by omega⟩ : Fin 5632) = ⟨s.val * 512 + k.val, hl⟩ := Fin.ext (congrArg (· + k.val) (Nat.mul_comm 512 s.val))
    exact congrArg (fun x : Fin 5632 => act X N W (i 0) x * O (ix3 3 x (i 1))) e2
/-- The result: each row of it normalised. -/
theorem ref_fin (F : FVec Ideal S2048 .f32) (i : S49152x2048.Idx) :
    val_main_v40 (F := Ideal) X N W O F i = fin (fun x => X (ix2 (i 0) x) + ∑ s ∈ Finset.range 11, part X N W O (i 0) x s) (fun d => F (ix1 d)) (i 1) := by
  have e : val_main_v40 (F := Ideal) X N W O F i = fin (fun x => val_main_v27 (F := Ideal) X N W O (ix2 (i 0) x)) (fun d => F (ix1 d)) (i 1) := by
    unfold fin
    generalize e : val_main_v27 (F := Ideal) X N W O = Y
    pointwise [val_main_v40, val_main_v39, val_main_v38, val_main_v37, val_main_v36, val_main_v35, val_main_v34, val_main_v33, val_main_v32, val_main_v31,
      val_main_v30, val_main_v29, val_main_v28, val_main_cst_3, val_main_cst_4, val_main_cst_5, e]
  rw [e]
  exact congrArg (fun Y => fin Y (fun d => F (ix1 d)) (i 1)) (funext fun x => ref_out X N W O (ix2 (i 0) x))
end

/-! ## The claim of the last half-step -/

/-- The kernel's array is the reference's result. -/
theorem final (m : (ℓ : Loc Cert.LastIdeal.nD Cert.LastIdeal.τ Cert.LastIdeal.sig) → Buf (Elt Ideal) ℓ) (c : Dev Cert.LastIdeal.nD) :
    Cert.LastIdeal.Value.G6 (F := Ideal) m c = val_main_v40 (F := Ideal) (aX m c) (aN m c) (aW m c) (aO m c) (aF m c) :=
  funext fun i => (out_eq m c i).trans (ref_fin _ _ _ _ _ i).symm

end Cert.LastIdeal.LastHalf

end
-- ==== Proof.MergeRows.lean ====
module

public import proofs.«01_k».proof.Proof.Gen.MergeIdeal.Value
public import Idealize.ShloMosaic.Lib.Pipeline.ValueKit

@[expose] public section

set_option maxRecDepth 16384

noncomputable section

namespace Cert.MergeIdeal.Blend

open Cert.MergeIdeal Cert.MergeIdeal.Gen
open Idealize.ShloMosaic Idealize.ShloMosaic.TcCoe Idealize.SL.Sem

/-! ## Rows stored every R-th, read back in order -/

/-- Where a store of every R-th row lies: its head, its first row, and the literals. -/
def key {H : ℕ} (p : View.Piece (Elt Ideal) (⟨3, ![H, 1024, 128]⟩ : Shape) .f32) : List ℕ :=
  [p.1.off 0, p.1.off 1, p.1.off 2, p.1.size 0, p.1.size 1, p.1.size 2, p.1.stride 0, p.1.stride 1, p.1.stride 2]

/-- The stores of all heads and all first rows, the last one first. -/
def keys (H R N : ℕ) : List (List ℕ) :=
  (List.range (H * R)).map fun i => [(H * R - 1 - i) % H, (H * R - 1 - i) / H, 0, 1, N, 128, 1, R, 1]

theorem read_rows {H R N : ℕ} (hR : 0 < R) (hN : R * N = 1024) (L : List (View.Piece (Elt Ideal) (⟨3, ![H, 1024, 128]⟩ : Shape) .f32))
    (G : (⟨3, ![H, 1024, 128]⟩ : Shape).Idx → EReal) (hG : ∀ p ∈ L, ∀ x : p.1.shape.Idx, p.2 x = G (p.1.emb x))
    (hk : L.map key = keys H R N) (y : (⟨3, ![H, 1024, 128]⟩ : Shape).Idx) : View.canon L y = G y := by
  refine View.canon_apply_of_pieces G L hG y ?_
  have h0 : (y 0).val < H := (y 0).isLt
  have h1 : (y 1).val < 1024 := (y 1).isLt
  have h2 : (y 2).val < 128 := (y 2).isLt
  have hr : (y 1).val % R < R := Nat.mod_lt _ hR
  have hi : (y 1).val % R * H + (y 0).val < H * R := by
    have : ((y 1).val % R + 1) * H ≤ R * H := Nat.mul_le_mul_right H hr
    rw [Nat.add_mul, Nat.one_mul, Nat.mul_comm R] at this
    omega
  have hm : [(y 0).val, (y 1).val % R, 0, 1, N, 128, 1, R, 1] ∈ keys H R N := by
    refine List.mem_map.2 ⟨H * R - 1 - ((y 1).val % R * H + (y 0).val), List.mem_range.2 (by omega), ?_⟩
    have e : H * R - 1 - (H * R - 1 - ((y 1).val % R * H + (y 0).val)) = (y 0).val + H * ((y 1).val % R) := by rw [Nat.mul_comm _ H] at hi ⊢; omega
    rw [e, Nat.add_mul_div_left _ _ (Nat.zero_lt_of_lt h0), Nat.div_eq_of_lt h0, Nat.zero_add, Nat.add_mul_mod_self_left, Nat.mod_eq_of_lt h0]
  rw [← hk] at hm
  obtain ⟨p, hp, e⟩ := List.mem_map.1 hm
  refine ⟨p, hp, ?_⟩
  simp only [key, List.cons.injEq, and_true] at e
  obtain ⟨e0, e1, e2, e3, e4, e5, e6, e7, e8⟩ := e
  rw [LoadRect.mem_set]
  intro a
  match a with
  | ⟨0, _⟩ => exact ⟨0, by show 0 < p.1.size 0; omega, by show (y 0).val = p.1.off 0 + p.1.stride 0 * 0; omega⟩
  | ⟨1, _⟩ =>
    refine ⟨(y 1).val / R, ?_, ?_⟩
    · show _ < p.1.size 1
      rw [e4]; exact Nat.div_lt_of_lt_mul (by rw [hN]; exact h1)
    · show (y 1).val = p.1.off 1 + p.1.stride 1 * ((y 1).val / R)
      rw [e1, e7]; exact (Nat.mod_add_div _ _).symm
  | ⟨2, _⟩ => exact ⟨(y 2).val, by show _ < p.1.size 2; omega, by show (y 2).val = p.1.off 2 + p.1.stride 2 * (y 2).val; rw [e2, e8]; omega⟩

/-- What the staged outputs of a group cut in four hold, -/
def G4 (X : FVec Ideal S1x4x256x512 .f32) (y : S4x1024x128.Idx) : EReal :=
  X (ix4 0 ⟨(y 1).val % 4, Nat.mod_lt _ (by decide)⟩ ⟨(y 1).val / 4, by have h : (y 1).val < 1024 := (y 1).isLt; omega⟩
    ⟨128 * (y 0).val + (y 2).val, by have h : (y 0).val < 4 := (y 0).isLt; have h : (y 2).val < 128 := (y 2).isLt; omega⟩)

/-- of a group cut in sixteen, -/
def G16 (X : FVec Ideal S1x16x64x512 .f32) (y : S4x1024x128.Idx) : EReal :=
  X (ix4 0 ⟨(y 1).val % 16, Nat.mod_lt _ (by decide)⟩ ⟨(y 1).val / 16, by have h : (y 1).val < 1024 := (y 1).isLt; omega⟩
    ⟨128 * (y 0).val + (y 2).val, by have h : (y 0).val < 4 := (y 0).isLt; have h : (y 2).val < 128 := (y 2).isLt; omega⟩)

/-- and the staged log-sum-exps of each. -/
def g4 (X : FVec Ideal S1x4x256x128 .f32) (y : S1x1024x128.Idx) : EReal :=
  X (ix4 0 ⟨(y 1).val % 4, Nat.mod_lt _ (by decide)⟩ ⟨(y 1).val / 4, by have h : (y 1).val < 1024 := (y 1).isLt; omega⟩ (y 2))

def g16 (X : FVec Ideal S1x16x64x128 .f32) (y : S1x1024x128.Idx) : EReal :=
  X (ix4 0 ⟨(y 1).val % 16, Nat.mod_lt _ (by decide)⟩ ⟨(y 1).val / 16, by have h : (y 1).val < 1024 := (y 1).isLt; omega⟩ (y 2))

theorem pay4 (v : FVec Ideal S1x1x256x128 .f32) (y : S1x256x128.Idx) : k0_pay2 (F := Ideal) v y = v (ix4 0 0 (y 1) (y 2)) := by
  pointwise [k0_pay2]

theorem pay16 (v : FVec Ideal S1x1x64x128 .f32) (y : S1x64x128.Idx) : k0_pay26 (F := Ideal) v y = v (ix4 0 0 (y 1) (y 2)) := by
  pointwise [k0_pay26]

theorem piece4 (X : FVec Ideal S1x4x256x512 .f32) (h p w : ℕ) (hh : h < 4) (hp : p < 4) (hw : w = 128 * h) (inb) (inb') (sp) (x : S1x256x128.Idx) :
    k0_pay2 (F := Ideal) (View.ld X (Rect.unit (s := S1x4x256x512) ![0, p, 0, w] ![1, 1, 256, 128] inb)) x
      = G4 X ((⟨⟨![h, p, 0], ![1, 256, 128], ![1, 4, 1], inb'⟩, sp⟩ : Rect S4x1024x128).emb x) := by
  subst hw
  rw [pay4]
  have h0 : (x 0).val < 1 := (x 0).isLt
  have h1 : (x 1).val < 256 := (x 1).isLt
  refine congrArg X (funext fun a => Fin.ext ?_)
  match a with
  | ⟨0, _⟩ => rfl
  | ⟨1, _⟩ => show p + 1 * 0 = (p + 4 * (x 1).val) % 4; omega
  | ⟨2, _⟩ => show 0 + 1 * (x 1).val = (p + 4 * (x 1).val) / 4; omega
  | ⟨3, _⟩ => show 128 * h + 1 * (x 2).val = 128 * (h + 1 * (x 0).val) + (0 + 1 * (x 2).val); omega

theorem piece16 (X : FVec Ideal S1x16x64x512 .f32) (h p w : ℕ) (hh : h < 4) (hp : p < 16) (hw : w = 128 * h) (inb) (inb') (sp) (x : S1x64x128.Idx) :
    k0_pay26 (F := Ideal) (View.ld X (Rect.unit (s := S1x16x64x512) ![0, p, 0, w] ![1, 1, 64, 128] inb)) x
      = G16 X ((⟨⟨![h, p, 0], ![1, 64, 128], ![1, 16, 1], inb'⟩, sp⟩ : Rect S4x1024x128).emb x) := by
  subst hw
  rw [pay16]
  have h0 : (x 0).val < 1 := (x 0).isLt
  have h1 : (x 1).val < 64 := (x 1).isLt
  refine congrArg X (funext fun a => Fin.ext ?_)
  match a with
  | ⟨0, _⟩ => rfl
  | ⟨1, _⟩ => show p + 1 * 0 = (p + 16 * (x 1).val) % 16; omega
  | ⟨2, _⟩ => show 0 + 1 * (x 1).val = (p + 16 * (x 1).val) / 16; omega
  | ⟨3, _⟩ => show 128 * h + 1 * (x 2).val = 128 * (h + 1 * (x 0).val) + (0 + 1 * (x 2).val); omega

theorem lse4 (X : FVec Ideal S1x4x256x128 .f32) (p : ℕ) (hp : p < 4) (inb) (inb') (sp) (x : S1x256x128.Idx) :
    k0_pay2 (F := Ideal) (View.ld X (Rect.unit (s := S1x4x256x128) ![0, p, 0, 0] ![1, 1, 256, 128] inb)) x
      = g4 X ((⟨⟨![0, p, 0], ![1, 256, 128], ![1, 4, 1], inb'⟩, sp⟩ : Rect S1x1024x128).emb x) := by
  rw [pay4]
  have h0 : (x 0).val < 1 := (x 0).isLt
  have h1 : (x 1).val < 256 := (x 1).isLt
  refine congrArg X (funext fun a => Fin.ext ?_)
  match a with
  | ⟨0, _⟩ => rfl
  | ⟨1, _⟩ => show p + 1 * 0 = (p + 4 * (x 1).val) % 4; omega
  | ⟨2, _⟩ => show 0 + 1 * (x 1).val = (p + 4 * (x 1).val) / 4; omega
  | ⟨3, _⟩ => rfl

theorem lse16 (X : FVec Ideal S1x16x64x128 .f32) (p : ℕ) (hp : p < 16) (inb) (inb') (sp) (x : S1x64x128.Idx) :
    k0_pay26 (F := Ideal) (View.ld X (Rect.unit (s := S1x16x64x128) ![0, p, 0, 0] ![1, 1, 64, 128] inb)) x
      = g16 X ((⟨⟨![0, p, 0], ![1, 64, 128], ![1, 16, 1], inb'⟩, sp⟩ : Rect S1x1024x128).emb x) := by
  rw [pay16]
  have h0 : (x 0).val < 1 := (x 0).isLt
  have h1 : (x 1).val < 64 := (x 1).isLt
  refine congrArg X (funext fun a => Fin.ext ?_)
  match a with
  | ⟨0, _⟩ => rfl
  | ⟨1, _⟩ => show p + 1 * 0 = (p + 16 * (x 1).val) % 16; omega
  | ⟨2, _⟩ => show 0 + 1 * (x 1).val = (p + 16 * (x 1).val) / 16; omega
  | ⟨3, _⟩ => rfl

/-! ## The blend of three outputs -/

/-- Weights from log-sum-exps to base two, less the largest, over their sum. -/
def blend (l0 l1 l2 o0 o1 o2 : EReal) : EReal :=
  Ideal.div (Ideal.exp2 (l0 - max (max l0 l1) l2)) (Ideal.exp2 (l0 - max (max l0 l1) l2) + Ideal.exp2 (l1 - max (max l0 l1) l2) + Ideal.exp2 (l2 - max (max l0 l1) l2)) * o0
  + Ideal.div (Ideal.exp2 (l1 - max (max l0 l1) l2)) (Ideal.exp2 (l0 - max (max l0 l1) l2) + Ideal.exp2 (l1 - max (max l0 l1) l2) + Ideal.exp2 (l2 - max (max l0 l1) l2)) * o1
  + Ideal.div (Ideal.exp2 (l2 - max (max l0 l1) l2)) (Ideal.exp2 (l0 - max (max l0 l1) l2) + Ideal.exp2 (l1 - max (max l0 l1) l2) + Ideal.exp2 (l2 - max (max l0 l1) l2)) * o2

section
variable (l0 : FVec Ideal S1024x128 .f32) (l1 l2 : FVec Ideal S1x1024x128 .f32) (o0 : FVec Ideal S1024x128 .f32) (o1 o2 : FVec Ideal S1x1024x128 .f32) (x : S1024x128.Idx)

theorem head0 : k0_pay124 (F := Ideal) (k0_pay114 l2) (k0_pay115 l0 l1 l2) (k0_pay116 l0 l1 l2) (k0_pay117 l0 l1 l2) o0 o1 o2 x
    = blend (l0 (ix2 (x 0) 0)) (l1 (ix3 0 (x 0) 0)) (l2 (ix3 0 (x 0) 0)) (o0 x) (o1 (ix3 0 (x 0) (x 1))) (o2 (ix3 0 (x 0) (x 1))) := by
  unfold blend
  pointwise [k0_pay124, k0_pay123, k0_pay122, k0_pay121, k0_pay120, k0_pay119, k0_pay118, k0_pay117, k0_pay116, k0_pay115, k0_pay114, k0_pay113, k0_pay112]
  rfl

theorem head1 : k0_pay128 (F := Ideal) (k0_pay125 (k0_pay114 l2) (k0_pay115 l0 l1 l2) (k0_pay116 l0 l1 l2) (k0_pay117 l0 l1 l2) o0 o1)
      (k0_pay126 (k0_pay114 l2) (k0_pay115 l0 l1 l2) (k0_pay116 l0 l1 l2) (k0_pay117 l0 l1 l2)) (k0_pay127 o2) x
    = blend (l0 (ix2 (x 0) 1)) (l1 (ix3 0 (x 0) 1)) (l2 (ix3 0 (x 0) 1)) (o0 x) (o1 (ix3 0 (x 0) (x 1))) (o2 (ix3 0 (x 0) (x 1))) := by
  unfold blend
  pointwise [k0_pay128, k0_pay127, k0_pay126, k0_pay125, k0_pay123, k0_pay122, k0_pay121, k0_pay120, k0_pay119, k0_pay118, k0_pay117, k0_pay116, k0_pay115, k0_pay114, k0_pay113, k0_pay112]
  rfl

theorem head2 : k0_pay129 (F := Ideal) (k0_pay121 (k0_pay114 l2) (k0_pay115 l0 l1 l2) (k0_pay116 l0 l1 l2) (k0_pay117 l0 l1 l2))
      (k0_pay122 (k0_pay114 l2) (k0_pay115 l0 l1 l2) (k0_pay116 l0 l1 l2) (k0_pay117 l0 l1 l2))
      (k0_pay123 (k0_pay114 l2) (k0_pay115 l0 l1 l2) (k0_pay116 l0 l1 l2) (k0_pay117 l0 l1 l2)) o0 o1 o2 x
    = blend (l0 (ix2 (x 0) 2)) (l1 (ix3 0 (x 0) 2)) (l2 (ix3 0 (x 0) 2)) (o0 x) (o1 (ix3 0 (x 0) (x 1))) (o2 (ix3 0 (x 0) (x 1))) := by
  unfold blend
  pointwise [k0_pay129, k0_pay123, k0_pay122, k0_pay121, k0_pay120, k0_pay119, k0_pay118, k0_pay117, k0_pay116, k0_pay115, k0_pay114, k0_pay113, k0_pay112]
  rfl

theorem head3 : k0_pay1 (F := Ideal) (k0_pay130 (k0_pay121 (k0_pay114 l2) (k0_pay115 l0 l1 l2) (k0_pay116 l0 l1 l2) (k0_pay117 l0 l1 l2))
      (k0_pay122 (k0_pay114 l2) (k0_pay115 l0 l1 l2) (k0_pay116 l0 l1 l2) (k0_pay117 l0 l1 l2)) o0 o1)
      (k0_pay131 (k0_pay123 (k0_pay114 l2) (k0_pay115 l0 l1 l2) (k0_pay116 l0 l1 l2) (k0_pay117 l0 l1 l2))) (k0_pay132 o2) x
    = blend (l0 (ix2 (x 0) 3)) (l1 (ix3 0 (x 0) 3)) (l2 (ix3 0 (x 0) 3)) (o0 x) (o1 (ix3 0 (x 0) (x 1))) (o2 (ix3 0 (x 0) (x 1))) := by
  unfold blend
  pointwise [k0_pay1, k0_pay132, k0_pay131, k0_pay130, k0_pay123, k0_pay122, k0_pay121, k0_pay120, k0_pay119, k0_pay118, k0_pay117, k0_pay116, k0_pay115, k0_pay114, k0_pay113, k0_pay112]
  rfl
end

end Cert.MergeIdeal.Blend

end
-- ==== Proof.MergeLists.lean ====
module

public import proofs.«01_k».proof.Proof.MergeRows

@[expose] public section

set_option maxRecDepth 16384

noncomputable section

namespace Cert.MergeIdeal.Blend

open Cert.MergeIdeal Cert.MergeIdeal.Gen
open Idealize.ShloMosaic Idealize.ShloMosaic.TcCoe Idealize.SL.Sem

/-- A head's rows taken whole. -/
theorem box {H : ℕ} (o s : ℕ) (ho : o < H) (inb) (x : S1x1024x128.Idx) :
    (Rect.unit (s := ⟨3, ![H, 1024, 128]⟩) ![o, 0, 0] ![1, 1024, 128] inb).toLoadRect.idx x = (ix3 ⟨o, ho⟩ (x 1) (x 2) : (⟨3, ![H, 1024, 128]⟩ : Shape).Idx) := by
  have h0 : (x 0).val < 1 := (x 0).isLt
  refine funext fun a => Fin.ext ?_
  match a with
  | ⟨0, _⟩ => show o + 1 * (x 0).val = o; omega
  | ⟨1, _⟩ => show 0 + 1 * (x 1).val = (x 1).val; omega
  | ⟨2, _⟩ => show 0 + 1 * (x 2).val = (x 2).val; omega

/-- A fact of each entry, entry by entry. -/
theorem all_cons {S : Shape} {G : S.Idx → EReal} {a : View.Piece (Elt Ideal) S .f32} {l : List (View.Piece (Elt Ideal) S .f32)} (h : ∀ x : a.1.shape.Idx, a.2 x = G (a.1.emb x))
    (hs : ∀ p ∈ l, ∀ x : p.1.shape.Idx, p.2 x = G (p.1.emb x)) : ∀ p ∈ a :: l, ∀ x : p.1.shape.Idx, p.2 x = G (p.1.emb x) :=
  List.forall_mem_cons.2 ⟨h, hs⟩

/-- The store of every 4-th row from row p of head h. -/
def pc_o4 (X : Vec Ideal S1x4x256x512 .f32) (h w : ℕ) (hh : h < 4) (hw : w = 128 * h) (p : ℕ) (hp : p < 4) (P : Vec Ideal S1x1x256x128 .f32 → Vec Ideal S1x256x128 .f32) : View.Piece (Elt Ideal) (⟨3, ![4, 1024, 128]⟩ : Shape) .f32 :=
  ⟨⟨⟨![h, p, 0], ![1, 256, 128], ![1, 4, 1], fun a => by
      match a with
      | ⟨0, _⟩ => exact Or.inr (show h + 1 * (1 - 1) < 4 by omega)
      | ⟨1, _⟩ => exact Or.inr (show p + 4 * (256 - 1) < 1024 by omega)
      | ⟨2, _⟩ => exact Or.inr (show 0 + 1 * (128 - 1) < 128 by omega)⟩,
    fun a => by
      match a with
      | ⟨0, _⟩ => exact (by decide : 0 < 1)
      | ⟨1, _⟩ => exact (by decide : 0 < 4)
      | ⟨2, _⟩ => exact (by decide : 0 < 1)⟩,
    P (View.ld (Val := Elt Ideal) (e' := .f32) X (Rect.unit (s := S1x4x256x512) ![0, p, 0, w] ![1, 1, 256, 128] fun a => by
      match a with
      | ⟨0, _⟩ => exact (by decide : 0 + 1 ≤ 1)
      | ⟨1, _⟩ => exact (show p + 1 ≤ 4 by omega)
      | ⟨2, _⟩ => exact (by decide : 0 + 256 ≤ 256)
      | ⟨3, _⟩ => exact (show w + 128 ≤ 512 by omega)))⟩

theorem ok_o4 (X : Vec Ideal S1x4x256x512 .f32) (h w : ℕ) (hh : h < 4) (hw : w = 128 * h) (p : ℕ) (hp : p < 4) (P : Vec Ideal S1x1x256x128 .f32 → Vec Ideal S1x256x128 .f32)
    (hP : ∀ v, P v = k0_pay2 (F := Ideal) v ) (x : S1x256x128.Idx) : (pc_o4 X h w hh hw p hp P).2 x = G4 X ((pc_o4 X h w hh hw p hp P).1.emb x) :=
  (congrFun (hP _) x).trans (piece4 X h p w hh hp hw _ _ _ x)

def L_o4 (X : Vec Ideal S1x4x256x512 .f32) : List (View.Piece (Elt Ideal) (⟨3, ![4, 1024, 128]⟩ : Shape) .f32) :=
  [pc_o4 X 3 384 (by decide) rfl 3 (by decide) (k0_pay19),
   pc_o4 X 2 256 (by decide) rfl 3 (by decide) (k0_pay18),
   pc_o4 X 1 128 (by decide) rfl 3 (by decide) (fun v => k0_pay17 (k0_pay16 v)),
   pc_o4 X 0 0 (by decide) rfl 3 (by decide) (k0_pay15),
   pc_o4 X 3 384 (by decide) rfl 2 (by decide) (k0_pay14),
   pc_o4 X 2 256 (by decide) rfl 2 (by decide) (k0_pay13),
   pc_o4 X 1 128 (by decide) rfl 2 (by decide) (k0_pay12),
   pc_o4 X 0 0 (by decide) rfl 2 (by decide) (k0_pay11),
   pc_o4 X 3 384 (by decide) rfl 1 (by decide) (k0_pay10),
   pc_o4 X 2 256 (by decide) rfl 1 (by decide) (k0_pay9),
   pc_o4 X 1 128 (by decide) rfl 1 (by decide) (k0_pay8),
   pc_o4 X 0 0 (by decide) rfl 1 (by decide) (fun v => k0_pay7 (k0_pay6 v)),
   pc_o4 X 3 384 (by decide) rfl 0 (by decide) (k0_pay5),
   pc_o4 X 2 256 (by decide) rfl 0 (by decide) (k0_pay4),
   pc_o4 X 1 128 (by decide) rfl 0 (by decide) (k0_pay3),
   pc_o4 X 0 0 (by decide) rfl 0 (by decide) (k0_pay2)]

theorem all_o4 (X : Vec Ideal S1x4x256x512 .f32) : ∀ p ∈ L_o4 X, ∀ x : p.1.shape.Idx, p.2 x = G4 X (p.1.emb x) := by
  unfold L_o4
  exact
   all_cons (ok_o4 X 3 384 (by decide) rfl 3 (by decide) _ fun _ => rfl) <|
   all_cons (ok_o4 X 2 256 (by decide) rfl 3 (by decide) _ fun _ => rfl) <|
   all_cons (ok_o4 X 1 128 (by decide) rfl 3 (by decide) _ fun _ => rfl) <|
   all_cons (ok_o4 X 0 0 (by decide) rfl 3 (by decide) _ fun _ => rfl) <|
   all_cons (ok_o4 X 3 384 (by decide) rfl 2 (by decide) _ fun _ => rfl) <|
   all_cons (ok_o4 X 2 256 (by decide) rfl 2 (by decide) _ fun _ => rfl) <|
   all_cons (ok_o4 X 1 128 (by decide) rfl 2 (by decide) _ fun _ => rfl) <|
   all_cons (ok_o4 X 0 0 (by decide) rfl 2 (by decide) _ fun _ => rfl) <|
   all_cons (ok_o4 X 3 384 (by decide) rfl 1 (by decide) _ fun _ => rfl) <|
   all_cons (ok_o4 X 2 256 (by decide) rfl 1 (by decide) _ fun _ => rfl) <|
   all_cons (ok_o4 X 1 128 (by decide) rfl 1 (by decide) _ fun _ => rfl) <|
   all_cons (ok_o4 X 0 0 (by decide) rfl 1 (by decide) _ fun _ => rfl) <|
   all_cons (ok_o4 X 3 384 (by decide) rfl 0 (by decide) _ fun _ => rfl) <|
   all_cons (ok_o4 X 2 256 (by decide) rfl 0 (by decide) _ fun _ => rfl) <|
   all_cons (ok_o4 X 1 128 (by decide) rfl 0 (by decide) _ fun _ => rfl) <|
   all_cons (ok_o4 X 0 0 (by decide) rfl 0 (by decide) _ fun _ => rfl) <|
   fun _ h => absurd h List.not_mem_nil

theorem read_o4 (X : Vec Ideal S1x4x256x512 .f32) {κ : Kind} {sp : Space} (v : View sig κ sp (⟨3, ![4, 1024, 128]⟩ : Shape) .f32) (o : ℕ) (h : Fin 4) (ho : h.val = o) (inb) (z : S1x1024x128.Idx) :
    v.readCov (L_o4 X) (Rect.unit (s := ⟨3, ![4, 1024, 128]⟩) ![o, 0, 0] ![1, 1024, 128] inb).toLoadRect z = G4 X (ix3 h (z 1) (z 2)) := by
  subst ho
  rw [View.readCov_eq_canon']
  exact (read_rows (H := 4) (R := 4) (N := 256) (by decide) rfl _ (G4 X) (all_o4 X) rfl _).trans (congrArg (G4 X) (box h.val 0 h.isLt inb z))

/-- The store of every 16-th row from row p of head h. -/
def pc_o16 (X : Vec Ideal S1x16x64x512 .f32) (h w : ℕ) (hh : h < 4) (hw : w = 128 * h) (p : ℕ) (hp : p < 16) (P : Vec Ideal S1x1x64x128 .f32 → Vec Ideal S1x64x128 .f32) : View.Piece (Elt Ideal) (⟨3, ![4, 1024, 128]⟩ : Shape) .f32 :=
  ⟨⟨⟨![h, p, 0], ![1, 64, 128], ![1, 16, 1], fun a => by
      match a with
      | ⟨0, _⟩ => exact Or.inr (show h + 1 * (1 - 1) < 4 by omega)
      | ⟨1, _⟩ => exact Or.inr (show p + 16 * (64 - 1) < 1024 by omega)
      | ⟨2, _⟩ => exact Or.inr (show 0 + 1 * (128 - 1) < 128 by omega)⟩,
    fun a => by
      match a with
      | ⟨0, _⟩ => exact (by decide : 0 < 1)
      | ⟨1, _⟩ => exact (by decide : 0 < 16)
      | ⟨2, _⟩ => exact (by decide : 0 < 1)⟩,
    P (View.ld (Val := Elt Ideal) (e' := .f32) X (Rect.unit (s := S1x16x64x512) ![0, p, 0, w] ![1, 1, 64, 128] fun a => by
      match a with
      | ⟨0, _⟩ => exact (by decide : 0 + 1 ≤ 1)
      | ⟨1, _⟩ => exact (show p + 1 ≤ 16 by omega)
      | ⟨2, _⟩ => exact (by decide : 0 + 64 ≤ 64)
      | ⟨3, _⟩ => exact (show w + 128 ≤ 512 by omega)))⟩

theorem ok_o16 (X : Vec Ideal S1x16x64x512 .f32) (h w : ℕ) (hh : h < 4) (hw : w = 128 * h) (p : ℕ) (hp : p < 16) (P : Vec Ideal S1x1x64x128 .f32 → Vec Ideal S1x64x128 .f32)
    (hP : ∀ v, P v = k0_pay26 (F := Ideal) v ) (x : S1x64x128.Idx) : (pc_o16 X h w hh hw p hp P).2 x = G16 X ((pc_o16 X h w hh hw p hp P).1.emb x) :=
  (congrFun (hP _) x).trans (piece16 X h p w hh hp hw _ _ _ x)

def L_o16 (X : Vec Ideal S1x16x64x512 .f32) : List (View.Piece (Elt Ideal) (⟨3, ![4, 1024, 128]⟩ : Shape) .f32) :=
  [pc_o16 X 3 384 (by decide) rfl 15 (by decide) (k0_pay89),
   pc_o16 X 2 256 (by decide) rfl 15 (by decide) (k0_pay88),
   pc_o16 X 1 128 (by decide) rfl 15 (by decide) (k0_pay87),
   pc_o16 X 0 0 (by decide) rfl 15 (by decide) (k0_pay86),
   pc_o16 X 3 384 (by decide) rfl 14 (by decide) (k0_pay85),
   pc_o16 X 2 256 (by decide) rfl 14 (by decide) (k0_pay84),
   pc_o16 X 1 128 (by decide) rfl 14 (by decide) (fun v => k0_pay83 (k0_pay82 v)),
   pc_o16 X 0 0 (by decide) rfl 14 (by decide) (k0_pay81),
   pc_o16 X 3 384 (by decide) rfl 13 (by decide) (k0_pay80),
   pc_o16 X 2 256 (by decide) rfl 13 (by decide) (k0_pay79),
   pc_o16 X 1 128 (by decide) rfl 13 (by decide) (k0_pay78),
   pc_o16 X 0 0 (by decide) rfl 13 (by decide) (k0_pay77),
   pc_o16 X 3 384 (by decide) rfl 12 (by decide) (k0_pay76),
   pc_o16 X 2 256 (by decide) rfl 12 (by decide) (k0_pay75),
   pc_o16 X 1 128 (by decide) rfl 12 (by decide) (k0_pay74),
   pc_o16 X 0 0 (by decide) rfl 12 (by decide) (fun v => k0_pay73 (k0_pay72 v)),
   pc_o16 X 3 384 (by decide) rfl 11 (by decide) (k0_pay71),
   pc_o16 X 2 256 (by decide) rfl 11 (by decide) (k0_pay70),
   pc_o16 X 1 128 (by decide) rfl 11 (by decide) (k0_pay69),
   pc_o16 X 0 0 (by decide) rfl 11 (by decide) (k0_pay68),
   pc_o16 X 3 384 (by decide) rfl 10 (by decide) (k0_pay67),
   pc_o16 X 2 256 (by decide) rfl 10 (by decide) (k0_pay66),
   pc_o16 X 1 128 (by decide) rfl 10 (by decide) (k0_pay65),
   pc_o16 X 0 0 (by decide) rfl 10 (by decide) (k0_pay64),
   pc_o16 X 3 384 (by decide) rfl 9 (by decide) (k0_pay63),
   pc_o16 X 2 256 (by decide) rfl 9 (by decide) (k0_pay62),
   pc_o16 X 1 128 (by decide) rfl 9 (by decide) (k0_pay61),
   pc_o16 X 0 0 (by decide) rfl 9 (by decide) (k0_pay60),
   pc_o16 X 3 384 (by decide) rfl 8 (by decide) (k0_pay59),
   pc_o16 X 2 256 (by decide) rfl 8 (by decide) (fun v => k0_pay58 (k0_pay57 v)),
   pc_o16 X 1 128 (by decide) rfl 8 (by decide) (k0_pay56),
   pc_o16 X 0 0 (by decide) rfl 8 (by decide) (k0_pay55),
   pc_o16 X 3 384 (by decide) rfl 7 (by decide) (k0_pay54),
   pc_o16 X 2 256 (by decide) rfl 7 (by decide) (k0_pay53),
   pc_o16 X 1 128 (by decide) rfl 7 (by decide) (k0_pay52),
   pc_o16 X 0 0 (by decide) rfl 7 (by decide) (k0_pay51),
   pc_o16 X 3 384 (by decide) rfl 6 (by decide) (k0_pay50),
   pc_o16 X 2 256 (by decide) rfl 6 (by decide) (k0_pay49),
   pc_o16 X 1 128 (by decide) rfl 6 (by decide) (fun v => k0_pay48 (k0_pay47 v)),
   pc_o16 X 0 0 (by decide) rfl 6 (by decide) (k0_pay46),
   pc_o16 X 3 384 (by decide) rfl 5 (by decide) (k0_pay45),
   pc_o16 X 2 256 (by decide) rfl 5 (by decide) (k0_pay44),
   pc_o16 X 1 128 (by decide) rfl 5 (by decide) (k0_pay43),
   pc_o16 X 0 0 (by decide) rfl 5 (by decide) (fun v => k0_pay42 (k0_pay41 v)),
   pc_o16 X 3 384 (by decide) rfl 4 (by decide) (k0_pay40),
   pc_o16 X 2 256 (by decide) rfl 4 (by decide) (k0_pay39),
   pc_o16 X 1 128 (by decide) rfl 4 (by decide) (k0_pay38),
   pc_o16 X 0 0 (by decide) rfl 4 (by decide) (k0_pay37),
   pc_o16 X 3 384 (by decide) rfl 3 (by decide) (k0_pay36),
   pc_o16 X 2 256 (by decide) rfl 3 (by decide) (k0_pay35),
   pc_o16 X 1 128 (by decide) rfl 3 (by decide) (k0_pay34),
   pc_o16 X 0 0 (by decide) rfl 3 (by decide) (k0_pay33),
   pc_o16 X 3 384 (by decide) rfl 2 (by decide) (fun v => k0_pay32 (k0_pay31 v)),
   pc_o16 X 2 256 (by decide) rfl 2 (by decide) (k0_pay30),
   pc_o16 X 1 128 (by decide) rfl 2 (by decide) (k0_pay29),
   pc_o16 X 0 0 (by decide) rfl 2 (by decide) (k0_pay28),
   pc_o16 X 3 384 (by decide) rfl 1 (by decide) (k0_pay27),
   pc_o16 X 2 256 (by decide) rfl 1 (by decide) (k0_pay26),
   pc_o16 X 1 128 (by decide) rfl 1 (by decide) (k0_pay25),
   pc_o16 X 0 0 (by decide) rfl 1 (by decide) (k0_pay24),
   pc_o16 X 3 384 (by decide) rfl 0 (by decide) (k0_pay23),
   pc_o16 X 2 256 (by decide) rfl 0 (by decide) (k0_pay22),
   pc_o16 X 1 128 (by decide) rfl 0 (by decide) (k0_pay21),
   pc_o16 X 0 0 (by decide) rfl 0 (by decide) (k0_pay20)]

theorem all_o16 (X : Vec Ideal S1x16x64x512 .f32) : ∀ p ∈ L_o16 X, ∀ x : p.1.shape.Idx, p.2 x = G16 X (p.1.emb x) := by
  unfold L_o16
  exact
   all_cons (ok_o16 X 3 384 (by decide) rfl 15 (by decide) _ fun _ => rfl) <|
   all_cons (ok_o16 X 2 256 (by decide) rfl 15 (by decide) _ fun _ => rfl) <|
   all_cons (ok_o16 X 1 128 (by decide) rfl 15 (by decide) _ fun _ => rfl) <|
   all_cons (ok_o16 X 0 0 (by decide) rfl 15 (by decide) _ fun _ => rfl) <|
   all_cons (ok_o16 X 3 384 (by decide) rfl 14 (by decide) _ fun _ => rfl) <|
   all_cons (ok_o16 X 2 256 (by decide) rfl 14 (by decide) _ fun _ => rfl) <|
   all_cons (ok_o16 X 1 128 (by decide) rfl 14 (by decide) _ fun _ => rfl) <|
   all_cons (ok_o16 X 0 0 (by decide) rfl 14 (by decide) _ fun _ => rfl) <|
   all_cons (ok_o16 X 3 384 (by decide) rfl 13 (by decide) _ fun _ => rfl) <|
   all_cons (ok_o16 X 2 256 (by decide) rfl 13 (by decide) _ fun _ => rfl) <|
   all_cons (ok_o16 X 1 128 (by decide) rfl 13 (by decide) _ fun _ => rfl) <|
   all_cons (ok_o16 X 0 0 (by decide) rfl 13 (by decide) _ fun _ => rfl) <|
   all_cons (ok_o16 X 3 384 (by decide) rfl 12 (by decide) _ fun _ => rfl) <|
   all_cons (ok_o16 X 2 256 (by decide) rfl 12 (by decide) _ fun _ => rfl) <|
   all_cons (ok_o16 X 1 128 (by decide) rfl 12 (by decide) _ fun _ => rfl) <|
   all_cons (ok_o16 X 0 0 (by decide) rfl 12 (by decide) _ fun _ => rfl) <|
   all_cons (ok_o16 X 3 384 (by decide) rfl 11 (by decide) _ fun _ => rfl) <|
   all_cons (ok_o16 X 2 256 (by decide) rfl 11 (by decide) _ fun _ => rfl) <|
   all_cons (ok_o16 X 1 128 (by decide) rfl 11 (by decide) _ fun _ => rfl) <|
   all_cons (ok_o16 X 0 0 (by decide) rfl 11 (by decide) _ fun _ => rfl) <|
   all_cons (ok_o16 X 3 384 (by decide) rfl 10 (by decide) _ fun _ => rfl) <|
   all_cons (ok_o16 X 2 256 (by decide) rfl 10 (by decide) _ fun _ => rfl) <|
   all_cons (ok_o16 X 1 128 (by decide) rfl 10 (by decide) _ fun _ => rfl) <|
   all_cons (ok_o16 X 0 0 (by decide) rfl 10 (by decide) _ fun _ => rfl) <|
   all_cons (ok_o16 X 3 384 (by decide) rfl 9 (by decide) _ fun _ => rfl) <|
   all_cons (ok_o16 X 2 256 (by decide) rfl 9 (by decide) _ fun _ => rfl) <|
   all_cons (ok_o16 X 1 128 (by decide) rfl 9 (by decide) _ fun _ => rfl) <|
   all_cons (ok_o16 X 0 0 (by decide) rfl 9 (by decide) _ fun _ => rfl) <|
   all_cons (ok_o16 X 3 384 (by decide) rfl 8 (by decide) _ fun _ => rfl) <|
   all_cons (ok_o16 X 2 256 (by decide) rfl 8 (by decide) _ fun _ => rfl) <|
   all_cons (ok_o16 X 1 128 (by decide) rfl 8 (by decide) _ fun _ => rfl) <|
   all_cons (ok_o16 X 0 0 (by decide) rfl 8 (by decide) _ fun _ => rfl) <|
   all_cons (ok_o16 X 3 384 (by decide) rfl 7 (by decide) _ fun _ => rfl) <|
   all_cons (ok_o16 X 2 256 (by decide) rfl 7 (by decide) _ fun _ => rfl) <|
   all_cons (ok_o16 X 1 128 (by decide) rfl 7 (by decide) _ fun _ => rfl) <|
   all_cons (ok_o16 X 0 0 (by decide) rfl 7 (by decide) _ fun _ => rfl) <|
   all_cons (ok_o16 X 3 384 (by decide) rfl 6 (by decide) _ fun _ => rfl) <|
   all_cons (ok_o16 X 2 256 (by decide) rfl 6 (by decide) _ fun _ => rfl) <|
   all_cons (ok_o16 X 1 128 (by decide) rfl 6 (by decide) _ fun _ => rfl) <|
   all_cons (ok_o16 X 0 0 (by decide) rfl 6 (by decide) _ fun _ => rfl) <|
   all_cons (ok_o16 X 3 384 (by decide) rfl 5 (by decide) _ fun _ => rfl) <|
   all_cons (ok_o16 X 2 256 (by decide) rfl 5 (by decide) _ fun _ => rfl) <|
   all_cons (ok_o16 X 1 128 (by decide) rfl 5 (by decide) _ fun _ => rfl) <|
   all_cons (ok_o16 X 0 0 (by decide) rfl 5 (by decide) _ fun _ => rfl) <|
   all_cons (ok_o16 X 3 384 (by decide) rfl 4 (by decide) _ fun _ => rfl) <|
   all_cons (ok_o16 X 2 256 (by decide) rfl 4 (by decide) _ fun _ => rfl) <|
   all_cons (ok_o16 X 1 128 (by decide) rfl 4 (by decide) _ fun _ => rfl) <|
   all_cons (ok_o16 X 0 0 (by decide) rfl 4 (by decide) _ fun _ => rfl) <|
   all_cons (ok_o16 X 3 384 (by decide) rfl 3 (by decide) _ fun _ => rfl) <|
   all_cons (ok_o16 X 2 256 (by decide) rfl 3 (by decide) _ fun _ => rfl) <|
   all_cons (ok_o16 X 1 128 (by decide) rfl 3 (by decide) _ fun _ => rfl) <|
   all_cons (ok_o16 X 0 0 (by decide) rfl 3 (by decide) _ fun _ => rfl) <|
   all_cons (ok_o16 X 3 384 (by decide) rfl 2 (by decide) _ fun _ => rfl) <|
   all_cons (ok_o16 X 2 256 (by decide) rfl 2 (by decide) _ fun _ => rfl) <|
   all_cons (ok_o16 X 1 128 (by decide) rfl 2 (by decide) _ fun _ => rfl) <|
   all_cons (ok_o16 X 0 0 (by decide) rfl 2 (by decide) _ fun _ => rfl) <|
   all_cons (ok_o16 X 3 384 (by decide) rfl 1 (by decide) _ fun _ => rfl) <|
   all_cons (ok_o16 X 2 256 (by decide) rfl 1 (by decide) _ fun _ => rfl) <|
   all_cons (ok_o16 X 1 128 (by decide) rfl 1 (by decide) _ fun _ => rfl) <|
   all_cons (ok_o16 X 0 0 (by decide) rfl 1 (by decide) _ fun _ => rfl) <|
   all_cons (ok_o16 X 3 384 (by decide) rfl 0 (by decide) _ fun _ => rfl) <|
   all_cons (ok_o16 X 2 256 (by decide) rfl 0 (by decide) _ fun _ => rfl) <|
   all_cons (ok_o16 X 1 128 (by decide) rfl 0 (by decide) _ fun _ => rfl) <|
   all_cons (ok_o16 X 0 0 (by decide) rfl 0 (by decide) _ fun _ => rfl) <|
   fun _ h => absurd h List.not_mem_nil

theorem read_o16 (X : Vec Ideal S1x16x64x512 .f32) {κ : Kind} {sp : Space} (v : View sig κ sp (⟨3, ![4, 1024, 128]⟩ : Shape) .f32) (o : ℕ) (h : Fin 4) (ho : h.val = o) (inb) (z : S1x1024x128.Idx) :
    v.readCov (L_o16 X) (Rect.unit (s := ⟨3, ![4, 1024, 128]⟩) ![o, 0, 0] ![1, 1024, 128] inb).toLoadRect z = G16 X (ix3 h (z 1) (z 2)) := by
  subst ho
  rw [View.readCov_eq_canon']
  exact (read_rows (H := 4) (R := 16) (N := 64) (by decide) rfl _ (G16 X) (all_o16 X) rfl _).trans (congrArg (G16 X) (box h.val 0 h.isLt inb z))

/-- The store of every 4-th row from row p. -/
def pc_l4 (X : Vec Ideal S1x4x256x128 .f32) (p : ℕ) (hp : p < 4) (P : Vec Ideal S1x1x256x128 .f32 → Vec Ideal S1x256x128 .f32) : View.Piece (Elt Ideal) (⟨3, ![1, 1024, 128]⟩ : Shape) .f32 :=
  ⟨⟨⟨![0, p, 0], ![1, 256, 128], ![1, 4, 1], fun a => by
      match a with
      | ⟨0, _⟩ => exact Or.inr (show 0 + 1 * (1 - 1) < 1 by omega)
      | ⟨1, _⟩ => exact Or.inr (show p + 4 * (256 - 1) < 1024 by omega)
      | ⟨2, _⟩ => exact Or.inr (show 0 + 1 * (128 - 1) < 128 by omega)⟩,
    fun a => by
      match a with
      | ⟨0, _⟩ => exact (by decide : 0 < 1)
      | ⟨1, _⟩ => exact (by decide : 0 < 4)
      | ⟨2, _⟩ => exact (by decide : 0 < 1)⟩,
    P (View.ld (Val := Elt Ideal) (e' := .f32) X (Rect.unit (s := S1x4x256x128) ![0, p, 0, 0] ![1, 1, 256, 128] fun a => by
      match a with
      | ⟨0, _⟩ => exact (by decide : 0 + 1 ≤ 1)
      | ⟨1, _⟩ => exact (show p + 1 ≤ 4 by omega)
      | ⟨2, _⟩ => exact (by decide : 0 + 256 ≤ 256)
      | ⟨3, _⟩ => exact (show 0 + 128 ≤ 128 by omega)))⟩

theorem ok_l4 (X : Vec Ideal S1x4x256x128 .f32) (p : ℕ) (hp : p < 4) (P : Vec Ideal S1x1x256x128 .f32 → Vec Ideal S1x256x128 .f32)
    (hP : ∀ v, P v = k0_pay2 (F := Ideal) v ) (x : S1x256x128.Idx) : (pc_l4 X p hp P).2 x = g4 X ((pc_l4 X p hp P).1.emb x) :=
  (congrFun (hP _) x).trans (lse4 X p hp _ _ _ x)

def L_l4 (X : Vec Ideal S1x4x256x128 .f32) : List (View.Piece (Elt Ideal) (⟨3, ![1, 1024, 128]⟩ : Shape) .f32) :=
  [pc_l4 X 3 (by decide) (k0_pay93),
   pc_l4 X 2 (by decide) (k0_pay92),
   pc_l4 X 1 (by decide) (k0_pay91),
   pc_l4 X 0 (by decide) (k0_pay90)]

theorem all_l4 (X : Vec Ideal S1x4x256x128 .f32) : ∀ p ∈ L_l4 X, ∀ x : p.1.shape.Idx, p.2 x = g4 X (p.1.emb x) := by
  unfold L_l4
  exact
   all_cons (ok_l4 X 3 (by decide) _ fun _ => rfl) <|
   all_cons (ok_l4 X 2 (by decide) _ fun _ => rfl) <|
   all_cons (ok_l4 X 1 (by decide) _ fun _ => rfl) <|
   all_cons (ok_l4 X 0 (by decide) _ fun _ => rfl) <|
   fun _ h => absurd h List.not_mem_nil

theorem read_l4 (X : Vec Ideal S1x4x256x128 .f32) {κ : Kind} {sp : Space} (v : View sig κ sp (⟨3, ![1, 1024, 128]⟩ : Shape) .f32) (o : ℕ) (h : Fin 1) (ho : h.val = o) (inb) (z : S1x1024x128.Idx) :
    v.readCov (L_l4 X) (Rect.unit (s := ⟨3, ![1, 1024, 128]⟩) ![o, 0, 0] ![1, 1024, 128] inb).toLoadRect z = g4 X (ix3 h (z 1) (z 2)) := by
  subst ho
  rw [View.readCov_eq_canon']
  exact (read_rows (H := 1) (R := 4) (N := 256) (by decide) rfl _ (g4 X) (all_l4 X) rfl _).trans (congrArg (g4 X) (box h.val 0 h.isLt inb z))

/-- The store of every 16-th row from row p. -/
def pc_l16 (X : Vec Ideal S1x16x64x128 .f32) (p : ℕ) (hp : p < 16) (P : Vec Ideal S1x1x64x128 .f32 → Vec Ideal S1x64x128 .f32) : View.Piece (Elt Ideal) (⟨3, ![1, 1024, 128]⟩ : Shape) .f32 :=
  ⟨⟨⟨![0, p, 0], ![1, 64, 128], ![1, 16, 1], fun a => by
      match a with
      | ⟨0, _⟩ => exact Or.inr (show 0 + 1 * (1 - 1) < 1 by omega)
      | ⟨1, _⟩ => exact Or.inr (show p + 16 * (64 - 1) < 1024 by omega)
      | ⟨2, _⟩ => exact Or.inr (show 0 + 1 * (128 - 1) < 128 by omega)⟩,
    fun a => by
      match a with
      | ⟨0, _⟩ => exact (by decide : 0 < 1)
      | ⟨1, _⟩ => exact (by decide : 0 < 16)
      | ⟨2, _⟩ => exact (by decide : 0 < 1)⟩,
    P (View.ld (Val := Elt Ideal) (e' := .f32) X (Rect.unit (s := S1x16x64x128) ![0, p, 0, 0] ![1, 1, 64, 128] fun a => by
      match a with
      | ⟨0, _⟩ => exact (by decide : 0 + 1 ≤ 1)
      | ⟨1, _⟩ => exact (show p + 1 ≤ 16 by omega)
      | ⟨2, _⟩ => exact (by decide : 0 + 64 ≤ 64)
      | ⟨3, _⟩ => exact (show 0 + 128 ≤ 128 by omega)))⟩

theorem ok_l16 (X : Vec Ideal S1x16x64x128 .f32) (p : ℕ) (hp : p < 16) (P : Vec Ideal S1x1x64x128 .f32 → Vec Ideal S1x64x128 .f32)
    (hP : ∀ v, P v = k0_pay26 (F := Ideal) v ) (x : S1x64x128.Idx) : (pc_l16 X p hp P).2 x = g16 X ((pc_l16 X p hp P).1.emb x) :=
  (congrFun (hP _) x).trans (lse16 X p hp _ _ _ x)

def L_l16 (X : Vec Ideal S1x16x64x128 .f32) : List (View.Piece (Elt Ideal) (⟨3, ![1, 1024, 128]⟩ : Shape) .f32) :=
  [pc_l16 X 15 (by decide) (k0_pay111),
   pc_l16 X 14 (by decide) (k0_pay110),
   pc_l16 X 13 (by decide) (k0_pay109),
   pc_l16 X 12 (by decide) (fun v => k0_pay108 (k0_pay107 v)),
   pc_l16 X 11 (by decide) (k0_pay106),
   pc_l16 X 10 (by decide) (k0_pay105),
   pc_l16 X 9 (by decide) (k0_pay104),
   pc_l16 X 8 (by decide) (k0_pay103),
   pc_l16 X 7 (by decide) (k0_pay102),
   pc_l16 X 6 (by decide) (k0_pay101),
   pc_l16 X 5 (by decide) (k0_pay100),
   pc_l16 X 4 (by decide) (k0_pay99),
   pc_l16 X 3 (by decide) (fun v => k0_pay98 (k0_pay97 v)),
   pc_l16 X 2 (by decide) (k0_pay96),
   pc_l16 X 1 (by decide) (k0_pay95),
   pc_l16 X 0 (by decide) (k0_pay94)]

theorem all_l16 (X : Vec Ideal S1x16x64x128 .f32) : ∀ p ∈ L_l16 X, ∀ x : p.1.shape.Idx, p.2 x = g16 X (p.1.emb x) := by
  unfold L_l16
  exact
   all_cons (ok_l16 X 15 (by decide) _ fun _ => rfl) <|
   all_cons (ok_l16 X 14 (by decide) _ fun _ => rfl) <|
   all_cons (ok_l16 X 13 (by decide) _ fun _ => rfl) <|
   all_cons (ok_l16 X 12 (by decide) _ fun _ => rfl) <|
   all_cons (ok_l16 X 11 (by decide) _ fun _ => rfl) <|
   all_cons (ok_l16 X 10 (by decide) _ fun _ => rfl) <|
   all_cons (ok_l16 X 9 (by decide) _ fun _ => rfl) <|
   all_cons (ok_l16 X 8 (by decide) _ fun _ => rfl) <|
   all_cons (ok_l16 X 7 (by decide) _ fun _ => rfl) <|
   all_cons (ok_l16 X 6 (by decide) _ fun _ => rfl) <|
   all_cons (ok_l16 X 5 (by decide) _ fun _ => rfl) <|
   all_cons (ok_l16 X 4 (by decide) _ fun _ => rfl) <|
   all_cons (ok_l16 X 3 (by decide) _ fun _ => rfl) <|
   all_cons (ok_l16 X 2 (by decide) _ fun _ => rfl) <|
   all_cons (ok_l16 X 1 (by decide) _ fun _ => rfl) <|
   all_cons (ok_l16 X 0 (by decide) _ fun _ => rfl) <|
   fun _ h => absurd h List.not_mem_nil

theorem read_l16 (X : Vec Ideal S1x16x64x128 .f32) {κ : Kind} {sp : Space} (v : View sig κ sp (⟨3, ![1, 1024, 128]⟩ : Shape) .f32) (o : ℕ) (h : Fin 1) (ho : h.val = o) (inb) (z : S1x1024x128.Idx) :
    v.readCov (L_l16 X) (Rect.unit (s := ⟨3, ![1, 1024, 128]⟩) ![o, 0, 0] ![1, 1024, 128] inb).toLoadRect z = g16 X (ix3 h (z 1) (z 2)) := by
  subst ho
  rw [View.readCov_eq_canon']
  exact (read_rows (H := 1) (R := 16) (N := 64) (by decide) rfl _ (g16 X) (all_l16 X) rfl _).trans (congrArg (g16 X) (box h.val 0 h.isLt inb z))

end Cert.MergeIdeal.Blend

end
-- ==== Proof.MergeTiles.lean ====
module

public import proofs.«01_k».proof.Proof.MergeLists

@[expose] public section

set_option maxRecDepth 16384

noncomputable section

namespace Cert.MergeIdeal.Blend

open Cert.MergeIdeal Cert.MergeIdeal.Gen
open Idealize.ShloMosaic Idealize.ShloMosaic.TcCoe Idealize.SL.Sem

section
variable (m : (ℓ : Loc nD τ sig) → Buf (Elt Ideal) ℓ) (c : Dev nD)

/-- What a grid point leaves: at a row and a head's lane, the blend of the three groups' rows. -/
def left (t : Fin cfg0.N) (y : S1024x512.Idx) : EReal :=
  blend (iblk m c 3 t (ix2 (y 0) ⟨(y 1).val / 128, by have h : (y 1).val < 512 := (y 1).isLt; omega⟩))
    (g4 (iblk m c 4 t) (ix3 0 (y 0) ⟨(y 1).val / 128, by have h : (y 1).val < 512 := (y 1).isLt; omega⟩))
    (g16 (iblk m c 5 t) (ix3 0 (y 0) ⟨(y 1).val / 128, by have h : (y 1).val < 512 := (y 1).isLt; omega⟩))
    (iblk m c 0 t y)
    (G4 (iblk m c 1 t) (ix3 ⟨(y 1).val / 128, by have h : (y 1).val < 512 := (y 1).isLt; omega⟩ (y 0) ⟨(y 1).val % 128, Nat.mod_lt _ (by decide)⟩))
    (G16 (iblk m c 2 t) (ix3 ⟨(y 1).val / 128, by have h : (y 1).val < 512 := (y 1).isLt; omega⟩ (y 0) ⟨(y 1).val % 128, Nat.mod_lt _ (by decide)⟩))

/-- The blend at the lanes of head h, given what is read back. -/
theorem left_of (t : Fin cfg0.N) (y : S1024x512.Idx) (h : Fin 4) (x : S1024x128.Idx) (e0 : (y 0).val = (x 0).val) (e1 : (y 1).val = 128 * h.val + (x 1).val)
    (k : Fin 128) (hk : k.val = h.val) (P o0 : EReal) (l1 l2 o1 o2 : FVec Ideal S1x1024x128 .f32)
    (hP : P = blend (iblk m c 3 t (ix2 (x 0) k)) (l1 (ix3 0 (x 0) k)) (l2 (ix3 0 (x 0) k)) o0 (o1 (ix3 0 (x 0) (x 1))) (o2 (ix3 0 (x 0) (x 1))))
    (h0 : o0 = iblk m c 0 t y) (hl1 : ∀ z, l1 z = g4 (iblk m c 4 t) (ix3 0 (z 1) (z 2))) (hl2 : ∀ z, l2 z = g16 (iblk m c 5 t) (ix3 0 (z 1) (z 2)))
    (ho1 : ∀ z, o1 z = G4 (iblk m c 1 t) (ix3 h (z 1) (z 2))) (ho2 : ∀ z, o2 z = G16 (iblk m c 2 t) (ix3 h (z 1) (z 2))) :
    P = left m c t y := by
  have hx : (x 1).val < 128 := (x 1).isLt
  have d0 : y 0 = x 0 := Fin.ext e0
  have d1 : (y 1).val / 128 = h.val := by omega
  have d2 : (y 1).val % 128 = (x 1).val := by omega
  have hl : left m c t y = blend (iblk m c 3 t (ix2 (x 0) k)) (g4 (iblk m c 4 t) (ix3 0 (x 0) k)) (g16 (iblk m c 5 t) (ix3 0 (x 0) k)) (iblk m c 0 t y)
      (G4 (iblk m c 1 t) (ix3 h (x 0) (x 1))) (G16 (iblk m c 2 t) (ix3 h (x 0) (x 1))) := by
    unfold left
    have k1 : ∀ hk' : (y 1).val / 128 < 128, (⟨(y 1).val / 128, hk'⟩ : Fin 128) = k := fun _ => Fin.ext (d1.trans hk.symm)
    have k2 : ∀ hk' : (y 1).val / 128 < 4, (⟨(y 1).val / 128, hk'⟩ : Fin 4) = h := fun _ => Fin.ext d1
    have k3 : ∀ hk' : (y 1).val % 128 < 128, (⟨(y 1).val % 128, hk'⟩ : Fin 128) = x 1 := fun _ => Fin.ext d2
    rw [k1, k2, k3, d0]
  rw [hP, h0, hl1, hl2, ho1, ho2, hl]
  rfl

theorem ld_block (t : Fin cfg0.N) (o : ℕ) (inb) (x : S1024x128.Idx) (y : S1024x512.Idx) (e0 : (y 0).val = (x 0).val) (e1 : (y 1).val = o + (x 1).val) :
    View.ld (iblk (F := Ideal) m c 0 t) (Rect.unit (s := S1024x512) ![0, o] ![1024, 128] inb) x = iblk m c 0 t y := by
  refine congrArg (iblk (F := Ideal) m c 0 t) (funext fun a => Fin.ext ?_)
  match a with
  | ⟨0, _⟩ => show 0 + 1 * (x 0).val = (y 0).val; omega
  | ⟨1, _⟩ => show o + 1 * (x 1).val = (y 1).val; omega

set_option maxHeartbeats 2000000 in
theorem tile (t : Fin cfg0.N) (y : S1024x512.Idx) : outsAt0 (F := Ideal) m c t y = left m c t y := by
  unfold outsAt0
  frame_out
  canon_tiles x h
  · refine left_of m c t y 3 x ?_ ?_ 3 rfl _ _ _ _ _ _ (head3 _ _ _ _ _ _ x) ?_ ?_ ?_ ?_ ?_
    · omega
    · show (y 1).val = 128 * 3 + (x 1).val; omega
    · exact ld_block m c t _ _ x y (by omega) (by omega)
    · exact fun z => read_l4 (iblk m c 4 t) _ 0 0 rfl _ z
    · exact fun z => read_l16 (iblk m c 5 t) _ 0 0 rfl _ z
    · exact fun z => read_o4 (iblk m c 1 t) _ 3 3 rfl _ z
    · exact fun z => read_o16 (iblk m c 2 t) _ 3 3 rfl _ z
  · refine left_of m c t y 2 x ?_ ?_ 2 rfl _ _ _ _ _ _ (head2 _ _ _ _ _ _ x) ?_ ?_ ?_ ?_ ?_
    · omega
    · show (y 1).val = 128 * 2 + (x 1).val; omega
    · exact ld_block m c t _ _ x y (by omega) (by omega)
    · exact fun z => read_l4 (iblk m c 4 t) _ 0 0 rfl _ z
    · exact fun z => read_l16 (iblk m c 5 t) _ 0 0 rfl _ z
    · exact fun z => read_o4 (iblk m c 1 t) _ 2 2 rfl _ z
    · exact fun z => read_o16 (iblk m c 2 t) _ 2 2 rfl _ z
  · refine left_of m c t y 1 x ?_ ?_ 1 rfl _ _ _ _ _ _ (head1 _ _ _ _ _ _ x) ?_ ?_ ?_ ?_ ?_
    · omega
    · show (y 1).val = 128 * 1 + (x 1).val; omega
    · exact ld_block m c t _ _ x y (by omega) (by omega)
    · exact fun z => read_l4 (iblk m c 4 t) _ 0 0 rfl _ z
    · exact fun z => read_l16 (iblk m c 5 t) _ 0 0 rfl _ z
    · exact fun z => read_o4 (iblk m c 1 t) _ 1 1 rfl _ z
    · exact fun z => read_o16 (iblk m c 2 t) _ 1 1 rfl _ z
  · refine left_of m c t y 0 x ?_ ?_ 0 rfl _ _ _ _ _ _ (head0 _ _ _ _ _ _ x) ?_ ?_ ?_ ?_ ?_
    · omega
    · show (y 1).val = 128 * 0 + (x 1).val; omega
    · exact ld_block m c t _ _ x y (by omega) (by omega)
    · exact fun z => read_l4 (iblk m c 4 t) _ 0 0 rfl _ z
    · exact fun z => read_l16 (iblk m c 5 t) _ 0 0 rfl _ z
    · exact fun z => read_o4 (iblk m c 1 t) _ 0 0 rfl _ z
    · exact fun z => read_o16 (iblk m c 2 t) _ 0 0 rfl _ z

end

end Cert.MergeIdeal.Blend

end
-- ==== Proof.MergeValue.lean ====
module

public import proofs.«01_k».proof.Proof.MergeTiles

@[expose] public section

set_option maxRecDepth 16384

noncomputable section

namespace Cert.MergeIdeal.Blend

open Cert.MergeIdeal Cert.MergeIdeal.Gen Cert.MergeIdeal.Value
open Idealize.ShloMosaic Idealize.ShloMosaic.TcCoe Idealize.SL.Sem
open Idealize.ShloMosaic.Pipeline (Dat)

/-- Where each window lies. -/
theorem idx : ∀ t : Fin cfg0.N, win0_0.index t = ![t.val, 0] ∧ win0_1.index t = ![t.val / 16, 0, t.val % 16, 0] ∧ win0_2.index t = ![t.val / 16, 0, t.val % 16, 0]
    ∧ win0_3.index t = ![t.val, 0] ∧ win0_4.index t = ![t.val / 16, 0, t.val % 16, 0] ∧ win0_5.index t = ![t.val / 16, 0, t.val % 16, 0]
    ∧ win0_6.index t = ![t.val, 0] ∧ t.val < 48 :=
  (by decide +kernel : ∀ t : Fin grid0.N, _)

section
variable (m : (ℓ : Loc nD τ sig) → Buf (Elt Ideal) ℓ) (c : Dev nD)

/-- The groups' outputs and log-sum-exps. -/
def a0 : S3x16384x512.Idx → EReal := m ((c : Thread nD τ).loc main_arg0)
def a1 : S12x4096x512.Idx → EReal := m ((c : Thread nD τ).loc main_arg1)
def a2 : S48x1024x512.Idx → EReal := m ((c : Thread nD τ).loc main_arg2)
def a3 : S3x16384x128.Idx → EReal := m ((c : Thread nD τ).loc main_arg3)
def a4 : S12x4096x128.Idx → EReal := m ((c : Thread nD τ).loc main_arg4)
def a5 : S48x1024x128.Idx → EReal := m ((c : Thread nD τ).loc main_arg5)

section
variable (t : Fin cfg0.N) (b : Fin 3) (s : Fin 16384)

theorem blk0 (y : S1024x512.Idx) (hr : 16384 * b.val + s.val = 1024 * t.val + (y 0).val) : iblk (F := Ideal) m c 0 t y = a0 m c (ix3 b s (y 1)) := by
  blk_point [iblk, V, idx t]
theorem blk3 (y : S1024x128.Idx) (hr : 16384 * b.val + s.val = 1024 * t.val + (y 0).val) : iblk (F := Ideal) m c 3 t y = a3 m c (ix3 b s (y 1)) := by
  blk_point [iblk, V, idx t]
theorem blk1 (y : S1x4x256x512.Idx) (r : Fin 12) (q : Fin 4096) (hr : r.val = 4 * (t.val / 16) + (y 1).val) (hq : q.val = 256 * (t.val % 16) + (y 2).val) :
    iblk (F := Ideal) m c 1 t y = a1 m c (ix3 r q (y 3)) := by
  blk_point [iblk, V, idx t]
theorem blk4 (y : S1x4x256x128.Idx) (r : Fin 12) (q : Fin 4096) (hr : r.val = 4 * (t.val / 16) + (y 1).val) (hq : q.val = 256 * (t.val % 16) + (y 2).val) :
    iblk (F := Ideal) m c 4 t y = a4 m c (ix3 r q (y 3)) := by
  blk_point [iblk, V, idx t]
theorem blk2 (y : S1x16x64x512.Idx) (r : Fin 48) (q : Fin 1024) (hr : r.val = 16 * (t.val / 16) + (y 1).val) (hq : q.val = 64 * (t.val % 16) + (y 2).val) :
    iblk (F := Ideal) m c 2 t y = a2 m c (ix3 r q (y 3)) := by
  blk_point [iblk, V, idx t]
theorem blk5 (y : S1x16x64x128.Idx) (r : Fin 48) (q : Fin 1024) (hr : r.val = 16 * (t.val / 16) + (y 1).val) (hq : q.val = 64 * (t.val % 16) + (y 2).val) :
    iblk (F := Ideal) m c 5 t y = a5 m c (ix3 r q (y 3)) := by
  blk_point [iblk, V, idx t]
end

/-- What a point leaves, from the arrays. -/
theorem left_eq (t : Fin cfg0.N) (b : Fin 3) (s : Fin 16384) (h : Fin 4) (d : Fin 128) (y : S1024x512.Idx)
    (hr : 16384 * b.val + s.val = 1024 * t.val + (y 0).val) (hl : (y 1).val = 128 * h.val + d.val) :
    left m c t y = blend (a3 m c (ix3 b s ⟨h.val, by omega⟩)) (a4 m c (ix3 ⟨b.val * 4 + s.val % 4, by omega⟩ ⟨s.val / 4, by omega⟩ ⟨h.val, by omega⟩))
        (a5 m c (ix3 ⟨b.val * 16 + s.val % 16, by omega⟩ ⟨s.val / 16, by omega⟩ ⟨h.val, by omega⟩))
        (a0 m c (ix3 b s ⟨h.val * 128 + d.val, by omega⟩)) (a1 m c (ix3 ⟨b.val * 4 + s.val % 4, by omega⟩ ⟨s.val / 4, by omega⟩ ⟨h.val * 128 + d.val, by omega⟩))
        (a2 m c (ix3 ⟨b.val * 16 + s.val % 16, by omega⟩ ⟨s.val / 16, by omega⟩ ⟨h.val * 128 + d.val, by omega⟩)) := by
  have hy : (y 0).val < 1024 := (y 0).isLt
  have hb := b.isLt; have hs := s.isLt; have hh := h.isLt; have hd := d.isLt
  have ht : t.val < 48 := (idx t).2.2.2.2.2.2.2
  have d1 : (y 1).val / 128 = h.val := by omega
  have d2 : (y 1).val % 128 = d.val := by omega
  have e3 := blk3 m c t b s (ix2 (y 0) ⟨h.val, by omega⟩) hr
  have e0 := blk0 m c t b s y hr
  have e4 := blk4 m c t (ix4 0 ⟨(y 0).val % 4, by omega⟩ ⟨(y 0).val / 4, by omega⟩ ⟨h.val, by omega⟩) ⟨b.val * 4 + s.val % 4, by omega⟩ ⟨s.val / 4, by omega⟩
    (by show b.val * 4 + s.val % 4 = 4 * (t.val / 16) + (y 0).val % 4; omega) (by show s.val / 4 = 256 * (t.val % 16) + (y 0).val / 4; omega)
  have e1 := blk1 m c t (ix4 0 ⟨(y 0).val % 4, by omega⟩ ⟨(y 0).val / 4, by omega⟩ ⟨128 * h.val + d.val, by omega⟩) ⟨b.val * 4 + s.val % 4, by omega⟩ ⟨s.val / 4, by omega⟩
    (by show b.val * 4 + s.val % 4 = 4 * (t.val / 16) + (y 0).val % 4; omega) (by show s.val / 4 = 256 * (t.val % 16) + (y 0).val / 4; omega)
  have e5 := blk5 m c t (ix4 0 ⟨(y 0).val % 16, by omega⟩ ⟨(y 0).val / 16, by omega⟩ ⟨h.val, by omega⟩) ⟨b.val * 16 + s.val % 16, by omega⟩ ⟨s.val / 16, by omega⟩
    (by show b.val * 16 + s.val % 16 = 16 * (t.val / 16) + (y 0).val % 16; omega) (by show s.val / 16 = 64 * (t.val % 16) + (y 0).val / 16; omega)
  have e2 := blk2 m c t (ix4 0 ⟨(y 0).val % 16, by omega⟩ ⟨(y 0).val / 16, by omega⟩ ⟨128 * h.val + d.val, by omega⟩) ⟨b.val * 16 + s.val % 16, by omega⟩ ⟨s.val / 16, by omega⟩
    (by show b.val * 16 + s.val % 16 = 16 * (t.val / 16) + (y 0).val % 16; omega) (by show s.val / 16 = 64 * (t.val % 16) + (y 0).val / 16; omega)
  have k1 : ∀ hk' : (y 1).val / 128 < 128, (⟨(y 1).val / 128, hk'⟩ : Fin 128) = ⟨h.val, by omega⟩ := fun _ => Fin.ext d1
  have k2 : ∀ hk' : (y 1).val / 128 < 4, (⟨(y 1).val / 128, hk'⟩ : Fin 4) = h := fun _ => Fin.ext d1
  have k3 : ∀ hk' : (y 1).val % 128 < 128, (⟨(y 1).val % 128, hk'⟩ : Fin 128) = d := fun _ => Fin.ext d2
  have k4 : y 1 = (⟨h.val * 128 + d.val, by omega⟩ : Fin 512) := Fin.ext (by show (y 1).val = h.val * 128 + d.val; omega)
  have k5 : (⟨128 * h.val + d.val, by omega⟩ : Fin 512) = ⟨h.val * 128 + d.val, by omega⟩ := Fin.ext (by show 128 * h.val + d.val = h.val * 128 + d.val; omega)
  have g0 : iblk (F := Ideal) m c 0 t y = a0 m c (ix3 b s ⟨h.val * 128 + d.val, by omega⟩) := e0.trans (congrArg (fun z => a0 m c (ix3 b s z)) k4)
  have g1 := e1.trans (congrArg (fun z => a1 m c (ix3 ⟨b.val * 4 + s.val % 4, by omega⟩ ⟨s.val / 4, by omega⟩ z)) k5)
  have g2 := e2.trans (congrArg (fun z => a2 m c (ix3 ⟨b.val * 16 + s.val % 16, by omega⟩ ⟨s.val / 16, by omega⟩ z)) k5)
  unfold left
  rw [k1, k2, k3]
  exact congr (congr (congr (congr (congr (congrArg blend e3) e4) e5) g0) g1) g2
end

/-- An array every block of which is what its point leaves is the one the run leaves. -/
theorem arr_gen (c : Dev nD) (D : Dat τ (Elt Ideal) Unit ℕ (UR sig nD τ) ℕ cfg0 c) (L : (t : Fin cfg0.N) → S1024x512.Idx → EReal) (hD : ∀ t, D.after 6 t = L t) (G : S49152x512.Idx → EReal)
    (h : ∀ (t : Fin cfg0.N) (y : S1024x512.Idx) (i : S49152x512.Idx), (i 0).val = 1024 * t.val + (y 0).val → (i 1).val = (y 1).val → L t y = G i) :
    D.arrAt 6 cfg0.N = G := by
  refine D.arrAt_eq_of_covers 6 G (by decide +kernel) fun t hf y => ?_
  blk_simp
  rw [hD]
  obtain ⟨-, -, -, -, -, -, ht, hl⟩ := idx t
  refine h t y _ ?_ ?_
  · blk_simp [ht]
    try omega
  · blk_simp [ht]

end Cert.MergeIdeal.Blend

end
-- ==== Proof.MergeRef.lean ====
module

public import proofs.«01_k».proof.Proof.Gen.MergeReferenceIdeal.Run
public import proofs.«01_k».proof.Proof.Gen.MergeReferenceIdeal.Read
public import proofs.«01_k».proof.Proof.MergeRows
public import Idealize.ShloMosaic.Lib.Pipeline.ValueKit

@[expose] public section

set_option maxRecDepth 16384

noncomputable section

namespace Cert.MergeIdeal.Blend

open Cert.MergeReferenceIdeal Cert.MergeReferenceIdeal.Gen Cert.MergeReferenceIdeal.Read
open Idealize.ShloMosaic Idealize.ShloMosaic.TcCoe Idealize.SL.Sem

/-! ## Logarithms to base two -/

def ln2 : ℝ := Real.log 2

theorem ln2_pos : 0 < ln2 := Real.log_pos (by norm_num)

theorem exp2_eq (x : EReal) : Ideal.exp2 x = Ideal.exp (x * (ln2 : EReal)) := by
  induction x with
  | bot => rw [EReal.bot_mul_coe_of_pos ln2_pos]; rfl
  | top => rw [EReal.top_mul_coe_of_pos ln2_pos]; rfl
  | coe r =>
    rw [← EReal.coe_mul]
    show ((Real.rpow 2 r : ℝ) : EReal) = ((Real.exp (r * ln2) : ℝ) : EReal)
    refine congrArg _ ?_
    show (2 : ℝ) ^ r = _
    rw [Real.rpow_def_of_pos (by norm_num), mul_comm, ln2]

theorem mul_max (a b : EReal) : max a b * (ln2 : EReal) = max (a * (ln2 : EReal)) (b * (ln2 : EReal)) := by
  have hm : Monotone fun x : EReal => x * (ln2 : EReal) := fun x y h => mul_le_mul_of_nonneg_right h (by exact_mod_cast ln2_pos.le)
  exact hm.map_max

theorem sub_mul_ln (a b : EReal) : (a - b) * (ln2 : EReal) = a * (ln2 : EReal) - b * (ln2 : EReal) := by
  rw [sub_eq_add_neg, sub_eq_add_neg, EReal.right_distrib_of_nonneg_of_ne_top (by exact_mod_cast ln2_pos.le) (EReal.coe_ne_top _), EReal.neg_mul]

/-- Weights from natural log-sum-exps: the same blend. -/
theorem blend_nat (l0 l1 l2 o0 o1 o2 M : EReal) (hM : M = max (max (l0 * (ln2 : EReal)) (l1 * (ln2 : EReal))) (l2 * (ln2 : EReal))) :
    blend l0 l1 l2 o0 o1 o2 =
      Ideal.div (Ideal.exp (l0 * (ln2 : EReal) - M)) (Ideal.exp (l0 * (ln2 : EReal) - M) + Ideal.exp (l1 * (ln2 : EReal) - M) + Ideal.exp (l2 * (ln2 : EReal) - M)) * o0
      + Ideal.div (Ideal.exp (l1 * (ln2 : EReal) - M)) (Ideal.exp (l0 * (ln2 : EReal) - M) + Ideal.exp (l1 * (ln2 : EReal) - M) + Ideal.exp (l2 * (ln2 : EReal) - M)) * o1
      + Ideal.div (Ideal.exp (l2 * (ln2 : EReal) - M)) (Ideal.exp (l0 * (ln2 : EReal) - M) + Ideal.exp (l1 * (ln2 : EReal) - M) + Ideal.exp (l2 * (ln2 : EReal) - M)) * o2 := by
  subst hM
  unfold blend
  simp only [exp2_eq, sub_mul_ln, mul_max]

/-! ## The reference at an index -/

section
variable (x0 : (⟨S3x16384x512, .f32⟩ : BufTy).Contents (Elt Ideal)) (x1 : (⟨S12x4096x512, .f32⟩ : BufTy).Contents (Elt Ideal)) (x2 : (⟨S48x1024x512, .f32⟩ : BufTy).Contents (Elt Ideal))
  (x3 : (⟨S3x16384x128, .f32⟩ : BufTy).Contents (Elt Ideal)) (x4 : (⟨S12x4096x128, .f32⟩ : BufTy).Contents (Elt Ideal)) (x5 : (⟨S48x1024x128, .f32⟩ : BufTy).Contents (Elt Ideal))
  (b : Fin 3) (s : Fin 16384) (h : Fin 4) (d : Fin 128)

theorem ref_ln (i : S_.Idx) : val_main_v0 (F := Ideal) i = (ln2 : EReal) := by
  have e : Ideal.ofBits FTy.f32 0x40000000#32 = ((2 : ℝ) : EReal) := by
    simp [Ideal.ofBits, Ideal.ieee, -EReal.coe_mul]; norm_num
  rw [val_main_v0_apply, val_main_cst_apply]
  show Ideal.log (Ideal.ofBits FTy.f32 0x40000000#32) = _
  rw [e]
  show (if (2 : ℝ) ≤ 0 then ⊥ else ((Real.log 2 : ℝ) : EReal)) = _
  rw [if_neg (by norm_num)]
  rfl

theorem ref_o0 : val_main_v4 (F := Ideal) x0 (ix4 b s h d) = x0 (ix3 b s ⟨h.val * 128 + d.val, by omega⟩) := by
  pointwise [val_main_v4, val_main_v3, val_main_v2, val_main_v1]

theorem ref_o1 : val_main_v8 (F := Ideal) x1 (ix4 b s h d) = x1 (ix3 ⟨b.val * 4 + s.val % 4, by omega⟩ ⟨s.val / 4, by omega⟩ ⟨h.val * 128 + d.val, by omega⟩) := by
  pointwise [val_main_v8, val_main_v7, val_main_v6, val_main_v5]

theorem ref_o2 : val_main_v12 (F := Ideal) x2 (ix4 b s h d) = x2 (ix3 ⟨b.val * 16 + s.val % 16, by omega⟩ ⟨s.val / 16, by omega⟩ ⟨h.val * 128 + d.val, by omega⟩) := by
  pointwise [val_main_v12, val_main_v11, val_main_v10, val_main_v9]

theorem ref_l0 : val_main_v18 (F := Ideal) x3 (ix3 b s h) = x3 (ix3 b s ⟨h.val, by omega⟩) * (ln2 : EReal) := by
  rw [val_main_v18_apply, val_main_v17_apply, ref_ln]
  refine congrArg (· * (ln2 : EReal)) ?_
  pointwise [val_main_v16, val_main_v15, val_main_v14, val_main_v13]

theorem ref_l1 : val_main_v24 (F := Ideal) x4 (ix3 b s h) = x4 (ix3 ⟨b.val * 4 + s.val % 4, by omega⟩ ⟨s.val / 4, by omega⟩ ⟨h.val, by omega⟩) * (ln2 : EReal) := by
  rw [val_main_v24_apply, val_main_v23_apply, ref_ln]
  refine congrArg (· * (ln2 : EReal)) ?_
  pointwise [val_main_v22, val_main_v21, val_main_v20, val_main_v19]

theorem ref_l2 : val_main_v30 (F := Ideal) x5 (ix3 b s h) = x5 (ix3 ⟨b.val * 16 + s.val % 16, by omega⟩ ⟨s.val / 16, by omega⟩ ⟨h.val, by omega⟩) * (ln2 : EReal) := by
  rw [val_main_v30_apply, val_main_v29_apply, ref_ln]
  refine congrArg (· * (ln2 : EReal)) ?_
  pointwise [val_main_v28, val_main_v27, val_main_v26, val_main_v25]

theorem st_l0 : val_main_v34 (F := Ideal) x3 x4 x5 (ix4 0 b s h) = val_main_v18 (F := Ideal) x3 (ix3 b s h) := by
  pointwise [val_main_v34, val_main_v33, val_main_v32, val_main_v31]

theorem st_l1 : val_main_v34 (F := Ideal) x3 x4 x5 (ix4 1 b s h) = val_main_v24 (F := Ideal) x4 (ix3 b s h) := by
  pointwise [val_main_v34, val_main_v33, val_main_v32, val_main_v31]

theorem st_l2 : val_main_v34 (F := Ideal) x3 x4 x5 (ix4 2 b s h) = val_main_v30 (F := Ideal) x5 (ix3 b s h) := by
  pointwise [val_main_v34, val_main_v33, val_main_v32, val_main_v31]

theorem st_o0 : val_main_v50 (F := Ideal) x0 x1 x2 (ix5 0 b s h d) = val_main_v4 (F := Ideal) x0 (ix4 b s h d) := by
  pointwise [val_main_v50, val_main_v49, val_main_v48, val_main_v47]

theorem st_o1 : val_main_v50 (F := Ideal) x0 x1 x2 (ix5 1 b s h d) = val_main_v8 (F := Ideal) x1 (ix4 b s h d) := by
  pointwise [val_main_v50, val_main_v49, val_main_v48, val_main_v47]

theorem st_o2 : val_main_v50 (F := Ideal) x0 x1 x2 (ix5 2 b s h d) = val_main_v12 (F := Ideal) x2 (ix4 b s h d) := by
  pointwise [val_main_v50, val_main_v49, val_main_v48, val_main_v47]

theorem max_three (f : Fin 3 → EReal) : max ⊥ (Finset.fold max (⊥ : EReal) f Finset.univ) = max (max (f 0) (f 1)) (f 2) := by
  rw [max_bot_left, show (Finset.univ : Finset (Fin 3)) = {0, 1, 2} by decide]
  simp [Finset.fold_insert, max_assoc]

theorem ref_m : val_main_v37 (F := Ideal) x3 x4 x5 (ix3 b s h)
    = max (max (val_main_v34 (F := Ideal) x3 x4 x5 (ix4 0 b s h)) (val_main_v34 (F := Ideal) x3 x4 x5 (ix4 1 b s h))) (val_main_v34 (F := Ideal) x3 x4 x5 (ix4 2 b s h)) := by
  have hb : Ideal.ofBits FTy.f32 0xFF800000#32 = (⊥ : EReal) := by simp [Ideal.ofBits, Ideal.ieee]
  rw [← max_three fun k => val_main_v34 (F := Ideal) x3 x4 x5 (ix4 k b s h), ← hb]
  generalize hv : val_main_v34 (F := Ideal) x3 x4 x5 = v
  pointwise [val_main_v37, val_main_v36, val_main_v35, val_main_cst_1, val_main_cst_0, hv]

theorem ref_w (k : Fin 3) : val_main_v41 (F := Ideal) x3 x4 x5 (ix4 k b s h)
    = Ideal.exp (val_main_v34 (F := Ideal) x3 x4 x5 (ix4 k b s h) - val_main_v37 (F := Ideal) x3 x4 x5 (ix3 b s h)) := by
  rw [val_main_v41_apply, val_main_v40_apply, val_main_v39_apply, val_main_v38_apply]
  refine congrArg (fun z => Ideal.exp (val_main_v34 (F := Ideal) x3 x4 x5 (ix4 k b s h) - val_main_v37 (F := Ideal) x3 x4 x5 z)) (funext fun a => Fin.ext ?_)
  match a with
  | ⟨0, _⟩ => rfl
  | ⟨1, _⟩ => rfl
  | ⟨2, _⟩ => rfl

theorem ref_a (k : Fin 3) : val_main_v45 (F := Ideal) x3 x4 x5 (ix4 k b s h)
    = Ideal.div (val_main_v41 (F := Ideal) x3 x4 x5 (ix4 k b s h))
        (val_main_v41 (F := Ideal) x3 x4 x5 (ix4 0 b s h) + val_main_v41 (F := Ideal) x3 x4 x5 (ix4 1 b s h) + val_main_v41 (F := Ideal) x3 x4 x5 (ix4 2 b s h)) := by
  rw [val_main_v45_apply, val_main_v44_apply, val_main_v43_apply, val_main_v42_apply, Fin.sum_univ_three]
  generalize val_main_v41 (F := Ideal) x3 x4 x5 = w
  have e : val_main_cst_2 (F := Ideal) (Shape.Idx.first h_S_) = (0 : EReal) := by
    show Ideal.ofBits FTy.f32 0x00000000#32 = 0
    simp [Ideal.ofBits, Ideal.ieee]
  rw [e, zero_add]
  have q : ∀ j : Fin 3, idx_main_v42 (idx_main_v43 (idx_main_v44 (ix4 k b s h))) j = ix4 j b s h := fun j => funext fun a => Fin.ext (by
    match a with
    | ⟨0, _⟩ => rfl
    | ⟨1, _⟩ => rfl
    | ⟨2, _⟩ => rfl
    | ⟨3, _⟩ => rfl)
  rw [q, q, q]
  rfl

theorem ref_sum : val_main_v53 (F := Ideal) x0 x1 x2 x3 x4 x5 (ix4 b s h d)
    = val_main_v45 (F := Ideal) x3 x4 x5 (ix4 0 b s h) * val_main_v50 (F := Ideal) x0 x1 x2 (ix5 0 b s h d)
    + val_main_v45 (F := Ideal) x3 x4 x5 (ix4 1 b s h) * val_main_v50 (F := Ideal) x0 x1 x2 (ix5 1 b s h d)
    + val_main_v45 (F := Ideal) x3 x4 x5 (ix4 2 b s h) * val_main_v50 (F := Ideal) x0 x1 x2 (ix5 2 b s h d) := by
  rw [val_main_v53_apply, Fin.sum_univ_three]
  simp only [val_main_v52_apply, val_main_v51_apply, val_main_v46_apply]
  generalize val_main_v45 (F := Ideal) x3 x4 x5 = w
  generalize val_main_v50 (F := Ideal) x0 x1 x2 = o
  have e : val_main_cst_3 (F := Ideal) (Shape.Idx.first h_S_) = (0 : EReal) := by
    show Ideal.ofBits FTy.f32 0x00000000#32 = 0
    simp [Ideal.ofBits, Ideal.ieee]
  rw [e, zero_add]
  have q : ∀ j : Fin 3, idx_main_v53 (ix4 b s h d) j = ix5 j b s h d := fun j => funext fun a => Fin.ext (by
    match a with
    | ⟨0, _⟩ => rfl
    | ⟨1, _⟩ => rfl
    | ⟨2, _⟩ => rfl
    | ⟨3, _⟩ => rfl
    | ⟨4, _⟩ => rfl)
  have q' : ∀ j : Fin 3, idx_main_v46 (idx_main_v51 (ix5 j b s h d)) = ix4 j b s h := fun j => funext fun a => Fin.ext (by
    match a with
    | ⟨0, _⟩ => rfl
    | ⟨1, _⟩ => rfl
    | ⟨2, _⟩ => rfl
    | ⟨3, _⟩ => rfl)
  simp only [q, q']
  rfl

/-- The reference at a row and a head's lane: the blend of the three groups' rows. -/
theorem ref_blend (i : S49152x512.Idx) (h0 : (i 0).val = 16384 * b.val + s.val) (h1 : (i 1).val = 128 * h.val + d.val) :
    val_main_v55 (F := Ideal) x0 x1 x2 x3 x4 x5 i
      = blend (x3 (ix3 b s ⟨h.val, by omega⟩)) (x4 (ix3 ⟨b.val * 4 + s.val % 4, by omega⟩ ⟨s.val / 4, by omega⟩ ⟨h.val, by omega⟩))
        (x5 (ix3 ⟨b.val * 16 + s.val % 16, by omega⟩ ⟨s.val / 16, by omega⟩ ⟨h.val, by omega⟩))
        (x0 (ix3 b s ⟨h.val * 128 + d.val, by omega⟩)) (x1 (ix3 ⟨b.val * 4 + s.val % 4, by omega⟩ ⟨s.val / 4, by omega⟩ ⟨h.val * 128 + d.val, by omega⟩))
        (x2 (ix3 ⟨b.val * 16 + s.val % 16, by omega⟩ ⟨s.val / 16, by omega⟩ ⟨h.val * 128 + d.val, by omega⟩)) := by
  rw [blend_nat _ _ _ _ _ _ _ rfl, ← ref_l0 x3 b s h, ← ref_l1 x4 b s h, ← ref_l2 x5 b s h, ← ref_o0 x0 b s h d, ← ref_o1 x1 b s h d, ← ref_o2 x2 b s h d, ← st_l0 x3 x4 x5, ← st_l1 x3 x4 x5, ← st_l2 x3 x4 x5, ← ref_m,
    ← ref_w x3 x4 x5 b s h 0, ← ref_w x3 x4 x5 b s h 1, ← ref_w x3 x4 x5 b s h 2, ← ref_a x3 x4 x5 b s h 0, ← ref_a x3 x4 x5 b s h 1, ← ref_a x3 x4 x5 b s h 2, ← st_o0 x0 x1 x2, ← st_o1 x0 x1 x2, ← st_o2 x0 x1 x2, ← ref_sum]
  have e : idx_main_v54 i = ix4 b s h d := funext fun a => Fin.ext (by
    have hb := b.isLt; have hs := s.isLt; have hh := h.isLt; have hd := d.isLt
    match a with
    | ⟨0, _⟩ => show ((i 0).val * 512 + (i 1).val) / 8388608 = b.val; omega
    | ⟨1, _⟩ => show ((i 0).val * 512 + (i 1).val) / 512 % 16384 = s.val; omega
    | ⟨2, _⟩ => show ((i 0).val * 512 + (i 1).val) / 128 % 4 = h.val; omega
    | ⟨3, _⟩ => show ((i 0).val * 512 + (i 1).val) % 128 = d.val; omega)
  rw [val_main_v55_apply, val_main_v54_apply, e]
  rfl

end

end Cert.MergeIdeal.Blend

end
-- ==== Proof.MergeEq.lean ====
module

public import proofs.«01_k».proof.Proof.MergeValue
public import proofs.«01_k».proof.Proof.MergeRef

@[expose] public section

set_option maxRecDepth 16384

noncomputable section

namespace Cert.MergeIdeal.Blend

open Cert.MergeIdeal Cert.MergeIdeal.Gen Cert.MergeIdeal.Value
open Idealize.ShloMosaic Idealize.ShloMosaic.TcCoe Idealize.SL.Sem

/-- The array the run leaves is the reference's result. -/
theorem final (m : (ℓ : Loc nD τ sig) → Buf (Elt Ideal) ℓ) (c : Dev nD) (G : S49152x512.Idx → EReal)
    (hG : G = Cert.MergeReferenceIdeal.Read.val_main_v55 (F := Ideal) (a0 m c) (a1 m c) (a2 m c) (a3 m c) (a4 m c) (a5 m c)) :
    (dats m 0 c).arrAt 6 cfg0.N = G := by
  refine arr_gen c (dats m 0 c) (left m c) (fun t => (after0_6 m c t).trans (funext fun y => tile m c t y)) G fun t y i e0 e1 => ?_
  have h0 : (i 0).val < 49152 := (i 0).isLt
  have h1 : (i 1).val < 512 := (i 1).isLt
  have hb : (i 0).val / 16384 < 3 := by omega
  have hs : (i 0).val % 16384 < 16384 := by omega
  have hh : (i 1).val / 128 < 4 := by omega
  have hd : (i 1).val % 128 < 128 := by omega
  have hr := ref_blend (a0 m c) (a1 m c) (a2 m c) (a3 m c) (a4 m c) (a5 m c) ⟨_, hb⟩ ⟨_, hs⟩ ⟨_, hh⟩ ⟨_, hd⟩ i
    (by show (i 0).val = 16384 * ((i 0).val / 16384) + (i 0).val % 16384; omega) (by show (i 1).val = 128 * ((i 1).val / 128) + (i 1).val % 128; omega)
  rw [← hG] at hr
  exact (left_eq m c t ⟨_, hb⟩ ⟨_, hs⟩ ⟨_, hh⟩ ⟨_, hd⟩ y (by show 16384 * ((i 0).val / 16384) + (i 0).val % 16384 = 1024 * t.val + (y 0).val; omega)
    (by show (y 1).val = 128 * ((i 1).val / 128) + (i 1).val % 128; omega)).trans hr.symm

/-- The run leaves that array and the arguments as they were. -/
theorem run_merge (m : (ℓ : Loc nD τ sig) → Buf (Elt Ideal) ℓ) (ρ : Dev nD → PrngReg) (G : (c : Dev nD) → S49152x512.Idx → EReal)
    (hG : ∀ c, (dats m 0 c).arrAt 6 cfg0.N = G c) :
    θ_run defs (onTc (τ := τ) (main (F := Ideal))) ⟨m, fun _ => 0, ρ⟩ (fun r => ∀ c : Dev nD,
      r.2.mem ((c : Thread nD τ).loc main_v6) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c).1.trans (hG c), (h c).2⟩) (run_blocks m ρ)

end Cert.MergeIdeal.Blend

end
-- ==== Proof.DenseTriple.lean ====
module

public import proofs.«01_k».proof.Proof.Gen.KernelIdeal.Frame
public import proofs.«01_k».proof.Proof.DenseFrameIdeal

@[expose] public section

set_option maxRecDepth 16384

noncomputable section

namespace Cert.KernelIdeal.DenseV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run to its values -/

set_option maxHeartbeats 4000000 in
/-- The attention body at any point leaves the block `out` whenever either way of ending stores it. -/
theorem kernelVal (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x2048x512 .bf16) (harg6 : arg6.IsWhole) (arg7 : Memref sig .tc .vmem S128x8192 .bf16) (harg7 : arg7.IsWhole) (arg8 : Memref sig .tc .vmem S2x128x8192 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S128x8192 .f32) (harg11 : arg11.IsWhole)
    (x0 : Vec F S1x2048x512 .bf16) (x1 : Vec F S1x16384x128 .bf16) (x2 : Vec F S1x16384x128 .bf16) (out : Vec F S1x2048x512 .bf16)
    (hO : Dense.kernelRun.sl.v80 c i arg3 harg3 arg4 harg4 arg5 harg5 arg6 harg6 arg7 harg7 arg8 harg8 arg9 harg9 arg10 harg10 arg11 harg11 x0 x1 x2 = 1#1 → ∀ (f6 : BufTy.Contents (Elt F) arg6.view.ty) (f8 : BufTy.Contents (Elt F) arg8.view.ty), arg6.view.read (Elt F) (arg6.view.writes (Elt F) f6 [(⟨Rect.unit (s := S1x2048x512) ![0, 0, 384] S1x2048x128.size inb_S1x2048x512_S1x2048x128_0_0_384, k0_pay10 (Dense.kernelRun.sl.r_1 c i arg3 harg3 arg4 harg4 arg5 harg5 arg6 harg6 arg7 harg7 arg8 harg8 arg9 harg9 arg10 harg10 arg11 harg11 x0 x1 x2 f8)⟩ : View.Piece (Elt F) S1x2048x512 .bf16), (⟨Rect.unit (s := S1x2048x512) ![0, 0, 256] S1x2048x128.size inb_S1x2048x512_S1x2048x128_0_0_256, k0_pay9 (Dense.kernelRun.sl.r_1 c i arg3 harg3 arg4 harg4 arg5 harg5 arg6 harg6 arg7 harg7 arg8 harg8 arg9 harg9 arg10 harg10 arg11 harg11 x0 x1 x2 f8)⟩ : View.Piece (Elt F) S1x2048x512 .bf16), (⟨Rect.unit (s := S1x2048x512) ![0, 0, 128] S1x2048x128.size inb_S1x2048x512_S1x2048x128_0_0_128, k0_pay8 (Dense.kernelRun.sl.r_1 c i arg3 harg3 arg4 harg4 arg5 harg5 arg6 harg6 arg7 harg7 arg8 harg8 arg9 harg9 arg10 harg10 arg11 harg11 x0 x1 x2 f8)⟩ : View.Piece (Elt F) S1x2048x512 .bf16), (⟨Rect.unit (s := S1x2048x512) ![0, 0, 0] S1x2048x128.size inb_S1x2048x512_S1x2048x128_0_0_0, k0_pay7 (k0_pay313 (Dense.kernelRun.sl.v103 c i arg3 harg3 arg4 harg4 arg5 harg5 arg6 harg6 arg7 harg7 arg8 harg8 arg9 harg9 arg10 harg10 arg11 harg11 x0 x1 x2 f8) (Dense.kernelRun.sl.v104 c i arg3 harg3 arg4 harg4 arg5 harg5 arg6 harg6 arg7 harg7 arg8 harg8 arg9 harg9 arg10 harg10 arg11 harg11 x0 x1 x2 f8))⟩ : View.Piece (Elt F) S1x2048x512 .bf16)]) = out)
    (hL : Dense.kernelRun.sl.v80 c i arg3 harg3 arg4 harg4 arg5 harg5 arg6 harg6 arg7 harg7 arg8 harg8 arg9 harg9 arg10 harg10 arg11 harg11 x0 x1 x2 ≠ 1#1 → ∀ f6 : BufTy.Contents (Elt F) arg6.view.ty, arg6.view.read (Elt F) (if Dense.kernelRun.sl.v78 c i arg3 harg3 arg4 harg4 arg5 harg5 arg6 harg6 arg7 harg7 arg8 harg8 arg9 harg9 arg10 harg10 arg11 harg11 x0 x1 x2 = 1#1 then arg6.view.writes (Elt F) f6 [(⟨Rect.unit (s := S1x2048x512) ![0, 0, 384] S1x2048x128.size inb_S1x2048x512_S1x2048x128_0_0_384, k0_pay6 (Dense.kernelRun.sl.v51 c i arg3 harg3 arg4 harg4 arg5 harg5 arg6 harg6 arg7 harg7 arg8 harg8 arg9 harg9 arg10 harg10 arg11 harg11 x0 x1 x2) (Dense.kernelRun.sl.v50 c i arg3 harg3 arg4 harg4 arg5 harg5 arg6 harg6 arg7 harg7 arg8 harg8 arg9 harg9 arg10 harg10 arg11 harg11 x0 x1 x2)⟩ : View.Piece (Elt F) S1x2048x512 .bf16), (⟨Rect.unit (s := S1x2048x512) ![0, 0, 256] S1x2048x128.size inb_S1x2048x512_S1x2048x128_0_0_256, k0_pay5 (Dense.kernelRun.sl.v51 c i arg3 harg3 arg4 harg4 arg5 harg5 arg6 harg6 arg7 harg7 arg8 harg8 arg9 harg9 arg10 harg10 arg11 harg11 x0 x1 x2) (Dense.kernelRun.sl.v50 c i arg3 harg3 arg4 harg4 arg5 harg5 arg6 harg6 arg7 harg7 arg8 harg8 arg9 harg9 arg10 harg10 arg11 harg11 x0 x1 x2)⟩ : View.Piece (Elt F) S1x2048x512 .bf16), (⟨Rect.unit (s := S1x2048x512) ![0, 0, 128] S1x2048x128.size inb_S1x2048x512_S1x2048x128_0_0_128, k0_pay4 (Dense.kernelRun.sl.v51 c i arg3 harg3 arg4 harg4 arg5 harg5 arg6 harg6 arg7 harg7 arg8 harg8 arg9 harg9 arg10 harg10 arg11 harg11 x0 x1 x2) (Dense.kernelRun.sl.v50 c i arg3 harg3 arg4 harg4 arg5 harg5 arg6 harg6 arg7 harg7 arg8 harg8 arg9 harg9 arg10 harg10 arg11 harg11 x0 x1 x2)⟩ : View.Piece (Elt F) S1x2048x512 .bf16), (⟨Rect.unit (s := S1x2048x512) ![0, 0, 0] S1x2048x128.size inb_S1x2048x512_S1x2048x128_0_0_0, k0_pay3 (Dense.kernelRun.sl.v51 c i arg3 harg3 arg4 harg4 arg5 harg5 arg6 harg6 arg7 harg7 arg8 harg8 arg9 harg9 arg10 harg10 arg11 harg11 x0 x1 x2) (Dense.kernelRun.sl.v50 c i arg3 harg3 arg4 harg4 arg5 harg5 arg6 harg6 arg7 harg7 arg8 harg8 arg9 harg9 arg10 harg10 arg11 harg11 x0 x1 x2)⟩ : View.Piece (Elt F) S1x2048x512 .bf16)] else f6) = out)
    (E : Set ℕ) (Q : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare out ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)) -∗ Q ⟨⟩))
      ⊢ wp frame (wpE (defs₀ (F := F)) Variants.none c none) E (cc0_dense_attn i arg3 harg3 arg4 harg4 arg5 harg5 arg6 harg6 arg7 harg7 arg8 harg8 arg9 harg9 arg10 harg10 arg11 harg11) Q := by
  simp only [cc0_dense_attn_eq_skeleton]; unfold cc0_dense_attn_skel
  unfold owns
  iintro ⟨⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, Hk⟩
  obtain rfl := harg3.eq_unread hf3; obtain rfl := harg4.eq_unread hf4; obtain rfl := harg5.eq_unread hf5
  sl_exec
  refine Classical.byCases (p := kernelVal.sl.v80 c i arg3 harg3 arg4 harg4 arg5 harg5 arg6 harg6 arg7 harg7 arg8 harg8 arg9 harg9 arg10 harg10 arg11 harg11 x0 x1 x2 = 1#1) (fun hB => ?_) (fun hB => ?_)
  · rw [if_pos hB]
    sl_exec
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      swap
      · iexact H6
      ipureintro; exact hO hB _ _
    isplitl [H7]
    · iexists _; iexists _; isplitr
      swap
      · iexact H7
      ipureintro; rfl
    isplitl [H8]
    · iexists _; iexists _; isplitr
      swap
      · iexact H8
      ipureintro; rfl
    isplitl [H9]
    · iexists _; iexists _; isplitr
      swap
      · iexact H9
      ipureintro; rfl
    isplitl [H10]
    · iexists _; iexists _; isplitr
      swap
      · iexact H10
      ipureintro; rfl
    iexists _; iexists _; isplitr
    swap
    · iexact H11
    ipureintro; rfl
  · rw [if_neg hB]
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      swap
      · iexact H6
      ipureintro; exact hL hB _
    isplitl [H7]
    · iexists _; iexists _; isplitr
      swap
      · iexact H7
      ipureintro; rfl
    isplitl [H8]
    · iexists _; iexists _; isplitr
      swap
      · iexact H8
      ipureintro; rfl
    isplitl [H9]
    · iexists _; iexists _; isplitr
      swap
      · iexact H9
      ipureintro; rfl
    isplitl [H10]
    · iexists _; iexists _; isplitr
      swap
      · iexact H10
      ipureintro; rfl
    iexists _; iexists _; isplitr
    swap
    · iexact H11
    ipureintro; rfl

end Cert.KernelIdeal.DenseV
-- ==== Proof.DenseTrip.lean ====
module

public import proofs.«01_k».proof.Proof.Gen.KernelIdeal.Loops
public import Idealize.ShloMosaic.Lib.Pipeline.ValueKit

@[expose] public section

set_option maxRecDepth 16384

noncomputable section

namespace Cert.KernelIdeal.Dense

open Cert.KernelIdeal Cert.KernelIdeal.Gen
open Idealize.ShloMosaic Idealize.ShloMosaic.TcCoe Idealize.SL.Sem

/-! ## One trip of the sweep over the keys -/

/-- The columns `o` to `o + 255` of an array of `R` rows. -/
abbrev band (R o : ℕ) (inb : ∀ a, (![0, o] : Fin 2 → ℕ) a + (![R, 256] : Fin 2 → ℕ) a ≤ (![R, 8192] : Fin 2 → ℕ) a) : Rect (⟨2, ![R, 8192]⟩ : Shape) :=
  Rect.unit (s := ⟨2, ![R, 8192]⟩) ![0, o] ![R, 256] inb

/-- What a band of columns writes on top of a list that left the new values below column `o`. -/
theorem chunk_cons {R : ℕ} {L : List (View.Piece (Elt Ideal) (⟨2, ![R, 8192]⟩ : Shape) .f32)} {o o2 : ℕ}
    {inb : ∀ a, (![0, o] : Fin 2 → ℕ) a + (![R, 256] : Fin 2 → ℕ) a ≤ (![R, 8192] : Fin 2 → ℕ) a}
    {w : (band R o inb).shape.Idx → Elt Ideal .f32}
    {new old : (⟨2, ![R, 8192]⟩ : Shape).Idx → Elt Ideal .f32} (ho : o + 256 = o2)
    (h : ∀ y, View.canon L y = if (y 1).val < o then new y else old y)
    (hw : (∀ x, View.canon L ((band R o inb).emb x) = old ((band R o inb).emb x)) → ∀ x, w x = new ((band R o inb).emb x)) :
    ∀ y, View.canon ((⟨band R o inb, w⟩ : View.Piece (Elt Ideal) (⟨2, ![R, 8192]⟩ : Shape) .f32) :: L) y = if (y 1).val < o2 then new y else old y := by
  intro y
  have hold : ∀ x, View.canon L ((band R o inb).emb x) = old ((band R o inb).emb x) := fun x => by
    rw [h, if_neg]
    show ¬ (o + 1 * (x 1).val < o)
    omega
  by_cases hy : y ∈ (band R o inb).set
  · obtain ⟨x, rfl⟩ : ∃ x, (band R o inb).emb x = y := (band R o inb).toLoadRect.exists_idx_of_mem hy
    have hx : (x 1).val < 256 := (x 1).isLt
    have hlt : (((band R o inb).emb x) 1).val < o2 := by
      show o + 1 * (x 1).val < o2
      omega
    rw [if_pos hlt]
    exact (View.canon_cons_emb _ w L x).trans (hw hold x)
  · refine (View.canon_cons_of_not_mem (⟨band R o inb, w⟩ : View.Piece (Elt Ideal) (⟨2, ![R, 8192]⟩ : Shape) .f32) L hy).trans ((h y).trans ?_)
    rw [Rect.mem_set_unit] at hy
    have hn : ¬ (o ≤ (y 1).val ∧ (y 1).val < o + 256) := fun hh => hy fun a => by
      have h0 : (y 0).val < R := (y 0).isLt
      match a with
      | 0 => exact ⟨Nat.zero_le _, by show (y 0).val < 0 + R; omega⟩
      | 1 => exact hh
    by_cases h1 : (y 1).val < o
    · rw [if_pos h1, if_pos (by omega)]
    · rw [if_neg h1, if_neg (by omega)]

/-- The columns below `o2` are covered when the columns below `o` were. -/
theorem cover_cons {R : ℕ} {L : List (View.Piece (Elt Ideal) (⟨2, ![R, 8192]⟩ : Shape) .f32)} {o o2 : ℕ}
    {inb : ∀ a, (![0, o] : Fin 2 → ℕ) a + (![R, 256] : Fin 2 → ℕ) a ≤ (![R, 8192] : Fin 2 → ℕ) a}
    {w : (band R o inb).shape.Idx → Elt Ideal .f32} (ho : o + 256 = o2)
    (h : ∀ y : (⟨2, ![R, 8192]⟩ : Shape).Idx, (y 1).val < o → ∃ p ∈ L, y ∈ p.1.set) :
    ∀ y : (⟨2, ![R, 8192]⟩ : Shape).Idx, (y 1).val < o2 →
      ∃ p ∈ (⟨band R o inb, w⟩ :: L : List (View.Piece (Elt Ideal) (⟨2, ![R, 8192]⟩ : Shape) .f32)), y ∈ p.1.set := by
  intro y hy
  by_cases h1 : (y 1).val < o
  · obtain ⟨p, hp, hm⟩ := h y h1
    exact ⟨p, List.mem_cons_of_mem _ hp, hm⟩
  · refine ⟨_, List.mem_cons_self, ?_⟩
    show y ∈ (band R o inb).set
    rw [Rect.mem_set_unit]
    intro a
    have h0 : (y 0).val < R := (y 0).isLt
    match a with
    | 0 => exact ⟨Nat.zero_le _, by show (y 0).val < 0 + R; omega⟩
    | 1 => exact ⟨by show o ≤ (y 1).val; omega, by show (y 1).val < o + 256; omega⟩

/-- A step's weight of a key `k` of the block `kb` in the column `j`. -/
def wt (kb : FVec Ideal S1x512x128 .bf16) (Q : FVec Ideal S128x8192 .bf16) (M : FVec Ideal S1x8192 .f32) (k : Fin 512) (j : Fin 8192) : EReal :=
  Ideal.exp2 ((∑ d : Fin 128, kb (ix3 0 k d) * Q (ix2 d j)) - M (ix2 0 j))

/-- The sum of the weights of a block of keys. -/
def addL (kb : FVec Ideal S1x512x128 .bf16) (Q : FVec Ideal S128x8192 .bf16) (M : FVec Ideal S1x8192 .f32) (y : S1x8192.Idx) : EReal :=
  ∑ k : Fin 512, wt kb Q M k (y 1)

/-- The sum of the weighted values of a block of keys. -/
def addA (kb vb : FVec Ideal S1x512x128 .bf16) (Q : FVec Ideal S128x8192 .bf16) (M : FVec Ideal S1x8192 .f32) (y : S128x8192.Idx) : EReal :=
  ∑ k : Fin 512, vb (ix3 0 k (y 0)) * wt kb Q M k (y 1)

/-- The payload of the normaliser's store, at an index. -/
theorem l_pay (kb : FVec Ideal S1x512x128 .bf16) (q : FVec Ideal S128x256 .bf16) (m l : FVec Ideal S1x256 .f32) (x : S1x256.Idx) :
    k0_pay290 (F := Ideal) (k0_pay185 (k0_pay152 kb) q) m l x
      = l x + ∑ k : Fin 512, Ideal.exp2 ((∑ d : Fin 128, kb (ix3 0 k d) * q (ix2 d (x 1))) - m (ix2 0 (x 1))) := by
  pointwise [k0_pay290, k0_pay289, k0_pay185, k0_pay152]
  rfl

/-- The payload of the accumulator's store, at an index. -/
theorem a_pay (kb vb : FVec Ideal S1x512x128 .bf16) (q : FVec Ideal S128x256 .bf16) (m : FVec Ideal S1x256 .f32) (a : FVec Ideal S128x256 .f32) (x : S128x256.Idx) :
    k0_pay147 (F := Ideal) (k0_pay153 vb) (k0_pay185 (k0_pay152 kb) q) m a x
      = a x + ∑ k : Fin 512, vb (ix3 0 k (x 0)) * Ideal.exp2 ((∑ d : Fin 128, kb (ix3 0 k d) * q (ix2 d (x 1))) - m (ix2 0 (x 1))) := by
  pointwise [k0_pay147, k0_pay145, k0_pay185, k0_pay152, k0_pay153]
  rfl

/-- The normaliser's piece: what it found plus the block's weights, -/
theorem l_piece (arg7 : Memref sig .tc .vmem S128x8192 .bf16) (arg9 : Memref sig .tc .vmem S1x8192 .f32)
    (X7 : BufTy.Contents (Elt Ideal) arg7.view.ty) (X9 : BufTy.Contents (Elt Ideal) arg9.view.ty) (kb : FVec Ideal S1x512x128 .bf16) {o : ℕ}
    {inb7 : ∀ a, (![0, o] : Fin 2 → ℕ) a + S128x256.size a ≤ S128x8192.size a} {inb9 : ∀ a, (![0, o] : Fin 2 → ℕ) a + S1x256.size a ≤ S1x8192.size a}
    (inb) (l : FVec Ideal S1x256 .f32) (base : S1x8192.Idx → EReal) (x : (band 1 o inb).shape.Idx) (hl : l x = base ((band 1 o inb).emb x)) :
    k0_pay290 (F := Ideal) (k0_pay185 (k0_pay152 kb) (View.readAt (Elt Ideal) arg7.view (Rect.unit (s := S128x8192) ![0, o] S128x256.size inb7).toLoadRect X7))
        (View.readAt (Elt Ideal) arg9.view (Rect.unit (s := S1x8192) ![0, o] S1x256.size inb9).toLoadRect X9) l x
      = base ((band 1 o inb).emb x) + addL kb (arg7.view.read (Elt Ideal) X7) (arg9.view.read (Elt Ideal) X9) ((band 1 o inb).emb x) := by
  refine (l_pay kb _ _ l x).trans ?_
  rw [hl]
  refine congrArg (base ((band 1 o inb).emb x) + ·) ?_
  refine Finset.sum_congr rfl fun k _ => ?_
  unfold wt
  have e7 : ∀ d : Fin 128, View.readAt (Elt Ideal) arg7.view (Rect.unit (s := S128x8192) ![0, o] S128x256.size inb7).toLoadRect X7 (ix2 d (x 1))
      = arg7.view.read (Elt Ideal) X7 (ix2 d (((band 1 o inb).emb x) 1)) := fun d => by
    rw [View.readAt_apply]
    refine congrArg (arg7.view.read (Elt Ideal) X7) (funext fun a => Fin.ext ?_)
    match a with
    | 0 => show 0 + 1 * d.val = d.val; omega
    | 1 => rfl
  have e9 : View.readAt (Elt Ideal) arg9.view (Rect.unit (s := S1x8192) ![0, o] S1x256.size inb9).toLoadRect X9 (ix2 0 (x 1))
      = arg9.view.read (Elt Ideal) X9 (ix2 0 (((band 1 o inb).emb x) 1)) := by
    rw [View.readAt_apply]
    refine congrArg (arg9.view.read (Elt Ideal) X9) (funext fun a => Fin.ext ?_)
    match a with
    | 0 => rfl
    | 1 => rfl
  simp only [e7, e9]

/-- and the accumulator's: what it found plus the block's weighted values. -/
theorem a_piece (arg7 : Memref sig .tc .vmem S128x8192 .bf16) (arg9 : Memref sig .tc .vmem S1x8192 .f32)
    (X7 : BufTy.Contents (Elt Ideal) arg7.view.ty) (X9 : BufTy.Contents (Elt Ideal) arg9.view.ty) (kb vb : FVec Ideal S1x512x128 .bf16) {o : ℕ}
    {inb7 : ∀ a, (![0, o] : Fin 2 → ℕ) a + S128x256.size a ≤ S128x8192.size a} {inb9 : ∀ a, (![0, o] : Fin 2 → ℕ) a + S1x256.size a ≤ S1x8192.size a}
    (inb) (l : FVec Ideal S128x256 .f32) (base : S128x8192.Idx → EReal) (x : (band 128 o inb).shape.Idx) (hl : l x = base ((band 128 o inb).emb x)) :
    k0_pay147 (F := Ideal) (k0_pay153 vb) (k0_pay185 (k0_pay152 kb) (View.readAt (Elt Ideal) arg7.view (Rect.unit (s := S128x8192) ![0, o] S128x256.size inb7).toLoadRect X7))
        (View.readAt (Elt Ideal) arg9.view (Rect.unit (s := S1x8192) ![0, o] S1x256.size inb9).toLoadRect X9) l x
      = base ((band 128 o inb).emb x) + addA kb vb (arg7.view.read (Elt Ideal) X7) (arg9.view.read (Elt Ideal) X9) ((band 128 o inb).emb x) := by
  refine (a_pay kb vb _ _ l x).trans ?_
  rw [hl]
  refine congrArg (base ((band 128 o inb).emb x) + ·) ?_
  refine Finset.sum_congr rfl fun k _ => ?_
  unfold wt
  have e7 : ∀ d : Fin 128, View.readAt (Elt Ideal) arg7.view (Rect.unit (s := S128x8192) ![0, o] S128x256.size inb7).toLoadRect X7 (ix2 d (x 1))
      = arg7.view.read (Elt Ideal) X7 (ix2 d (((band 128 o inb).emb x) 1)) := fun d => by
    rw [View.readAt_apply]
    refine congrArg (arg7.view.read (Elt Ideal) X7) (funext fun a => Fin.ext ?_)
    match a with
    | 0 => show 0 + 1 * d.val = d.val; omega
    | 1 => rfl
  have e9 : View.readAt (Elt Ideal) arg9.view (Rect.unit (s := S1x8192) ![0, o] S1x256.size inb9).toLoadRect X9 (ix2 0 (x 1))
      = arg9.view.read (Elt Ideal) X9 (ix2 0 (((band 128 o inb).emb x) 1)) := by
    rw [View.readAt_apply]
    refine congrArg (arg9.view.read (Elt Ideal) X9) (funext fun a => Fin.ext ?_)
    match a with
    | 0 => rfl
    | 1 => rfl
  have e0 : (((band 128 o inb).emb x) 0 : Fin 128) = x 0 := Fin.ext (by show 0 + 1 * (x 0).val = (x 0).val; omega)
  simp only [e7, e9, e0]

section
variable (𝒱 : Variants) (c : Dev nD) (bd : Option 𝒱.V) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (X4 : BufTy.Contents (Elt Ideal) arg4.view.ty) (X5 : BufTy.Contents (Elt Ideal) arg5.view.ty) (X7 : BufTy.Contents (Elt Ideal) arg7.view.ty)
    (X9 : BufTy.Contents (Elt Ideal) arg9.view.ty) (k : Fin k0_t1_loop.trips)
    (f10 : BufTy.Contents (Elt Ideal) arg10.view.ty) (f11 : BufTy.Contents (Elt Ideal) arg11.view.ty)

/-- The first block of keys (or values) of a trip. -/
abbrev blkE (arg : Memref sig .tc .vmem S1x16384x128 .bf16) (X : BufTy.Contents (Elt Ideal) arg.view.ty) (k : Fin k0_t1_loop.trips)
    (h : ∀ a, (k0_off1 k) a + S1x512x128.size a ≤ S1x16384x128.size a) : FVec Ideal S1x512x128 .bf16 :=
  View.readAt (Elt Ideal) arg.view (Rect.unit (s := S1x16384x128) (k0_off1 k) S1x512x128.size h).toLoadRect X

/-- The second block of keys (or values) of a trip. -/
abbrev blkO (arg : Memref sig .tc .vmem S1x16384x128 .bf16) (X : BufTy.Contents (Elt Ideal) arg.view.ty) (k : Fin k0_t1_loop.trips)
    (h : ∀ a, (k0_off2 k) a + S1x512x128.size a ≤ S1x16384x128.size a) : FVec Ideal S1x512x128 .bf16 :=
  View.readAt (Elt Ideal) arg.view (Rect.unit (s := S1x16384x128) (k0_off2 k) S1x512x128.size h).toLoadRect X

/-- After the first block every column of the normaliser has gained the block's weights, -/
theorem l_first (h1 : ∀ a, (k0_off1 k) a + S1x512x128.size a ≤ S1x16384x128.size a) :
    ∀ y : S1x8192.Idx, View.canon (trip_k0_t1.sl.HW_arg10_32 arg4 arg7 arg9 arg10 X4 X7 X9 k f10) y
      = arg10.view.read (Elt Ideal) f10 y + addL (blkE arg4 X4 k h1) (arg7.view.read (Elt Ideal) X7) (arg9.view.read (Elt Ideal) X9) y := by
  refine fun y => Eq.trans (b := if (y 1).val < 8192 then arg10.view.read (Elt Ideal) f10 y + addL (blkE arg4 X4 k h1) (arg7.view.read (Elt Ideal) X7) (arg9.view.read (Elt Ideal) X9) y else Classical.arbitrary _) ?_ (if_pos (y 1).isLt)
  revert y
  unfold trip_k0_t1.sl.HW_arg10_32
  iterate 32 refine chunk_cons (R := 1) rfl ?_ fun _ x => l_piece arg7 arg9 X7 X9 (blkE arg4 X4 k h1) _ _ (arg10.view.read (Elt Ideal) f10) x rfl
  intro y
  rw [if_neg (Nat.not_lt_zero _)]
  rfl

/-- after the second block those of both. -/
theorem l_trip (h1 : ∀ a, (k0_off1 k) a + S1x512x128.size a ≤ S1x16384x128.size a) (h2 : ∀ a, (k0_off2 k) a + S1x512x128.size a ≤ S1x16384x128.size a) :
    ∀ y : S1x8192.Idx, View.canon ((trip_k0_t1 𝒱 c bd i arg3 harg3 arg4 harg4 arg5 harg5 arg6 harg6 arg7 harg7 arg8 harg8 arg9 harg9 arg10 harg10 arg11 harg11 X4 X5 X7 X9 k).1 f10 f11) y
      = arg10.view.read (Elt Ideal) f10 y + addL (blkE arg4 X4 k h1) (arg7.view.read (Elt Ideal) X7) (arg9.view.read (Elt Ideal) X9) y
        + addL (blkO arg4 X4 k h2) (arg7.view.read (Elt Ideal) X7) (arg9.view.read (Elt Ideal) X9) y := by
  refine fun y => Eq.trans (b := if (y 1).val < 8192 then (arg10.view.read (Elt Ideal) f10 y + addL (blkE arg4 X4 k h1) (arg7.view.read (Elt Ideal) X7) (arg9.view.read (Elt Ideal) X9) y)
    + addL (blkO arg4 X4 k h2) (arg7.view.read (Elt Ideal) X7) (arg9.view.read (Elt Ideal) X9) y
    else arg10.view.read (Elt Ideal) f10 y + addL (blkE arg4 X4 k h1) (arg7.view.read (Elt Ideal) X7) (arg9.view.read (Elt Ideal) X9) y) ?_ (if_pos (y 1).isLt)
  revert y
  unfold trip_k0_t1
  dsimp only
  iterate 32 refine chunk_cons (R := 1) rfl ?_ fun hold x => l_piece arg7 arg9 X7 X9 (blkO arg4 X4 k h2) _ _ (fun y => arg10.view.read (Elt Ideal) f10 y + addL (blkE arg4 X4 k h1) (arg7.view.read (Elt Ideal) X7) (arg9.view.read (Elt Ideal) X9) y) x ((congrFun (View.readCov_eq_canon' arg10.view _ _) x).trans (hold x))
  intro y
  rw [if_neg (Nat.not_lt_zero _)]
  exact l_first arg4 arg7 arg9 arg10 X4 X7 X9 k f10 h1 y

/-- After the first block every column of the accumulator has gained the block's weighted values, -/
theorem a_first (h1 : ∀ a, (k0_off1 k) a + S1x512x128.size a ≤ S1x16384x128.size a) :
    ∀ y : S128x8192.Idx, View.canon (trip_k0_t1.sl.HW_arg11_32 arg4 arg5 arg7 arg9 arg11 X4 X5 X7 X9 k f11) y
      = arg11.view.read (Elt Ideal) f11 y + addA (blkE arg4 X4 k h1) (blkE arg5 X5 k h1) (arg7.view.read (Elt Ideal) X7) (arg9.view.read (Elt Ideal) X9) y := by
  refine fun y => Eq.trans (b := if (y 1).val < 8192 then arg11.view.read (Elt Ideal) f11 y + addA (blkE arg4 X4 k h1) (blkE arg5 X5 k h1) (arg7.view.read (Elt Ideal) X7) (arg9.view.read (Elt Ideal) X9) y else Classical.arbitrary _) ?_ (if_pos (y 1).isLt)
  revert y
  unfold trip_k0_t1.sl.HW_arg11_32
  iterate 32 refine chunk_cons (R := 128) rfl ?_ fun _ x => a_piece arg7 arg9 X7 X9 (blkE arg4 X4 k h1) (blkE arg5 X5 k h1) _ _ (arg11.view.read (Elt Ideal) f11) x rfl
  intro y
  rw [if_neg (Nat.not_lt_zero _)]
  rfl

/-- after the second block those of both. -/
theorem a_trip (h1 : ∀ a, (k0_off1 k) a + S1x512x128.size a ≤ S1x16384x128.size a) (h2 : ∀ a, (k0_off2 k) a + S1x512x128.size a ≤ S1x16384x128.size a) :
    ∀ y : S128x8192.Idx, View.canon ((trip_k0_t1 𝒱 c bd i arg3 harg3 arg4 harg4 arg5 harg5 arg6 harg6 arg7 harg7 arg8 harg8 arg9 harg9 arg10 harg10 arg11 harg11 X4 X5 X7 X9 k).2.1 f10 f11) y
      = arg11.view.read (Elt Ideal) f11 y + addA (blkE arg4 X4 k h1) (blkE arg5 X5 k h1) (arg7.view.read (Elt Ideal) X7) (arg9.view.read (Elt Ideal) X9) y
        + addA (blkO arg4 X4 k h2) (blkO arg5 X5 k h2) (arg7.view.read (Elt Ideal) X7) (arg9.view.read (Elt Ideal) X9) y := by
  refine fun y => Eq.trans (b := if (y 1).val < 8192 then (arg11.view.read (Elt Ideal) f11 y + addA (blkE arg4 X4 k h1) (blkE arg5 X5 k h1) (arg7.view.read (Elt Ideal) X7) (arg9.view.read (Elt Ideal) X9) y)
    + addA (blkO arg4 X4 k h2) (blkO arg5 X5 k h2) (arg7.view.read (Elt Ideal) X7) (arg9.view.read (Elt Ideal) X9) y
    else arg11.view.read (Elt Ideal) f11 y + addA (blkE arg4 X4 k h1) (blkE arg5 X5 k h1) (arg7.view.read (Elt Ideal) X7) (arg9.view.read (Elt Ideal) X9) y) ?_ (if_pos (y 1).isLt)
  revert y
  unfold trip_k0_t1
  dsimp only
  iterate 32 refine chunk_cons (R := 128) rfl ?_ fun hold x => a_piece arg7 arg9 X7 X9 (blkO arg4 X4 k h2) (blkO arg5 X5 k h2) _ _ (fun y => arg11.view.read (Elt Ideal) f11 y + addA (blkE arg4 X4 k h1) (blkE arg5 X5 k h1) (arg7.view.read (Elt Ideal) X7) (arg9.view.read (Elt Ideal) X9) y) x ((congrFun (View.readCov_eq_canon' arg11.view _ _) x).trans (hold x))
  intro y
  rw [if_neg (Nat.not_lt_zero _)]
  exact a_first arg4 arg5 arg7 arg9 arg11 X4 X5 X7 X9 k f11 h1 y

/-- Each trip writes all of the normaliser -/
theorem l_cover : ∀ y : S1x8192.Idx, ∃ p ∈ (trip_k0_t1 𝒱 c bd i arg3 harg3 arg4 harg4 arg5 harg5 arg6 harg6 arg7 harg7 arg8 harg8 arg9 harg9 arg10 harg10 arg11 harg11 X4 X5 X7 X9 k).1 f10 f11, y ∈ p.1.set := by
  suffices h : ∀ y : S1x8192.Idx, (y 1).val < 8192 → ∃ p ∈ (trip_k0_t1 𝒱 c bd i arg3 harg3 arg4 harg4 arg5 harg5 arg6 harg6 arg7 harg7 arg8 harg8 arg9 harg9 arg10 harg10 arg11 harg11 X4 X5 X7 X9 k).1 f10 f11, y ∈ p.1.set from fun y => h y (y 1).isLt
  unfold trip_k0_t1
  dsimp only
  iterate 32 refine cover_cons (R := 1) rfl ?_
  exact fun y hy => absurd hy (Nat.not_lt_zero _)

/-- and all of the accumulator. -/
theorem a_cover : ∀ y : S128x8192.Idx, ∃ p ∈ (trip_k0_t1 𝒱 c bd i arg3 harg3 arg4 harg4 arg5 harg5 arg6 harg6 arg7 harg7 arg8 harg8 arg9 harg9 arg10 harg10 arg11 harg11 X4 X5 X7 X9 k).2.1 f10 f11, y ∈ p.1.set := by
  suffices h : ∀ y : S128x8192.Idx, (y 1).val < 8192 → ∃ p ∈ (trip_k0_t1 𝒱 c bd i arg3 harg3 arg4 harg4 arg5 harg5 arg6 harg6 arg7 harg7 arg8 harg8 arg9 harg9 arg10 harg10 arg11 harg11 X4 X5 X7 X9 k).2.1 f10 f11, y ∈ p.1.set from fun y => h y (y 1).isLt
  unfold trip_k0_t1
  dsimp only
  iterate 32 refine cover_cons (R := 128) rfl ?_
  exact fun y hy => absurd hy (Nat.not_lt_zero _)

end

end Cert.KernelIdeal.Dense

end
-- ==== Proof.DenseLoop.lean ====
module

public import proofs.«01_k».proof.Proof.DenseTrip

@[expose] public section
open Idealize Idealize.ShloMosaic Finset
open Idealize.ShloMosaic.ValueKit
open Cert.KernelIdeal Cert.KernelIdeal.Gen

namespace Cert.KernelIdeal.Dense

/-- Key number `n`. -/
def key (n : ℕ) : Fin 16384 := ⟨n % 16384, Nat.mod_lt _ (by decide)⟩

/-- The score of key `n` against query `j`. -/
noncomputable def sc (K : S1x16384x128.Idx → EReal) (Q : S128x8192.Idx → EReal) (n : ℕ) (j : Fin 8192) : EReal :=
  ∑ d : Fin 128, K (ix3 0 (key n) d) * Q (ix2 d j)

/-- The weight of key `n` for query `j`, relative to a maximum. -/
noncomputable def W (K : S1x16384x128.Idx → EReal) (Q : S128x8192.Idx → EReal) (M : S1x8192.Idx → EReal) (n : ℕ) (j : Fin 8192) : EReal :=
  Ideal.exp2 (sc K Q n j - M (ix2 0 j))

section
variable (𝒱 : Variants) (c : Dev nD) (bd : Option 𝒱.V) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (X4 : BufTy.Contents (Elt Ideal) arg4.view.ty) (X5 : BufTy.Contents (Elt Ideal) arg5.view.ty) (X7 : BufTy.Contents (Elt Ideal) arg7.view.ty)
    (X9 : BufTy.Contents (Elt Ideal) arg9.view.ty)
    (f10 : BufTy.Contents (Elt Ideal) arg10.view.ty) (f11 : BufTy.Contents (Elt Ideal) arg11.view.ty)

/-- An element of a trip's first block. -/
theorem blkE_apply (arg : Memref sig .tc .vmem S1x16384x128 .bf16) (X : BufTy.Contents (Elt Ideal) arg.view.ty) (k : Fin k0_t1_loop.trips)
    (h : ∀ a, (k0_off1 k) a + S1x512x128.size a ≤ S1x16384x128.size a) (n : Fin 512) (d : Fin 128) :
    blkE arg X k h (ix3 0 n d) = arg.view.read (Elt Ideal) X (ix3 0 (key (1024 * k.val + n.val)) d) := by
  refine (View.readAt_apply ..).trans ?_
  refine congrArg (arg.view.read (Elt Ideal) X) (funext fun a => Fin.ext ?_)
  have hk : k.val < 16 := Nat.lt_of_lt_of_le k.isLt k0_t1_abs.2.1
  have hn := n.isLt
  show k0_off1 k a + 1 * (ix3 0 n d a : ℕ) = _
  rw [k0_off1_eq]
  match a with
  | 0 => rfl
  | 1 => show 1024 * k.val + 1 * n.val = (1024 * k.val + n.val) % 16384; omega
  | 2 => show 0 + 1 * d.val = d.val; omega

/-- An element of a trip's second block. -/
theorem blkO_apply (arg : Memref sig .tc .vmem S1x16384x128 .bf16) (X : BufTy.Contents (Elt Ideal) arg.view.ty) (k : Fin k0_t1_loop.trips)
    (h : ∀ a, (k0_off2 k) a + S1x512x128.size a ≤ S1x16384x128.size a) (n : Fin 512) (d : Fin 128) :
    blkO arg X k h (ix3 0 n d) = arg.view.read (Elt Ideal) X (ix3 0 (key (1024 * k.val + 512 + n.val)) d) := by
  refine (View.readAt_apply ..).trans ?_
  refine congrArg (arg.view.read (Elt Ideal) X) (funext fun a => Fin.ext ?_)
  have hk : k.val < 16 := Nat.lt_of_lt_of_le k.isLt k0_t1_abs.2.1
  have hn := n.isLt
  show k0_off2 k a + 1 * (ix3 0 n d a : ℕ) = _
  rw [k0_off2_eq]
  match a with
  | 0 => rfl
  | 1 => show 1024 * k.val + 512 + 1 * n.val = (1024 * k.val + 512 + n.val) % 16384; omega
  | 2 => show 0 + 1 * d.val = d.val; omega

/-- The weights of a trip's two blocks are those of its 1024 keys. -/
theorem trip_sum (k : Fin k0_t1_loop.trips) (b : EReal) (Q : S128x8192.Idx → EReal) (M : S1x8192.Idx → EReal)
    (h1 : ∀ a, (k0_off1 k) a + S1x512x128.size a ≤ S1x16384x128.size a) (h2 : ∀ a, (k0_off2 k) a + S1x512x128.size a ≤ S1x16384x128.size a) (y : S1x8192.Idx) :
    b + addL (blkE arg4 X4 k h1) Q M y + addL (blkO arg4 X4 k h2) Q M y
      = b + ∑ n ∈ range 1024, W (arg4.view.read (Elt Ideal) X4) Q M (1024 * k.val + n) (y 1) := by
  refine Eq.trans ?_ (congrArg (b + ·) (sum_range_add _ 512 512).symm)
  rw [add_assoc, sum_range, sum_range]
  refine congrArg (b + ·) (congrArg₂ (· + ·) (sum_congr rfl fun n _ => ?_) (sum_congr rfl fun n _ => ?_))
  · unfold wt W sc; simp only [blkE_apply]
  · unfold wt W sc; simp only [blkO_apply, Nat.add_assoc]

/-- So are the weighted values. -/
theorem trip_sum_v (k : Fin k0_t1_loop.trips) (b : EReal) (Q : S128x8192.Idx → EReal) (M : S1x8192.Idx → EReal)
    (h1 : ∀ a, (k0_off1 k) a + S1x512x128.size a ≤ S1x16384x128.size a) (h2 : ∀ a, (k0_off2 k) a + S1x512x128.size a ≤ S1x16384x128.size a) (y : S128x8192.Idx) :
    b + addA (blkE arg4 X4 k h1) (blkE arg5 X5 k h1) Q M y + addA (blkO arg4 X4 k h2) (blkO arg5 X5 k h2) Q M y
      = b + ∑ n ∈ range 1024, arg5.view.read (Elt Ideal) X5 (ix3 0 (key (1024 * k.val + n)) (y 0)) * W (arg4.view.read (Elt Ideal) X4) Q M (1024 * k.val + n) (y 1) := by
  refine Eq.trans ?_ (congrArg (b + ·) (sum_range_add _ 512 512).symm)
  rw [add_assoc, sum_range, sum_range]
  refine congrArg (b + ·) (congrArg₂ (· + ·) (sum_congr rfl fun n _ => ?_) (sum_congr rfl fun n _ => ?_))
  · unfold wt W sc; simp only [blkE_apply]; exact congrArg (· * _) (blkE_apply arg5 X5 k h1 n (y 0))
  · unfold wt W sc; simp only [blkO_apply, Nat.add_assoc]; exact congrArg (· * _) ((blkO_apply arg5 X5 k h2 n (y 0)).trans (by rw [Nat.add_assoc]))

set_option maxRecDepth 20000 in
/-- The normaliser after a trip, -/
theorem l_read (k : Fin k0_t1_loop.trips) (g : BufTy.Contents (Elt Ideal) arg10.view.ty) (y : S1x8192.Idx) :
    arg10.view.read (Elt Ideal) (arg10.view.writes (Elt Ideal) g ((trip_k0_t1 𝒱 c bd i arg3 harg3 arg4 harg4 arg5 harg5 arg6 harg6 arg7 harg7 arg8 harg8 arg9 harg9 arg10 harg10 arg11 harg11 X4 X5 X7 X9 k).1 f10 f11)) y
      = arg10.view.read (Elt Ideal) f10 y + ∑ n ∈ range 1024, W (arg4.view.read (Elt Ideal) X4) (arg7.view.read (Elt Ideal) X7) (arg9.view.read (Elt Ideal) X9) (1024 * k.val + n) (y 1) := by
  rw [View.read_writes_eq_canon arg10.view g ((trip_k0_t1 𝒱 c bd i arg3 harg3 arg4 harg4 arg5 harg5 arg6 harg6 arg7 harg7 arg8 harg8 arg9 harg9 arg10 harg10 arg11 harg11 X4 X5 X7 X9 k).1 f10 f11) (l_cover 𝒱 c bd i arg3 harg3 arg4 harg4 arg5 harg5 arg6 harg6 arg7 harg7 arg8 harg8 arg9 harg9 arg10 harg10 arg11 harg11 X4 X5 X7 X9 k f10 f11)]
  exact (l_trip 𝒱 c bd i arg3 harg3 arg4 harg4 arg5 harg5 arg6 harg6 arg7 harg7 arg8 harg8 arg9 harg9 arg10 harg10 arg11 harg11 X4 X5 X7 X9 k f10 f11 (k0_off1_inb k) (k0_off2_inb k) y).trans (trip_sum _ _ k _ _ _ _ _ y)

set_option maxRecDepth 20000 in
/-- and the accumulator. -/
theorem a_read (k : Fin k0_t1_loop.trips) (g : BufTy.Contents (Elt Ideal) arg11.view.ty) (y : S128x8192.Idx) :
    arg11.view.read (Elt Ideal) (arg11.view.writes (Elt Ideal) g ((trip_k0_t1 𝒱 c bd i arg3 harg3 arg4 harg4 arg5 harg5 arg6 harg6 arg7 harg7 arg8 harg8 arg9 harg9 arg10 harg10 arg11 harg11 X4 X5 X7 X9 k).2.1 f10 f11)) y
      = arg11.view.read (Elt Ideal) f11 y + ∑ n ∈ range 1024, arg5.view.read (Elt Ideal) X5 (ix3 0 (key (1024 * k.val + n)) (y 0)) * W (arg4.view.read (Elt Ideal) X4) (arg7.view.read (Elt Ideal) X7) (arg9.view.read (Elt Ideal) X9) (1024 * k.val + n) (y 1) := by
  rw [View.read_writes_eq_canon arg11.view g ((trip_k0_t1 𝒱 c bd i arg3 harg3 arg4 harg4 arg5 harg5 arg6 harg6 arg7 harg7 arg8 harg8 arg9 harg9 arg10 harg10 arg11 harg11 X4 X5 X7 X9 k).2.1 f10 f11) (a_cover 𝒱 c bd i arg3 harg3 arg4 harg4 arg5 harg5 arg6 harg6 arg7 harg7 arg8 harg8 arg9 harg9 arg10 harg10 arg11 harg11 X4 X5 X7 X9 k f10 f11)]
  exact (a_trip 𝒱 c bd i arg3 harg3 arg4 harg4 arg5 harg5 arg6 harg6 arg7 harg7 arg8 harg8 arg9 harg9 arg10 harg10 arg11 harg11 X4 X5 X7 X9 k f10 f11 (k0_off1_inb k) (k0_off2_inb k) y).trans (trip_sum_v _ _ _ _ k _ _ _ _ _ y)

set_option maxRecDepth 20000 in
/-- After `n` trips the normaliser and the accumulator hold the sums over the first `1024 n` keys. -/
theorem lazy_loop (n : ℕ) (hn : n ≤ 16) :
    (∀ y : S1x8192.Idx, arg10.view.read (Elt Ideal) (arg10.view.writes (Elt Ideal) f10 (pb_k0_t1 (F := Ideal) 𝒱 c bd i arg3 harg3 arg4 harg4 arg5 harg5 arg6 harg6 arg7 harg7 arg8 harg8 arg9 harg9 arg10 harg10 arg11 harg11 X4 X5 X7 X9 f10 f11 n).1) y
      = arg10.view.read (Elt Ideal) f10 y + ∑ i ∈ range (1024 * n), W (arg4.view.read (Elt Ideal) X4) (arg7.view.read (Elt Ideal) X7) (arg9.view.read (Elt Ideal) X9) i (y 1))
    ∧ (∀ y : S128x8192.Idx, arg11.view.read (Elt Ideal) (arg11.view.writes (Elt Ideal) f11 (pb_k0_t1 (F := Ideal) 𝒱 c bd i arg3 harg3 arg4 harg4 arg5 harg5 arg6 harg6 arg7 harg7 arg8 harg8 arg9 harg9 arg10 harg10 arg11 harg11 X4 X5 X7 X9 f10 f11 n).2) y
      = arg11.view.read (Elt Ideal) f11 y + ∑ i ∈ range (1024 * n), arg5.view.read (Elt Ideal) X5 (ix3 0 (key i) (y 0)) * W (arg4.view.read (Elt Ideal) X4) (arg7.view.read (Elt Ideal) X7) (arg9.view.read (Elt Ideal) X9) i (y 1)) := by
  induction n with
  | zero => exact ⟨fun y => (add_zero _).symm, fun y => (add_zero _).symm⟩
  | succ n ih =>
    obtain ⟨ihl, iha⟩ := ih (by omega)
    have ht : n < k0_t1_loop.trips := lt_of_lt_of_eq (by omega) (by decide : (16 : ℕ) = k0_t1_loop.trips)
    have hs := pb_k0_t1_succ (F := Ideal) 𝒱 c bd i arg3 harg3 arg4 harg4 arg5 harg5 arg6 harg6 arg7 harg7 arg8 harg8 arg9 harg9 arg10 harg10 arg11 harg11 X4 X5 X7 X9 f10 f11 ⟨n, ht⟩
    dsimp only at hs
    rw [hs]
    refine ⟨fun y => ?_, fun y => ?_⟩
    · rw [View.writes_append]
      refine (l_read 𝒱 c bd i arg3 harg3 arg4 harg4 arg5 harg5 arg6 harg6 arg7 harg7 arg8 harg8 arg9 harg9 arg10 harg10 arg11 harg11 X4 X5 X7 X9 _ _ ⟨n, ht⟩ _ y).trans ?_
      rw [ihl, Nat.mul_succ, sum_range_add, add_assoc]
    · rw [View.writes_append]
      refine (a_read 𝒱 c bd i arg3 harg3 arg4 harg4 arg5 harg5 arg6 harg6 arg7 harg7 arg8 harg8 arg9 harg9 arg10 harg10 arg11 harg11 X4 X5 X7 X9 _ _ ⟨n, ht⟩ _ y).trans ?_
      rw [iha, Nat.mul_succ, sum_range_add, add_assoc]

end

end Cert.KernelIdeal.Dense
end
-- ==== Proof.DenseOnl.lean ====
module

public import proofs.«01_k».proof.Proof.DenseLoop

@[expose] public section
set_option maxRecDepth 16384
open Idealize Idealize.ShloMosaic Finset
open Idealize.ShloMosaic.ValueKit
open Cert.KernelIdeal Cert.KernelIdeal.Gen

namespace Cert.KernelIdeal.Dense

/-- A block's scores. -/
theorem st_pay (kb : FVec Ideal S1x128x128 .bf16) (q : FVec Ideal S128x8192 .bf16) (x : S1x128x8192.Idx) :
    k0_pay292 (F := Ideal) kb q x = ∑ d : Fin 128, kb (ix3 0 (x 1) d) * q (ix2 d (x 2)) := by
  pointwise [k0_pay292]

/-- The least value, where a maximum starts. -/
noncomputable def bot : EReal := Ideal.ofBits FTy.f32 4286578688#32

/-- A column's maximum. -/
theorem colmax {m n : ℕ} (v : FVec Ideal (⟨2, ![m, n]⟩ : Shape) .f32) (h : (⟨2, ![m, n]⟩ : Shape).Reduces [0] (⟨1, ![n]⟩ : Shape)) (h1) (h2) (j : (⟨1, ![n]⟩ : Shape).Idx) :
    multiReduction (F := Ideal) .maximumf [0] (⟨1, ![n]⟩ : Shape) v 0xFF800000#32 h h1 h2 j = fold max bot (fun i : Fin m => v (ix2 i (j 0))) univ := by
  unfold bot
  pointwise []

/-- The maximum so far. -/
theorem mx_pay (st : FVec Ideal S1x128x8192 .f32) (m : FVec Ideal S1x8192 .f32) (x : S1x8192.Idx) :
    k0_pay294 (F := Ideal) st m x = max (m x) (fold max bot (fun i : Fin 128 => st (ix3 0 i (x 1))) univ) := by
  unfold k0_pay294
  dsimp only
  have e : ∀ j : S8192.Idx, multiReduction (F := Ideal) .maximumf [0] S8192 (k0_pay293 st) 0xFF800000#32 reduces_S128x8192_S8192 (.inl rfl) rfl j
      = fold max bot (fun i : Fin 128 => k0_pay293 (F := Ideal) st (ix2 i (j 0))) univ := colmax (k0_pay293 st) reduces_S128x8192_S8192 (.inl rfl) rfl
  generalize hg : multiReduction (F := Ideal) .maximumf [0] S8192 (k0_pay293 st) 0xFF800000#32 reduces_S128x8192_S8192 (.inl rfl) rfl = g at *
  pointwise []
  have e' : g = fun j => fold max bot (fun i : Fin 128 => k0_pay293 (F := Ideal) st (ix2 i (j 0))) univ := funext e
  rw [e']
  pointwise [k0_pay293]

/-- The maximum as it is stored. -/
theorem ms_pay (m : FVec Ideal S1x8192 .f32) (x : S1x8192.Idx) : k0_pay299 (F := Ideal) m x = m x := by
  pointwise [k0_pay299]

/-- The normaliser, rescaled and added to. -/
theorem ln_pay (st : FVec Ideal S1x128x8192 .f32) (m l : FVec Ideal S1x8192 .f32) (x : S1x8192.Idx) :
    k0_pay297 (F := Ideal) st m l x
      = Ideal.exp2 (m x - k0_pay294 (F := Ideal) st m x) * l x + ∑ i : Fin 128, Ideal.exp2 (st (ix3 0 i (x 1)) - k0_pay294 (F := Ideal) st m (ix2 0 (x 1))) := by
  pointwise [k0_pay297, k0_pay295, k0_pay296, k0_pay293]
  rfl

/-- The accumulator, rescaled and added to, -/
theorem an_pay (al : FVec Ideal S1x8192 .f32) (p a : FVec Ideal S128x8192 .f32) (vb : FVec Ideal S1x128x128 .bf16) (x : S128x8192.Idx) :
    k0_pay298 (F := Ideal) al p a vb x = al (ix2 0 (x 1)) * a x + ∑ i : Fin 128, vb (ix3 0 i (x 0)) * p (ix2 i (x 1)) := by
  pointwise [k0_pay298]

/-- with its scale -/
theorem al_pay (st : FVec Ideal S1x128x8192 .f32) (m : FVec Ideal S1x8192 .f32) (x : S1x8192.Idx) :
    k0_pay295 (F := Ideal) st m x = Ideal.exp2 (m x - k0_pay294 (F := Ideal) st m x) := by
  pointwise [k0_pay295]
  rfl

/-- and weights. -/
theorem p_pay (st : FVec Ideal S1x128x8192 .f32) (m : FVec Ideal S1x8192 .f32) (x : S128x8192.Idx) :
    k0_pay296 (F := Ideal) st m x = Ideal.exp2 (st (ix3 0 (x 0) (x 1)) - k0_pay294 (F := Ideal) st m (ix2 0 (x 1))) := by
  pointwise [k0_pay296, k0_pay293]
  rfl

/-! ## The running softmax, block by block -/

section
variable (K V : S1x16384x128.Idx → EReal) (Q : S128x8192.Idx → EReal)

/-- The running maximum after `b` blocks of 128 keys. -/
noncomputable def om : ℕ → Fin 8192 → EReal
  | 0, _ => bot
  | b + 1, j => max (om b j) (fold max bot (fun i : Fin 128 => sc K Q (128 * b + i.val) j) univ)

/-- The running normaliser. -/
noncomputable def ol : ℕ → Fin 8192 → EReal
  | 0, _ => 0
  | b + 1, j => Ideal.exp2 (om K Q b j - om K Q (b + 1) j) * ol b j + ∑ i : Fin 128, Ideal.exp2 (sc K Q (128 * b + i.val) j - om K Q (b + 1) j)

/-- The running accumulator. -/
noncomputable def oa : ℕ → Fin 128 → Fin 8192 → EReal
  | 0, _, _ => 0
  | b + 1, d, j => Ideal.exp2 (om K Q b j - om K Q (b + 1) j) * oa b d j
      + ∑ i : Fin 128, V (ix3 0 (key (128 * b + i.val)) d) * Ideal.exp2 (sc K Q (128 * b + i.val) j - om K Q (b + 1) j)

variable {K V Q} {b : ℕ} {st : FVec Ideal S1x128x8192 .f32} {m l : FVec Ideal S1x8192 .f32}

/-- One block's step of the maximum, -/
theorem step_m (hst : ∀ (i : Fin 128) (j : Fin 8192), st (ix3 0 i j) = sc K Q (128 * b + i.val) j) (hm : ∀ y, m y = om K Q b (y 1)) (y : S1x8192.Idx) :
    k0_pay294 (F := Ideal) st m y = om K Q (b + 1) (y 1) := by
  refine (mx_pay st m y).trans ?_
  have e : (fun i : Fin 128 => st (ix3 0 i (y 1))) = fun i : Fin 128 => sc K Q (128 * b + i.val) (y 1) := funext fun i => hst i (y 1)
  rw [e, hm y]
  rfl

/-- of the normaliser -/
theorem step_l (hst : ∀ (i : Fin 128) (j : Fin 8192), st (ix3 0 i j) = sc K Q (128 * b + i.val) j) (hm : ∀ y, m y = om K Q b (y 1)) (hl : ∀ y, l y = ol K Q b (y 1)) (y : S1x8192.Idx) :
    k0_pay297 (F := Ideal) st m l y = ol K Q (b + 1) (y 1) := by
  refine (ln_pay st m l y).trans ?_
  have e : ∀ i : Fin 128, st (ix3 0 i (y 1)) = sc K Q (128 * b + i.val) (y 1) := fun i => hst i (y 1)
  have e2 : k0_pay294 (F := Ideal) st m (ix2 0 (y 1)) = om K Q (b + 1) (y 1) := step_m hst hm _
  rw [step_m hst hm y, hm y, hl y, e2]
  simp only [e]
  rfl

/-- and of the accumulator. -/
theorem step_a {a : FVec Ideal S128x8192 .f32} {vb : FVec Ideal S1x128x128 .bf16}
    (hst : ∀ (i : Fin 128) (j : Fin 8192), st (ix3 0 i j) = sc K Q (128 * b + i.val) j) (hm : ∀ y, m y = om K Q b (y 1)) (ha : ∀ y, a y = oa K V Q b (y 0) (y 1))
    (hv : ∀ (i : Fin 128) (d : Fin 128), vb (ix3 0 i d) = V (ix3 0 (key (128 * b + i.val)) d)) (y : S128x8192.Idx) :
    k0_pay298 (F := Ideal) (k0_pay295 st m) (k0_pay296 st m) a vb y = oa K V Q (b + 1) (y 0) (y 1) := by
  refine (an_pay _ _ a vb y).trans ?_
  have e : ∀ i : Fin 128, st (ix3 0 i (y 1)) = sc K Q (128 * b + i.val) (y 1) := fun i => hst i (y 1)
  have e1 : k0_pay295 (F := Ideal) st m (ix2 0 (y 1)) = Ideal.exp2 (om K Q b (y 1) - om K Q (b + 1) (y 1)) := by
    refine (al_pay st m _).trans ?_
    rw [step_m hst hm (ix2 0 (y 1)), hm (ix2 0 (y 1))]
    rfl
  have e2 : ∀ i : Fin 128, k0_pay296 (F := Ideal) st m (ix2 i (y 1)) = Ideal.exp2 (sc K Q (128 * b + i.val) (y 1) - om K Q (b + 1) (y 1)) := fun i => by
    refine (p_pay st m _).trans ?_
    exact congrArg₂ (fun a b => Ideal.exp2 (a - b)) (e i) (step_m hst hm (ix2 0 (y 1)))
  have e3 : ∀ i : Fin 128, vb (ix3 0 i (y 0)) = V (ix3 0 (key (128 * b + i.val)) (y 0)) := fun i => hv i (y 0)
  rw [e1, ha y]
  simp only [e2, e3]
  rfl
end

/-! ## One trip of the running softmax -/

section
variable (𝒱 : Variants) (c : Dev nD) (bd : Option 𝒱.V) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (X4 : BufTy.Contents (Elt Ideal) arg4.view.ty) (X5 : BufTy.Contents (Elt Ideal) arg5.view.ty) (X7 : BufTy.Contents (Elt Ideal) arg7.view.ty) (k : Fin k0_t2_loop.trips)

/-- A block of 128 keys or values. -/
theorem blk_apply (arg : Memref sig .tc .vmem S1x16384x128 .bf16) (X : BufTy.Contents (Elt Ideal) arg.view.ty) {o : Fin 3 → ℕ} {p : ℕ}
    (h : ∀ a, o a + S1x128x128.size a ≤ S1x16384x128.size a) (ho : o = ![0, p, 0]) (i d : Fin 128) :
    View.readAt (Elt Ideal) arg.view (Rect.unit (s := S1x16384x128) o S1x128x128.size h).toLoadRect X (ix3 0 i d) = arg.view.read (Elt Ideal) X (ix3 0 (key (p + i.val)) d) := by
  subst ho
  have h1 : p + 128 ≤ 16384 := h 1
  refine (View.readAt_apply ..).trans ?_
  refine congrArg (arg.view.read (Elt Ideal) X) (funext fun a => Fin.ext ?_)
  have hi := i.isLt
  match a with
  | 0 => rfl
  | 1 => show p + 1 * i.val = (p + i.val) % 16384; omega
  | 2 => show 0 + 1 * d.val = d.val; omega

/-- The scores of a block as they are stored. -/
theorem st_blk {o : Fin 3 → ℕ} {p : ℕ} (h : ∀ a, o a + S1x128x128.size a ≤ S1x16384x128.size a) (ho : o = ![0, p, 0])
    (h7) (x : S1x128x8192.Idx) :
    k0_pay292 (F := Ideal) (View.readAt (Elt Ideal) arg4.view (Rect.unit (s := S1x16384x128) o S1x128x128.size h).toLoadRect X4)
        (View.readAt (Elt Ideal) arg7.view (Rect.unit (s := S128x8192) ![0, 0] S128x8192.size h7).toLoadRect X7) x
      = sc (arg4.view.read (Elt Ideal) X4) (arg7.view.read (Elt Ideal) X7) (p + (x 1).val) (x 2) := by
  refine (st_pay _ _ x).trans ?_
  unfold sc
  refine sum_congr rfl fun d _ => congrArg₂ (· * ·) (blk_apply arg4 X4 h ho (x 1) d) ?_
  refine (View.readAt_apply ..).trans ?_
  refine congrArg (arg7.view.read (Elt Ideal) X7) (funext fun a => Fin.ext ?_)
  match a with
  | 0 => show 0 + 1 * d.val = d.val; omega
  | 1 => show 0 + 1 * (x 2).val = (x 2).val; omega

end

end Cert.KernelIdeal.Dense
end
-- ==== Proof.DenseTrip2.lean ====
module

public import proofs.«01_k».proof.Proof.DenseOnl

@[expose] public section
set_option maxRecDepth 16384
open Idealize Idealize.ShloMosaic Finset
open Idealize.ShloMosaic.ValueKit
open Cert.KernelIdeal Cert.KernelIdeal.Gen

namespace Cert.KernelIdeal.Dense

/-! ## One trip of the running softmax -/

/-- A whole array's embedding is the identity. -/
theorem whole_emb {R : ℕ} (inb : ∀ a, (![0, 0] : Fin 2 → ℕ) a + (![R, 8192] : Fin 2 → ℕ) a ≤ (![R, 8192] : Fin 2 → ℕ) a) (y : (⟨2, ![R, 8192]⟩ : Shape).Idx) :
    (Rect.unit (s := ⟨2, ![R, 8192]⟩) ![0, 0] ![R, 8192] inb).emb y = y :=
  funext fun a => Fin.ext (match a with
    | 0 => by show 0 + 1 * (y 0).val = (y 0).val; omega
    | 1 => by show 0 + 1 * (y 1).val = (y 1).val; omega)

/-- The newest whole piece is what is read. -/
theorem whole_cons {R : ℕ} (inb : ∀ a, (![0, 0] : Fin 2 → ℕ) a + (![R, 8192] : Fin 2 → ℕ) a ≤ (![R, 8192] : Fin 2 → ℕ) a)
    (L : List (View.Piece (Elt Ideal) (⟨2, ![R, 8192]⟩ : Shape) .f32)) (w : (Rect.unit (s := ⟨2, ![R, 8192]⟩) ![0, 0] ![R, 8192] inb).shape.Idx → Elt Ideal .f32) (y : (⟨2, ![R, 8192]⟩ : Shape).Idx) :
    View.canon ((⟨Rect.unit (s := ⟨2, ![R, 8192]⟩) ![0, 0] ![R, 8192] inb, w⟩ : View.Piece (Elt Ideal) (⟨2, ![R, 8192]⟩ : Shape) .f32) :: L) y = w y :=
  (congrArg _ (whole_emb inb y).symm).trans (View.canon_cons_emb _ w L y)

/-- And so when it is read back within a trip. -/
theorem whole_cov {R : ℕ} (arg : Memref sig .tc .vmem (⟨2, ![R, 8192]⟩ : Shape) .f32) (inb : ∀ a, (![0, 0] : Fin 2 → ℕ) a + (![R, 8192] : Fin 2 → ℕ) a ≤ (![R, 8192] : Fin 2 → ℕ) a)
    (L : List (View.Piece (Elt Ideal) (⟨2, ![R, 8192]⟩ : Shape) .f32)) (w : (Rect.unit (s := ⟨2, ![R, 8192]⟩) ![0, 0] ![R, 8192] inb).shape.Idx → Elt Ideal .f32) (y : (⟨2, ![R, 8192]⟩ : Shape).Idx) :
    arg.view.readCov ((⟨Rect.unit (s := ⟨2, ![R, 8192]⟩) ![0, 0] ![R, 8192] inb, w⟩ : View.Piece (Elt Ideal) (⟨2, ![R, 8192]⟩ : Shape) .f32) :: L)
      (Rect.unit (s := ⟨2, ![R, 8192]⟩) ![0, 0] ![R, 8192] inb).toLoadRect y = w y := by
  rw [View.readCov_eq_canon']
  exact ((congrArg (View.canon ((⟨Rect.unit (s := ⟨2, ![R, 8192]⟩) ![0, 0] ![R, 8192] inb, w⟩ : View.Piece (Elt Ideal) (⟨2, ![R, 8192]⟩ : Shape) .f32) :: L)) (whole_emb inb y)).trans (whole_cons inb L w y))

/-- It covers everything. -/
theorem whole_cover {R : ℕ} (inb : ∀ a, (![0, 0] : Fin 2 → ℕ) a + (![R, 8192] : Fin 2 → ℕ) a ≤ (![R, 8192] : Fin 2 → ℕ) a)
    (L : List (View.Piece (Elt Ideal) (⟨2, ![R, 8192]⟩ : Shape) .f32)) (w : (Rect.unit (s := ⟨2, ![R, 8192]⟩) ![0, 0] ![R, 8192] inb).shape.Idx → Elt Ideal .f32) (y : (⟨2, ![R, 8192]⟩ : Shape).Idx) :
    ∃ p ∈ ((⟨Rect.unit (s := ⟨2, ![R, 8192]⟩) ![0, 0] ![R, 8192] inb, w⟩ : View.Piece (Elt Ideal) (⟨2, ![R, 8192]⟩ : Shape) .f32) :: L), y ∈ p.1.set := by
  refine ⟨_, List.mem_cons_self, ?_⟩
  show y ∈ (Rect.unit (s := ⟨2, ![R, 8192]⟩) ![0, 0] ![R, 8192] inb).set
  rw [Rect.mem_set_unit]
  intro a
  have h0 : (y 0).val < R := (y 0).isLt
  have h1 : (y 1).val < 8192 := (y 1).isLt
  match a with
  | 0 => exact ⟨Nat.zero_le _, by show (y 0).val < 0 + R; omega⟩
  | 1 => exact ⟨Nat.zero_le _, by show (y 1).val < 0 + 8192; omega⟩

/-- Of the two halves of the scores each is read back as it was written. -/
theorem half_cov (arg8 : Memref sig .tc .vmem S2x128x8192 .f32) (h0) (h1)
    (L : List (View.Piece (Elt Ideal) S2x128x8192 .f32)) (w0 : (Rect.unit (s := S2x128x8192) ![0, 0, 0] S1x128x8192.size h0).shape.Idx → Elt Ideal .f32)
    (w : (Rect.unit (s := S2x128x8192) ![1, 0, 0] S1x128x8192.size h1).shape.Idx → Elt Ideal .f32) (x : (Rect.unit (s := S2x128x8192) ![1, 0, 0] S1x128x8192.size h1).shape.Idx) :
    arg8.view.readCov ((⟨Rect.unit (s := S2x128x8192) ![0, 0, 0] S1x128x8192.size h0, w0⟩ : View.Piece (Elt Ideal) S2x128x8192 .f32)
      :: (⟨Rect.unit (s := S2x128x8192) ![1, 0, 0] S1x128x8192.size h1, w⟩ : View.Piece (Elt Ideal) S2x128x8192 .f32) :: L)
        (Rect.unit (s := S2x128x8192) ![1, 0, 0] S1x128x8192.size h1).toLoadRect x = w x := by
  rw [View.readCov_eq_canon']
  refine (View.canon_cons_of_not_mem (⟨Rect.unit (s := S2x128x8192) ![0, 0, 0] S1x128x8192.size h0, w0⟩ : View.Piece (Elt Ideal) S2x128x8192 .f32) _ ?_).trans (View.canon_cons_emb _ w L x)
  show ¬ ((Rect.unit (s := S2x128x8192) ![1, 0, 0] S1x128x8192.size h1).emb x ∈ (Rect.unit (s := S2x128x8192) ![0, 0, 0] S1x128x8192.size h0).set)
  rw [Rect.mem_set_unit]
  intro hh
  have h2 : 1 + 1 * (x 0).val < 0 + 1 := (hh 0).2
  omega

section
variable (𝒱 : Variants) (c : Dev nD) (bd : Option 𝒱.V) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (X4 : BufTy.Contents (Elt Ideal) arg4.view.ty) (X5 : BufTy.Contents (Elt Ideal) arg5.view.ty) (X7 : BufTy.Contents (Elt Ideal) arg7.view.ty) (k : Fin k0_t2_loop.trips)
    (f8 : BufTy.Contents (Elt Ideal) arg8.view.ty) (f9 : BufTy.Contents (Elt Ideal) arg9.view.ty) (f10 : BufTy.Contents (Elt Ideal) arg10.view.ty) (f11 : BufTy.Contents (Elt Ideal) arg11.view.ty)

/-- What a trip finds: the scores of its first block, and the running values before it. -/
structure Found (b p : ℕ) : Prop where
  st : ∀ (i : Fin 128) (j : Fin 8192), arg8.view.read (Elt Ideal) f8 (ix3 0 i j) = sc (arg4.view.read (Elt Ideal) X4) (arg7.view.read (Elt Ideal) X7) (p + i.val) j
  m : ∀ y : S1x8192.Idx, arg9.view.read (Elt Ideal) f9 y = om (arg4.view.read (Elt Ideal) X4) (arg7.view.read (Elt Ideal) X7) b (y 1)
  l : ∀ y : S1x8192.Idx, arg10.view.read (Elt Ideal) f10 y = ol (arg4.view.read (Elt Ideal) X4) (arg7.view.read (Elt Ideal) X7) b (y 1)
  a : ∀ y : S128x8192.Idx, arg11.view.read (Elt Ideal) f11 y = oa (arg4.view.read (Elt Ideal) X4) (arg5.view.read (Elt Ideal) X5) (arg7.view.read (Elt Ideal) X7) b (y 0) (y 1)

variable (h : Found arg4 arg5 arg7 arg8 arg9 arg10 arg11 X4 X5 X7 f8 f9 f10 f11 (2 * k.val) (128 * (2 * k.val)))
include h

/-- The first block's scores as they are read back. -/
theorem t_st0 (i : Fin 128) (j : Fin 8192) :
    trip_k0_t2.sl.v144 arg8 f8 (ix3 0 i j) = sc (arg4.view.read (Elt Ideal) X4) (arg7.view.read (Elt Ideal) X7) (128 * (2 * k.val) + i.val) j := by
  unfold trip_k0_t2.sl.v144
  refine Eq.trans ?_ (h.st i j)
  refine (View.readAt_apply ..).trans ?_
  refine congrArg (arg8.view.read (Elt Ideal) f8) (funext fun a => Fin.ext ?_)
  match a with
  | 0 => rfl
  | 1 => show 0 + 1 * i.val = i.val; omega
  | 2 => show 0 + 1 * j.val = j.val; omega

/-- The maximum, -/
theorem t_m0 (hb) (y : S1x8192.Idx) : View.readAt (Elt Ideal) arg9.view (Rect.unit (s := S1x8192) ![0, 0] S1x8192.size hb).toLoadRect f9 y
    = om (arg4.view.read (Elt Ideal) X4) (arg7.view.read (Elt Ideal) X7) (2 * k.val) (y 1) :=
  (View.readAt_apply ..).trans ((congrArg (arg9.view.read (Elt Ideal) f9) (whole_emb (R := 1) hb y)).trans (h.m y))

/-- the normaliser -/
theorem t_l0 (hb) (y : S1x8192.Idx) : View.readAt (Elt Ideal) arg10.view (Rect.unit (s := S1x8192) ![0, 0] S1x8192.size hb).toLoadRect f10 y
    = ol (arg4.view.read (Elt Ideal) X4) (arg7.view.read (Elt Ideal) X7) (2 * k.val) (y 1) :=
  (View.readAt_apply ..).trans ((congrArg (arg10.view.read (Elt Ideal) f10) (whole_emb (R := 1) hb y)).trans (h.l y))

/-- and the accumulator before the trip. -/
theorem t_a0 (hb) (y : S128x8192.Idx) : View.readAt (Elt Ideal) arg11.view (Rect.unit (s := S128x8192) ![0, 0] S128x8192.size hb).toLoadRect f11 y
    = oa (arg4.view.read (Elt Ideal) X4) (arg5.view.read (Elt Ideal) X5) (arg7.view.read (Elt Ideal) X7) (2 * k.val) (y 0) (y 1) :=
  (View.readAt_apply ..).trans ((congrArg (arg11.view.read (Elt Ideal) f11) (whole_emb (R := 128) hb y)).trans (h.a y))

omit h in
/-- The second block's scores as they are read back. -/
theorem t_st1 (i : Fin 128) (j : Fin 8192) :
    trip_k0_t2.sl.v194 arg4 arg7 arg8 X4 X7 k (ix3 0 i j) = sc (arg4.view.read (Elt Ideal) X4) (arg7.view.read (Elt Ideal) X7) (128 * (2 * k.val + 1) + i.val) j := by
  unfold trip_k0_t2.sl.v194
  unfold trip_k0_t2.sl.HW_arg8_2
  refine (half_cov arg8 _ _ _ _ _ (ix3 0 i j)).trans ?_
  refine (st_blk arg4 arg7 X4 X7 (p := 256 * k.val + 128) _ (k0_off3_eq k) _ _).trans ?_
  exact congrArg (fun n => sc (arg4.view.read (Elt Ideal) X4) (arg7.view.read (Elt Ideal) X7) (n + i.val) j) (by omega)

/-- The maximum between the two blocks, -/
theorem t_m1 (y : S1x8192.Idx) : trip_k0_t2.sl.v196 arg8 arg9 f8 f9 y = om (arg4.view.read (Elt Ideal) X4) (arg7.view.read (Elt Ideal) X7) (2 * k.val + 1) (y 1) := by
  unfold trip_k0_t2.sl.v196
  unfold trip_k0_t2.sl.HW_arg9_1
  refine (whole_cov (R := 1) arg9 _ _ _ y).trans ((ms_pay _ y).trans ?_)
  exact step_m (t_st0 arg4 arg5 arg7 arg8 arg9 arg10 arg11 X4 X5 X7 k f8 f9 f10 f11 h) (t_m0 arg4 arg5 arg7 arg8 arg9 arg10 arg11 X4 X5 X7 k f8 f9 f10 f11 h _) y

/-- the normaliser -/
theorem t_l1 (y : S1x8192.Idx) : trip_k0_t2.sl.v205 arg8 arg9 arg10 f8 f9 f10 y = ol (arg4.view.read (Elt Ideal) X4) (arg7.view.read (Elt Ideal) X7) (2 * k.val + 1) (y 1) := by
  unfold trip_k0_t2.sl.v205
  unfold trip_k0_t2.sl.HW_arg10_1
  refine (whole_cov (R := 1) arg10 _ _ _ y).trans ?_
  exact step_l (t_st0 arg4 arg5 arg7 arg8 arg9 arg10 arg11 X4 X5 X7 k f8 f9 f10 f11 h) (t_m0 arg4 arg5 arg7 arg8 arg9 arg10 arg11 X4 X5 X7 k f8 f9 f10 f11 h _)
    (t_l0 arg4 arg5 arg7 arg8 arg9 arg10 arg11 X4 X5 X7 k f8 f9 f10 f11 h _) y

/-- and the accumulator. -/
theorem t_a1 (y : S128x8192.Idx) : trip_k0_t2.sl.v213 arg5 arg8 arg9 arg11 X5 k f8 f9 f11 y
    = oa (arg4.view.read (Elt Ideal) X4) (arg5.view.read (Elt Ideal) X5) (arg7.view.read (Elt Ideal) X7) (2 * k.val + 1) (y 0) (y 1) := by
  unfold trip_k0_t2.sl.v213
  unfold trip_k0_t2.sl.HW_arg11_1
  refine (whole_cov (R := 128) arg11 _ _ _ y).trans ?_
  exact step_a (t_st0 arg4 arg5 arg7 arg8 arg9 arg10 arg11 X4 X5 X7 k f8 f9 f10 f11 h) (t_m0 arg4 arg5 arg7 arg8 arg9 arg10 arg11 X4 X5 X7 k f8 f9 f10 f11 h _)
    (t_a0 arg4 arg5 arg7 arg8 arg9 arg10 arg11 X4 X5 X7 k f8 f9 f10 f11 h _)
    (fun i d => (blk_apply arg5 X5 (p := 256 * k.val) _ (k0_off4_eq k) i d).trans (congrArg (fun n => arg5.view.read (Elt Ideal) X5 (ix3 0 (key (n + i.val)) d)) (by omega))) y

/-- The maximum after the trip, -/
theorem t_m2 (g : BufTy.Contents (Elt Ideal) arg9.view.ty) (y : S1x8192.Idx) : arg9.view.read (Elt Ideal) (arg9.view.writes (Elt Ideal) g ((trip_k0_t2 𝒱 c bd i arg3 harg3 arg4 harg4 arg5 harg5 arg6 harg6 arg7 harg7 arg8 harg8 arg9 harg9 arg10 harg10 arg11 harg11 X4 X5 X7 k).2.1 f8 f9 f10 f11)) y
    = om (arg4.view.read (Elt Ideal) X4) (arg7.view.read (Elt Ideal) X7) (2 * k.val + 2) (y 1) := by
  unfold trip_k0_t2
  dsimp only
  rw [View.read_writes_eq_canon arg9.view g _ (whole_cover (R := 1) _ _ _)]
  refine (whole_cons (R := 1) _ _ _ y).trans ((ms_pay _ y).trans ?_)
  exact step_m (t_st1 arg4 arg7 arg8 X4 X7 k) (t_m1 arg4 arg5 arg7 arg8 arg9 arg10 arg11 X4 X5 X7 k f8 f9 f10 f11 h) y

/-- the normaliser, -/
theorem t_l2 (g : BufTy.Contents (Elt Ideal) arg10.view.ty) (y : S1x8192.Idx) : arg10.view.read (Elt Ideal) (arg10.view.writes (Elt Ideal) g ((trip_k0_t2 𝒱 c bd i arg3 harg3 arg4 harg4 arg5 harg5 arg6 harg6 arg7 harg7 arg8 harg8 arg9 harg9 arg10 harg10 arg11 harg11 X4 X5 X7 k).2.2.1 f8 f9 f10 f11)) y
    = ol (arg4.view.read (Elt Ideal) X4) (arg7.view.read (Elt Ideal) X7) (2 * k.val + 2) (y 1) := by
  unfold trip_k0_t2
  dsimp only
  rw [View.read_writes_eq_canon arg10.view g _ (whole_cover (R := 1) _ _ _)]
  refine (whole_cons (R := 1) _ _ _ y).trans ?_
  exact step_l (t_st1 arg4 arg7 arg8 X4 X7 k) (t_m1 arg4 arg5 arg7 arg8 arg9 arg10 arg11 X4 X5 X7 k f8 f9 f10 f11 h)
    (t_l1 arg4 arg5 arg7 arg8 arg9 arg10 arg11 X4 X5 X7 k f8 f9 f10 f11 h) y

/-- the accumulator -/
theorem t_a2 (g : BufTy.Contents (Elt Ideal) arg11.view.ty) (y : S128x8192.Idx) : arg11.view.read (Elt Ideal) (arg11.view.writes (Elt Ideal) g ((trip_k0_t2 𝒱 c bd i arg3 harg3 arg4 harg4 arg5 harg5 arg6 harg6 arg7 harg7 arg8 harg8 arg9 harg9 arg10 harg10 arg11 harg11 X4 X5 X7 k).2.2.2.1 f8 f9 f10 f11)) y
    = oa (arg4.view.read (Elt Ideal) X4) (arg5.view.read (Elt Ideal) X5) (arg7.view.read (Elt Ideal) X7) (2 * k.val + 2) (y 0) (y 1) := by
  unfold trip_k0_t2
  dsimp only
  rw [View.read_writes_eq_canon arg11.view g _ (whole_cover (R := 128) _ _ _)]
  refine (whole_cons (R := 128) _ _ _ y).trans ?_
  exact step_a (t_st1 arg4 arg7 arg8 X4 X7 k) (t_m1 arg4 arg5 arg7 arg8 arg9 arg10 arg11 X4 X5 X7 k f8 f9 f10 f11 h)
    (t_a1 arg4 arg5 arg7 arg8 arg9 arg10 arg11 X4 X5 X7 k f8 f9 f10 f11 h)
    (fun i d => (blk_apply arg5 X5 (p := 256 * k.val + 128) _ (k0_off6_eq k) i d).trans (congrArg (fun n => arg5.view.read (Elt Ideal) X5 (ix3 0 (key (n + i.val)) d)) (by omega))) y

omit h in
/-- and the scores ready for the next. -/
theorem t_st2 (g : BufTy.Contents (Elt Ideal) arg8.view.ty) (r : Fin 128) (j : Fin 8192) :
    arg8.view.read (Elt Ideal) (arg8.view.writes (Elt Ideal) g ((trip_k0_t2 𝒱 c bd i arg3 harg3 arg4 harg4 arg5 harg5 arg6 harg6 arg7 harg7 arg8 harg8 arg9 harg9 arg10 harg10 arg11 harg11 X4 X5 X7 k).1 f8 f9 f10 f11)) (ix3 0 r j)
      = sc (arg4.view.read (Elt Ideal) X4) (arg7.view.read (Elt Ideal) X7) (128 * min (2 * k.val + 2) 127 + r.val) j := by
  unfold trip_k0_t2
  dsimp only
  unfold trip_k0_t2.sl.HW_arg8_2
  rw [View.read_writes_eq_canon arg8.view g _ (fun y => ?_)]
  · refine (congrArg _ (?_ : ix3 (0 : Fin 2) r j = (Rect.unit (s := S2x128x8192) ![0, 0, 0] S1x128x8192.size inb_S2x128x8192_S1x128x8192_0_0_0).emb (ix3 (0 : Fin 1) r j))).trans ?_
    · funext a
      refine Fin.ext ?_
      match a with
      | 0 => rfl
      | 1 => show r.val = 0 + 1 * r.val; omega
      | 2 => show j.val = 0 + 1 * j.val; omega
    refine (View.canon_cons_emb _ _ _ _).trans ?_
    exact (st_blk arg4 arg7 X4 X7 _ (k0_off5_eq k) _ _).trans rfl
  · have h0 : (y 0).val < 2 := (y 0).isLt
    have h1 : (y 1).val < 128 := (y 1).isLt
    have h2 : (y 2).val < 8192 := (y 2).isLt
    by_cases hy : (y 0).val = 0
    · refine ⟨_, List.mem_cons_self, ?_⟩
      show y ∈ (Rect.unit (s := S2x128x8192) ![0, 0, 0] S1x128x8192.size inb_S2x128x8192_S1x128x8192_0_0_0).set
      rw [Rect.mem_set_unit]
      intro a
      match a with
      | 0 => exact ⟨Nat.zero_le _, by show (y 0).val < 0 + 1; omega⟩
      | 1 => exact ⟨Nat.zero_le _, by show (y 1).val < 0 + 128; omega⟩
      | 2 => exact ⟨Nat.zero_le _, by show (y 2).val < 0 + 8192; omega⟩
    · refine ⟨_, List.mem_cons_of_mem _ List.mem_cons_self, ?_⟩
      show y ∈ (Rect.unit (s := S2x128x8192) ![1, 0, 0] S1x128x8192.size inb_S2x128x8192_S1x128x8192_1_0_0).set
      rw [Rect.mem_set_unit]
      intro a
      match a with
      | 0 => exact ⟨by show 1 ≤ (y 0).val; omega, by show (y 0).val < 1 + 1; omega⟩
      | 1 => exact ⟨Nat.zero_le _, by show (y 1).val < 0 + 128; omega⟩
      | 2 => exact ⟨Nat.zero_le _, by show (y 2).val < 0 + 8192; omega⟩

end

end Cert.KernelIdeal.Dense
end
-- ==== Proof.DenseLoop2.lean ====
module

public import proofs.«01_k».proof.Proof.DenseTrip2

@[expose] public section
set_option maxRecDepth 20000
open Idealize Idealize.ShloMosaic Finset
open Idealize.ShloMosaic.ValueKit
open Cert.KernelIdeal Cert.KernelIdeal.Gen

namespace Cert.KernelIdeal.Dense

section
variable (𝒱 : Variants) (c : Dev nD) (bd : Option 𝒱.V) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (X4 : BufTy.Contents (Elt Ideal) arg4.view.ty) (X5 : BufTy.Contents (Elt Ideal) arg5.view.ty) (X7 : BufTy.Contents (Elt Ideal) arg7.view.ty)
    (f8 : BufTy.Contents (Elt Ideal) arg8.view.ty) (f9 : BufTy.Contents (Elt Ideal) arg9.view.ty) (f10 : BufTy.Contents (Elt Ideal) arg10.view.ty) (f11 : BufTy.Contents (Elt Ideal) arg11.view.ty)

/-- After `n` trips the running values are those of the first `2 n` blocks. -/
theorem onl_loop (h0 : Found arg4 arg5 arg7 arg8 arg9 arg10 arg11 X4 X5 X7 f8 f9 f10 f11 0 0) (n : ℕ) (hn : n ≤ 64) :
    Found arg4 arg5 arg7 arg8 arg9 arg10 arg11 X4 X5 X7
      (arg8.view.writes (Elt Ideal) f8 (pb_k0_t2 (F := Ideal) 𝒱 c bd i arg3 harg3 arg4 harg4 arg5 harg5 arg6 harg6 arg7 harg7 arg8 harg8 arg9 harg9 arg10 harg10 arg11 harg11 X4 X5 X7 f8 f9 f10 f11 n).1)
      (arg9.view.writes (Elt Ideal) f9 (pb_k0_t2 (F := Ideal) 𝒱 c bd i arg3 harg3 arg4 harg4 arg5 harg5 arg6 harg6 arg7 harg7 arg8 harg8 arg9 harg9 arg10 harg10 arg11 harg11 X4 X5 X7 f8 f9 f10 f11 n).2.1)
      (arg10.view.writes (Elt Ideal) f10 (pb_k0_t2 (F := Ideal) 𝒱 c bd i arg3 harg3 arg4 harg4 arg5 harg5 arg6 harg6 arg7 harg7 arg8 harg8 arg9 harg9 arg10 harg10 arg11 harg11 X4 X5 X7 f8 f9 f10 f11 n).2.2.1)
      (arg11.view.writes (Elt Ideal) f11 (pb_k0_t2 (F := Ideal) 𝒱 c bd i arg3 harg3 arg4 harg4 arg5 harg5 arg6 harg6 arg7 harg7 arg8 harg8 arg9 harg9 arg10 harg10 arg11 harg11 X4 X5 X7 f8 f9 f10 f11 n).2.2.2)
      (2 * n) (128 * min (2 * n) 127) := by
  induction n with
  | zero => exact h0
  | succ n ih =>
    have ht : n < k0_t2_loop.trips := lt_of_lt_of_eq (by omega) (by decide : (64 : ℕ) = k0_t2_loop.trips)
    have hf := ih (by omega)
    rw [show min (2 * n) 127 = 2 * n by omega] at hf
    have hs := pb_k0_t2_succ (F := Ideal) 𝒱 c bd i arg3 harg3 arg4 harg4 arg5 harg5 arg6 harg6 arg7 harg7 arg8 harg8 arg9 harg9 arg10 harg10 arg11 harg11 X4 X5 X7 f8 f9 f10 f11 ⟨n, ht⟩
    dsimp only at hs
    rw [hs]
    refine ⟨fun r j => ?_, fun y => ?_, fun y => ?_, fun y => ?_⟩
    · rw [View.writes_append]
      exact t_st2 𝒱 c bd i arg3 harg3 arg4 harg4 arg5 harg5 arg6 harg6 arg7 harg7 arg8 harg8 arg9 harg9 arg10 harg10 arg11 harg11 X4 X5 X7 ⟨n, ht⟩ _ _ _ _ _ r j
    · rw [View.writes_append]
      exact t_m2 𝒱 c bd i arg3 harg3 arg4 harg4 arg5 harg5 arg6 harg6 arg7 harg7 arg8 harg8 arg9 harg9 arg10 harg10 arg11 harg11 X4 X5 X7 ⟨n, ht⟩ _ _ _ _ hf _ y
    · rw [View.writes_append]
      exact t_l2 𝒱 c bd i arg3 harg3 arg4 harg4 arg5 harg5 arg6 harg6 arg7 harg7 arg8 harg8 arg9 harg9 arg10 harg10 arg11 harg11 X4 X5 X7 ⟨n, ht⟩ _ _ _ _ hf _ y
    · rw [View.writes_append]
      exact t_a2 𝒱 c bd i arg3 harg3 arg4 harg4 arg5 harg5 arg6 harg6 arg7 harg7 arg8 harg8 arg9 harg9 arg10 harg10 arg11 harg11 X4 X5 X7 ⟨n, ht⟩ _ _ _ _ hf _ y

end

end Cert.KernelIdeal.Dense
end
-- ==== Proof.DenseModel.lean ====
module

public import proofs.«01_k».proof.Proof.DenseFrameIdeal
public import proofs.«01_k».proof.Proof.DenseLoop2

@[expose] public section

set_option maxRecDepth 20000

noncomputable section

namespace Cert.KernelIdeal.Dense

open Cert.KernelIdeal Cert.KernelIdeal.Gen
open Idealize Idealize.ShloMosaic Idealize.ShloMosaic.TcCoe Idealize.SL.Sem Finset
open Idealize.ShloMosaic.ValueKit

/-! ## What a grid point leaves, as sums over the keys -/

/-- The four heads' queries side by side, features down the columns. -/
def qT (x0 : S1x2048x512.Idx → EReal) : S128x8192.Idx → EReal := fun y =>
  x0 (ix3 0 ⟨(y 1).val % 2048, Nat.mod_lt _ (by norm_num)⟩
    ⟨128 * ((y 1).val / 2048) + (y 0).val, by have h0 : (y 0).val < 128 := (y 0).isLt; have h1 : (y 1).val < 8192 := (y 1).isLt; omega⟩)

/-- The largest score among the first 128 keys. -/
def m0 (x0 : S1x2048x512.Idx → EReal) (x1 : S1x16384x128.Idx → EReal) : S1x8192.Idx → EReal := fun y =>
  fold max bot (fun i : Fin 128 => sc x1 (qT x0) i.val (y 1)) univ

/-- The normaliser of the sweep that shifts by `m0` throughout. -/
def Lz (x0 : S1x2048x512.Idx → EReal) (x1 : S1x16384x128.Idx → EReal) : S1x8192.Idx → EReal := fun y =>
  0 + ∑ i ∈ range 16384, W x1 (qT x0) (m0 x0 x1) i (y 1)

/-- Its accumulator. -/
def Az (x0 : S1x2048x512.Idx → EReal) (x1 x2 : S1x16384x128.Idx → EReal) : S128x8192.Idx → EReal := fun y =>
  0 + ∑ i ∈ range 16384, x2 (ix3 0 (key i) (y 0)) * W x1 (qT x0) (m0 x0 x1) i (y 1)

/-- The accumulator over the normaliser, one head beside the other. -/
def outOf (a : S128x8192.Idx → EReal) (l : S1x8192.Idx → EReal) : S1x2048x512.Idx → EReal := fun y =>
  Ideal.div (a (ix2 ⟨(y 2).val % 128, Nat.mod_lt _ (by norm_num)⟩ ⟨2048 * ((y 2).val / 128) + (y 1).val, by have h0 : (y 1).val < 2048 := (y 1).isLt; have h1 : (y 2).val < 512 := (y 2).isLt; omega⟩))
    (l (ix2 0 ⟨2048 * ((y 2).val / 128) + (y 1).val, by have h0 : (y 1).val < 2048 := (y 1).isLt; have h1 : (y 2).val < 512 := (y 2).isLt; omega⟩))

/-- Laying values on the newest rectangle of a list that already agrees with `f` outside it. -/
theorem canon_step {s : Shape} {φ : EltTy} (r : Rect s) (w : r.shape.Idx → Elt Ideal φ) (L : List (View.Piece (Elt Ideal) s φ)) (f : s.Idx → Elt Ideal φ)
    (hw : ∀ x, w x = f (r.emb x)) (y : s.Idx) (h : y ∉ r.set → View.canon L y = f y) :
    View.canon ((⟨r, w⟩ : View.Piece (Elt Ideal) s φ) :: L) y = f y := by
  by_cases hy : y ∈ r.set
  · obtain ⟨x, rfl⟩ : ∃ x, r.emb x = y := r.toLoadRect.exists_idx_of_mem hy
    exact (View.canon_cons_emb r w L x).trans (hw x)
  · exact (View.canon_cons_of_not_mem (⟨r, w⟩ : View.Piece (Elt Ideal) s φ) L hy).trans (h hy)

/-- The same over contents of which only the covered part is asked for. -/
theorem read_step {s : Shape} {φ : EltTy} {κ : Kind} {sp : Space} (v : View sig κ sp s φ) (g : v.ty.Contents (Elt Ideal)) (r : Rect s) (w : r.shape.Idx → Elt Ideal φ) (L : List (View.Piece (Elt Ideal) s φ)) (f : s.Idx → Elt Ideal φ)
    (hw : ∀ x, w x = f (r.emb x)) (y : s.Idx) (h : y ∉ r.set → v.read (Elt Ideal) (v.writes (Elt Ideal) g L) y = f y) :
    v.read (Elt Ideal) (v.writes (Elt Ideal) g ((⟨r, w⟩ : View.Piece (Elt Ideal) s φ) :: L)) y = f y := by
  by_cases hy : y ∈ r.set
  · obtain ⟨x, rfl⟩ : ∃ x, r.emb x = y := r.toLoadRect.exists_idx_of_mem hy
    exact (View.read_writes_cons_emb v g r w L x).trans (hw x)
  · refine Eq.trans ?_ (h hy)
    rw [View.writes_cons]
    exact View.read_slice_write_of_not_mem _ _ _ _ (by rwa [Rect.map_emb_univ])

/-- A head's queries, transposed. -/
theorem q0_pay (q : FVec Ideal S1x2048x128 .bf16) (x : S128x2048.Idx) : k0_pay314 (F := Ideal) q x = q (ix3 0 (x 1) (x 0)) := by
  pointwise [k0_pay314]
theorem q1_pay (q : FVec Ideal S1x2048x128 .bf16) (x : S128x2048.Idx) : k0_pay315 (F := Ideal) q x = q (ix3 0 (x 1) (x 0)) := by
  pointwise [k0_pay315]
theorem q2_pay (q : FVec Ideal S1x2048x128 .bf16) (x : S128x2048.Idx) : k0_pay316 (F := Ideal) q x = q (ix3 0 (x 1) (x 0)) := by
  pointwise [k0_pay316]
theorem q3_pay (q : FVec Ideal S1x2048x128 .bf16) (x : S128x2048.Idx) : k0_pay317 (F := Ideal) q x = q (ix3 0 (x 1) (x 0)) := by
  pointwise [k0_pay317]

section
variable (c : Dev nD) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (x0 : S1x2048x512.Idx → Elt Ideal .bf16) (x1 x2 : S1x16384x128.Idx → Elt Ideal .bf16) (f8 : BufTy.Contents (Elt Ideal) arg8.view.ty)

/-- The slice of a head's queries as it is loaded. -/
theorem q_load {o : ℕ} (inb : ∀ a, (![0, 0, o] : Fin 3 → ℕ) a + S1x2048x128.size a ≤ S1x2048x512.size a) (x : S1x2048x128.Idx) :
    View.readAt (Elt Ideal) arg3.view (Rect.unit (s := S1x2048x512) ![0, 0, o] S1x2048x128.size inb).toLoadRect (harg3.unread x0) x
      = x0 (ix3 0 (x 1) ⟨o + (x 2).val, by have h : o + 128 ≤ 512 := inb 2; have h2 : (x 2).val < 128 := (x 2).isLt; omega⟩) := by
  refine (View.readAt_apply ..).trans ?_
  rw [harg3.read_unread]
  refine congrArg x0 (funext fun a => Fin.ext ?_)
  match a with
  | 0 => show 0 + 1 * (x 0).val = 0; have h : (x 0).val < 1 := (x 0).isLt; omega
  | 1 => show 0 + 1 * (x 1).val = (x 1).val; omega
  | 2 => show o + 1 * (x 2).val = o + (x 2).val; omega

/-- Two indices of the queries agree when their coordinates do. -/
theorem x0_congr (a a' : Fin 2048) (b b' : Fin 512) (h : a.val = a'.val) (h' : b.val = b'.val) : x0 (ix3 0 a b) = x0 (ix3 0 a' b') := by
  rw [Fin.ext h, Fin.ext h']

/-- The queries' scratch array. -/
theorem q_canon (y : S128x8192.Idx) : View.canon (kernelRun.sl.H7_4 (F := Ideal) c arg3 harg3 x0) y = qT x0 y := by
  unfold kernelRun.sl.H7_4
  have h0 : (y 0).val < 128 := (y 0).isLt
  have h1 : (y 1).val < 8192 := (y 1).isLt
  refine canon_step _ _ _ _ (fun x => ?_) y fun g3 => canon_step _ _ _ _ (fun x => ?_) y fun g2 => canon_step _ _ _ _ (fun x => ?_) y fun g1 =>
    canon_step _ _ _ _ (fun x => ?_) y fun g0 => absurd (Rect.mem_set_unit.mpr ?_) g0
  · refine (q3_pay _ x).trans ((q_load arg3 harg3 x0 _ _).trans (x0_congr x0 _ _ _ _ ?_ ?_))
    · have hx : (x 1).val < 2048 := (x 1).isLt
      show (x 1).val = (6144 + 1 * (x 1).val) % 2048; omega
    · have hx : (x 1).val < 2048 := (x 1).isLt
      show 384 + (x 0).val = 128 * ((6144 + 1 * (x 1).val) / 2048) + (0 + 1 * (x 0).val); omega
  · refine (q2_pay _ x).trans ((q_load arg3 harg3 x0 _ _).trans (x0_congr x0 _ _ _ _ ?_ ?_))
    · have hx : (x 1).val < 2048 := (x 1).isLt
      show (x 1).val = (4096 + 1 * (x 1).val) % 2048; omega
    · have hx : (x 1).val < 2048 := (x 1).isLt
      show 256 + (x 0).val = 128 * ((4096 + 1 * (x 1).val) / 2048) + (0 + 1 * (x 0).val); omega
  · refine (q1_pay _ x).trans ((q_load arg3 harg3 x0 _ _).trans (x0_congr x0 _ _ _ _ ?_ ?_))
    · have hx : (x 1).val < 2048 := (x 1).isLt
      show (x 1).val = (2048 + 1 * (x 1).val) % 2048; omega
    · have hx : (x 1).val < 2048 := (x 1).isLt
      show 128 + (x 0).val = 128 * ((2048 + 1 * (x 1).val) / 2048) + (0 + 1 * (x 0).val); omega
  · refine (q0_pay _ x).trans ((q_load arg3 harg3 x0 _ _).trans (x0_congr x0 _ _ _ _ ?_ ?_))
    · have hx : (x 1).val < 2048 := (x 1).isLt
      show (x 1).val = (0 + 1 * (x 1).val) % 2048; omega
    · have hx : (x 1).val < 2048 := (x 1).isLt
      show 0 + (x 0).val = 128 * ((0 + 1 * (x 1).val) / 2048) + (0 + 1 * (x 0).val); omega
  · have e3 : ¬ ((6144 ≤ (y 1).val)) := fun h => g3 (Rect.mem_set_unit.mpr fun a => by
      match a with
      | 0 => exact ⟨Nat.zero_le _, by show (y 0).val < 0 + 128; omega⟩
      | 1 => exact ⟨h, by show (y 1).val < 6144 + 2048; omega⟩)
    have e2 : ¬ ((4096 ≤ (y 1).val)) := fun h => g2 (Rect.mem_set_unit.mpr fun a => by
      match a with
      | 0 => exact ⟨Nat.zero_le _, by show (y 0).val < 0 + 128; omega⟩
      | 1 => exact ⟨h, by show (y 1).val < 4096 + 2048; omega⟩)
    have e1 : ¬ ((2048 ≤ (y 1).val)) := fun h => g1 (Rect.mem_set_unit.mpr fun a => by
      match a with
      | 0 => exact ⟨Nat.zero_le _, by show (y 0).val < 0 + 128; omega⟩
      | 1 => exact ⟨h, by show (y 1).val < 2048 + 2048; omega⟩)
    intro a
    match a with
    | 0 => exact ⟨Nat.zero_le _, by show (y 0).val < 0 + 128; omega⟩
    | 1 => exact ⟨Nat.zero_le _, by show (y 1).val < 0 + 2048; omega⟩

/-- Read back whole. -/
theorem q_read : arg7.view.read (Elt Ideal) (arg7.view.writes (Elt Ideal) arg7.view.junk (kernelRun.sl.H7_4 (F := Ideal) c arg3 harg3 x0)) = qT x0 := by
  rw [View.read_writes_junk_eq_canon]
  exact funext fun y => q_canon c arg3 harg3 x0 y

/-- An array's whole rectangle maps each index to itself. -/
theorem all_idx {R : ℕ} (inb : ∀ a, (![0, 0] : Fin 2 → ℕ) a + (![R, 8192] : Fin 2 → ℕ) a ≤ (![R, 8192] : Fin 2 → ℕ) a) (y : (⟨2, ![R, 8192]⟩ : Shape).Idx) :
    (Rect.unit (s := ⟨2, ![R, 8192]⟩) ![0, 0] ![R, 8192] inb).toLoadRect.idx y = y := whole_emb inb y

/-- Loaded whole from the scratch array. -/
theorem q_cov (inb) (y : S128x8192.Idx) : arg7.view.readCov (kernelRun.sl.H7_4 (F := Ideal) c arg3 harg3 x0) (Rect.unit (s := S128x8192) ![0, 0] S128x8192.size inb).toLoadRect y = qT x0 y := by
  rw [View.readCov_eq_canon']
  exact (congrArg _ (all_idx (R := 128) inb y)).trans (q_canon c arg3 harg3 x0 y)

/-- The first 128 keys as they are loaded. -/
theorem k_load (inb) (x : S1x128x128.Idx) :
    View.readAt (Elt Ideal) arg4.view (Rect.unit (s := S1x16384x128) ![0, 0, 0] S1x128x128.size inb).toLoadRect (harg4.unread x1) x = x1 (ix3 0 (key (x 1).val) (x 2)) := by
  refine (View.readAt_apply ..).trans ?_
  rw [harg4.read_unread]
  refine congrArg x1 (funext fun a => Fin.ext ?_)
  match a with
  | 0 => show 0 + 1 * (x 0).val = 0; have h : (x 0).val < 1 := (x 0).isLt; omega
  | 1 => show 0 + 1 * (x 1).val = (x 1).val % 16384; have h : (x 1).val < 128 := (x 1).isLt; omega
  | 2 => show 0 + 1 * (x 2).val = (x 2).val; omega

/-- The largest score of a block of keys. -/
theorem m_pay (kb : FVec Ideal S1x128x128 .bf16) (q : FVec Ideal S128x8192 .bf16) (y : S1x8192.Idx) :
    k0_pay318 (F := Ideal) kb q y = fold max bot (fun i : Fin 128 => ∑ d : Fin 128, kb (ix3 0 i d) * q (ix2 d (y 1))) univ := by
  unfold k0_pay318
  dsimp only
  have em : ∀ z : S128x8192.Idx, matmul (F := Ideal) dot_S128x128_S128x8192_S128x8192_1_0_0_1_n_n none (shapeCast S128x128 kb shapeCasts_S1x128x128_S128x128) q (constant S128x8192 .f32 0x00000000#32) z
      = ∑ d : Fin 128, kb (ix3 0 (z 0) d) * q (ix2 d (z 1)) := fun z => by pointwise []
  generalize matmul (F := Ideal) dot_S128x128_S128x8192_S128x8192_1_0_0_1_n_n none (shapeCast S128x128 kb shapeCasts_S1x128x128_S128x128) q (constant S128x8192 .f32 0x00000000#32) = st at *
  have e : ∀ j : S8192.Idx, multiReduction (F := Ideal) .maximumf [0] S8192 st 0xFF800000#32 reduces_S128x8192_S8192 (.inl rfl) rfl j
      = fold max bot (fun i : Fin 128 => st (ix2 i (j 0))) univ := colmax st reduces_S128x8192_S8192 (.inl rfl) rfl
  generalize multiReduction (F := Ideal) .maximumf [0] S8192 st 0xFF800000#32 reduces_S128x8192_S8192 (.inl rfl) rfl = g at *
  refine Eq.trans (b := g (ix1 (y 1))) ?_ ((e _).trans (congrArg (fun f => fold max bot f univ) (funext fun k => em _)))
  clear e em
  pointwise []

/-- The shift's scratch array. -/
theorem m_canon (y : S1x8192.Idx) : View.canon (kernelRun.sl.H9_1 (F := Ideal) c arg3 harg3 arg4 harg4 arg7 x0 x1) y = m0 x0 x1 y := by
  unfold kernelRun.sl.H9_1
  refine (whole_cons (R := 1) _ _ _ y).trans ((m_pay _ _ y).trans ?_)
  unfold m0
  refine congrArg (fun f => fold max bot f univ) (funext fun k => Finset.sum_congr rfl fun d _ => ?_)
  exact congrArg₂ (· * ·) (k_load arg4 harg4 x1 _ _) (q_cov c arg3 harg3 arg7 x0 _ _)

/-- Read back whole. -/
theorem m_read : arg9.view.read (Elt Ideal) (arg9.view.writes (Elt Ideal) arg9.view.junk (kernelRun.sl.H9_1 (F := Ideal) c arg3 harg3 arg4 harg4 arg7 x0 x1)) = m0 x0 x1 := by
  rw [View.read_writes_junk_eq_canon]
  exact funext fun y => m_canon c arg3 harg3 arg4 harg4 arg7 x0 x1 y

theorem zero_pay (y : S1x8192.Idx) : k0_pay319 (F := Ideal) y = 0 := by pointwise [k0_pay319]
theorem zeroA_pay (y : S128x8192.Idx) : k0_pay320 (F := Ideal) y = 0 := by pointwise [k0_pay320]

/-- The sweep's normaliser. -/
theorem l_val (y : S1x8192.Idx) :
    kernelRun.sl.v50 (F := Ideal) c i arg3 harg3 arg4 harg4 arg5 harg5 arg6 harg6 arg7 harg7 arg8 harg8 arg9 harg9 arg10 harg10 arg11 harg11 x0 x1 x2 y = Lz x0 x1 y := by
  unfold kernelRun.sl.v50
  rw [View.readCov_eq_canon']
  refine (congrArg _ (all_idx (R := 1) _ y)).trans ?_
  rw [← View.read_writes_junk_eq_canon arg10.view, View.writes_append]
  refine ((lazy_loop Variants.none c none i arg3 harg3 arg4 harg4 arg5 harg5 arg6 harg6 arg7 harg7 arg8 harg8 arg9 harg9 arg10 harg10 arg11 harg11 _ _ _ _ _ _ 16 le_rfl).1 y).trans ?_
  rw [harg4.read_unread, q_read, m_read, View.read_writes_junk_eq_canon]
  refine congrArg₂ (· + ·) ?_ rfl
  exact (whole_cons (R := 1) _ _ _ y).trans (zero_pay y)

/-- The sweep's accumulator. -/
theorem a_val (y : S128x8192.Idx) :
    kernelRun.sl.v51 (F := Ideal) c i arg3 harg3 arg4 harg4 arg5 harg5 arg6 harg6 arg7 harg7 arg8 harg8 arg9 harg9 arg10 harg10 arg11 harg11 x0 x1 x2 y = Az x0 x1 x2 y := by
  unfold kernelRun.sl.v51
  rw [View.readCov_eq_canon']
  refine (congrArg _ (all_idx (R := 128) _ y)).trans ?_
  rw [← View.read_writes_junk_eq_canon arg11.view, View.writes_append]
  refine ((lazy_loop Variants.none c none i arg3 harg3 arg4 harg4 arg5 harg5 arg6 harg6 arg7 harg7 arg8 harg8 arg9 harg9 arg10 harg10 arg11 harg11 _ _ _ _ _ _ 16 le_rfl).2 y).trans ?_
  rw [harg4.read_unread, harg5.read_unread, q_read, m_read, View.read_writes_junk_eq_canon]
  refine congrArg₂ (· + ·) ?_ rfl
  exact (whole_cons (R := 128) _ _ _ y).trans (zeroA_pay y)

end

end Cert.KernelIdeal.Dense
-- ==== Proof.DenseModel2.lean ====
module

public import proofs.«01_k».proof.Proof.DenseModel

@[expose] public section

set_option maxRecDepth 20000

noncomputable section

namespace Cert.KernelIdeal.Dense

open Cert.KernelIdeal Cert.KernelIdeal.Gen
open Idealize Idealize.ShloMosaic Idealize.ShloMosaic.TcCoe Idealize.SL.Sem Finset
open Idealize.ShloMosaic.ValueKit

/-! ## The running softmax's results, and what is stored -/

theorem start_m (y : S1x8192.Idx) : k0_pay302 (F := Ideal) y = bot := by
  unfold bot; pointwise [k0_pay302]
theorem start_l (y : S1x8192.Idx) : k0_pay303 (F := Ideal) y = 0 := by pointwise [k0_pay303]
theorem start_a (y : S128x8192.Idx) : k0_pay304 (F := Ideal) y = 0 := by pointwise [k0_pay304]

/-- The quotient of a column. -/
def qu (a : S128x8192.Idx → EReal) (l : S1x8192.Idx → EReal) (d : Fin 128) (j : Fin 8192) : EReal := Ideal.div (a (ix2 d j)) (l (ix2 0 j))

/-- The whole quotient. -/
theorem qu_pay (a : FVec Ideal S128x8192 .f32) (l : FVec Ideal S1x8192 .f32) (y : S128x8192.Idx) : k0_pay312 (F := Ideal) a l y = qu a l (y 0) (y 1) := by
  unfold qu
  pointwise [k0_pay312]

/-- A head of a quotient, transposed back. -/
theorem h8_pay (v : FVec Ideal S128x8192 .f32) (x : S1x2048x128.Idx) : k0_pay8 (F := Ideal) v x
    = v (ix2 (x 2) ⟨2048 + (x 1).val, by have h : (x 1).val < 2048 := (x 1).isLt; omega⟩) := by
  pointwise [k0_pay8]
theorem h9_pay (v : FVec Ideal S128x8192 .f32) (x : S1x2048x128.Idx) : k0_pay9 (F := Ideal) v x
    = v (ix2 (x 2) ⟨4096 + (x 1).val, by have h : (x 1).val < 2048 := (x 1).isLt; omega⟩) := by
  pointwise [k0_pay9]
theorem h10_pay (v : FVec Ideal S128x8192 .f32) (x : S1x2048x128.Idx) : k0_pay10 (F := Ideal) v x
    = v (ix2 (x 2) ⟨6144 + (x 1).val, by have h : (x 1).val < 2048 := (x 1).isLt; omega⟩) := by
  pointwise [k0_pay10]
theorem h7_pay (a : FVec Ideal S128x8192 .f32) (l : FVec Ideal S1x8192 .f32) (x : S1x2048x128.Idx) : k0_pay7 (F := Ideal) (k0_pay313 a l) x
    = k0_pay312 (F := Ideal) a l (ix2 (x 2) ⟨0 + (x 1).val, by have h : (x 1).val < 2048 := (x 1).isLt; omega⟩) := by
  generalize hv : k0_pay312 (F := Ideal) a l = v
  unfold k0_pay313
  rw [hv]
  pointwise [k0_pay7]
theorem h3_pay (a : FVec Ideal S128x8192 .f32) (l : FVec Ideal S1x8192 .f32) (x : S1x2048x128.Idx) : k0_pay3 (F := Ideal) a l x
    = k0_pay312 (F := Ideal) a l (ix2 (x 2) ⟨0 + (x 1).val, by have h : (x 1).val < 2048 := (x 1).isLt; omega⟩) := h7_pay a l x
theorem h4_pay (a : FVec Ideal S128x8192 .f32) (l : FVec Ideal S1x8192 .f32) (x : S1x2048x128.Idx) : k0_pay4 (F := Ideal) a l x
    = k0_pay312 (F := Ideal) a l (ix2 (x 2) ⟨2048 + (x 1).val, by have h : (x 1).val < 2048 := (x 1).isLt; omega⟩) := h8_pay _ x
theorem h5_pay (a : FVec Ideal S128x8192 .f32) (l : FVec Ideal S1x8192 .f32) (x : S1x2048x128.Idx) : k0_pay5 (F := Ideal) a l x
    = k0_pay312 (F := Ideal) a l (ix2 (x 2) ⟨4096 + (x 1).val, by have h : (x 1).val < 2048 := (x 1).isLt; omega⟩) := h9_pay _ x
theorem h6_pay (a : FVec Ideal S128x8192 .f32) (l : FVec Ideal S1x8192 .f32) (x : S1x2048x128.Idx) : k0_pay6 (F := Ideal) a l x
    = k0_pay312 (F := Ideal) a l (ix2 (x 2) ⟨6144 + (x 1).val, by have h : (x 1).val < 2048 := (x 1).isLt; omega⟩) := h10_pay _ x

/-- The quotient at a head's place in the output. -/
theorem out_at (a : FVec Ideal S128x8192 .f32) (l : FVec Ideal S1x8192 .f32) (d : Fin 128) (j : Fin 8192) (y : S1x2048x512.Idx)
    (hd : d.val = (y 2).val % 128) (hj : j.val = 2048 * ((y 2).val / 128) + (y 1).val) : k0_pay312 (F := Ideal) a l (ix2 d j) = outOf a l y := by
  refine (qu_pay a l _).trans ?_
  obtain ⟨d, hd'⟩ := d
  obtain ⟨j, hj'⟩ := j
  dsimp only at hd hj
  subst hd hj
  rfl

/-- The four heads stored side by side are the whole quotient. -/
theorem out_read (arg6 : Memref sig .tc .vmem S1x2048x512 .bf16) (f6 : BufTy.Contents (Elt Ideal) arg6.view.ty) (a : FVec Ideal S128x8192 .f32) (l : FVec Ideal S1x8192 .f32)
    (w3 w2 w1 w0 : FVec Ideal S1x2048x128 .bf16) (i3) (i2) (i1) (i0)
    (e3 : ∀ x : S1x2048x128.Idx, w3 x = k0_pay312 (F := Ideal) a l (ix2 (x 2) ⟨6144 + (x 1).val, by have h : (x 1).val < 2048 := (x 1).isLt; omega⟩))
    (e2 : ∀ x : S1x2048x128.Idx, w2 x = k0_pay312 (F := Ideal) a l (ix2 (x 2) ⟨4096 + (x 1).val, by have h : (x 1).val < 2048 := (x 1).isLt; omega⟩))
    (e1 : ∀ x : S1x2048x128.Idx, w1 x = k0_pay312 (F := Ideal) a l (ix2 (x 2) ⟨2048 + (x 1).val, by have h : (x 1).val < 2048 := (x 1).isLt; omega⟩))
    (e0 : ∀ x : S1x2048x128.Idx, w0 x = k0_pay312 (F := Ideal) a l (ix2 (x 2) ⟨0 + (x 1).val, by have h : (x 1).val < 2048 := (x 1).isLt; omega⟩)) :
    arg6.view.read (Elt Ideal) (arg6.view.writes (Elt Ideal) f6
      [(⟨Rect.unit (s := S1x2048x512) ![0, 0, 384] S1x2048x128.size i3, w3⟩ : View.Piece (Elt Ideal) S1x2048x512 .bf16),
       (⟨Rect.unit (s := S1x2048x512) ![0, 0, 256] S1x2048x128.size i2, w2⟩ : View.Piece (Elt Ideal) S1x2048x512 .bf16),
       (⟨Rect.unit (s := S1x2048x512) ![0, 0, 128] S1x2048x128.size i1, w1⟩ : View.Piece (Elt Ideal) S1x2048x512 .bf16),
       (⟨Rect.unit (s := S1x2048x512) ![0, 0, 0] S1x2048x128.size i0, w0⟩ : View.Piece (Elt Ideal) S1x2048x512 .bf16)]) = outOf a l := by
  funext y
  have h0 : (y 0).val < 1 := (y 0).isLt
  have h1 : (y 1).val < 2048 := (y 1).isLt
  have h2 : (y 2).val < 512 := (y 2).isLt
  refine read_step _ _ _ _ _ _ (fun x => ?_) y fun g3 => read_step _ _ _ _ _ _ (fun x => ?_) y fun g2 => read_step _ _ _ _ _ _ (fun x => ?_) y fun g1 =>
    read_step _ _ _ _ _ _ (fun x => ?_) y fun g0 => absurd (Rect.mem_set_unit.mpr ?_) g0
  · have hx : (x 2).val < 128 := (x 2).isLt
    refine (e3 x).trans (out_at a l _ _ _ ?_ ?_)
    · show (x 2).val = (384 + 1 * (x 2).val) % 128; omega
    · show 6144 + (x 1).val = 2048 * ((384 + 1 * (x 2).val) / 128) + (0 + 1 * (x 1).val); omega
  · have hx : (x 2).val < 128 := (x 2).isLt
    refine (e2 x).trans (out_at a l _ _ _ ?_ ?_)
    · show (x 2).val = (256 + 1 * (x 2).val) % 128; omega
    · show 4096 + (x 1).val = 2048 * ((256 + 1 * (x 2).val) / 128) + (0 + 1 * (x 1).val); omega
  · have hx : (x 2).val < 128 := (x 2).isLt
    refine (e1 x).trans (out_at a l _ _ _ ?_ ?_)
    · show (x 2).val = (128 + 1 * (x 2).val) % 128; omega
    · show 2048 + (x 1).val = 2048 * ((128 + 1 * (x 2).val) / 128) + (0 + 1 * (x 1).val); omega
  · have hx : (x 2).val < 128 := (x 2).isLt
    refine (e0 x).trans (out_at a l _ _ _ ?_ ?_)
    · show (x 2).val = (0 + 1 * (x 2).val) % 128; omega
    · show 0 + (x 1).val = 2048 * ((0 + 1 * (x 2).val) / 128) + (0 + 1 * (x 1).val); omega
  · have k3 : ¬ ((384 ≤ (y 2).val)) := fun h => g3 (Rect.mem_set_unit.mpr fun a => by
      match a with
      | 0 => exact ⟨Nat.zero_le _, by show (y 0).val < 0 + 1; omega⟩
      | 1 => exact ⟨Nat.zero_le _, by show (y 1).val < 0 + 2048; omega⟩
      | 2 => exact ⟨h, by show (y 2).val < 384 + 128; omega⟩)
    have k2 : ¬ ((256 ≤ (y 2).val)) := fun h => g2 (Rect.mem_set_unit.mpr fun a => by
      match a with
      | 0 => exact ⟨Nat.zero_le _, by show (y 0).val < 0 + 1; omega⟩
      | 1 => exact ⟨Nat.zero_le _, by show (y 1).val < 0 + 2048; omega⟩
      | 2 => exact ⟨h, by show (y 2).val < 256 + 128; omega⟩)
    have k1 : ¬ ((128 ≤ (y 2).val)) := fun h => g1 (Rect.mem_set_unit.mpr fun a => by
      match a with
      | 0 => exact ⟨Nat.zero_le _, by show (y 0).val < 0 + 1; omega⟩
      | 1 => exact ⟨Nat.zero_le _, by show (y 1).val < 0 + 2048; omega⟩
      | 2 => exact ⟨h, by show (y 2).val < 128 + 128; omega⟩)
    intro a
    match a with
    | 0 => exact ⟨Nat.zero_le _, by show (y 0).val < 0 + 1; omega⟩
    | 1 => exact ⟨Nat.zero_le _, by show (y 1).val < 0 + 2048; omega⟩
    | 2 => exact ⟨Nat.zero_le _, by show (y 2).val < 0 + 128; omega⟩

/-- The running normaliser over all keys, -/
def Lo (x0 : S1x2048x512.Idx → EReal) (x1 : S1x16384x128.Idx → EReal) : S1x8192.Idx → EReal := fun y => ol x1 (qT x0) 128 (y 1)

/-- and the running accumulator. -/
def Ao (x0 : S1x2048x512.Idx → EReal) (x1 x2 : S1x16384x128.Idx → EReal) : S128x8192.Idx → EReal := fun y => oa x1 x2 (qT x0) 128 (y 0) (y 1)

section
variable (c : Dev nD) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (x0 : S1x2048x512.Idx → Elt Ideal .bf16) (x1 x2 : S1x16384x128.Idx → Elt Ideal .bf16) (f8 : BufTy.Contents (Elt Ideal) arg8.view.ty)

/-- What the running softmax starts from. -/
theorem start_found (inb8 inbk inb9 inb10 inb11) (L9 L10 : List (View.Piece (Elt Ideal) S1x8192 .f32)) (L11 : List (View.Piece (Elt Ideal) S128x8192 .f32)) :
    Found arg4 arg5 arg7 arg8 arg9 arg10 arg11 (harg4.unread x1) (harg5.unread x2) (arg7.view.writes (Elt Ideal) arg7.view.junk (kernelRun.sl.H7_4 (F := Ideal) c arg3 harg3 x0))
      (arg8.view.writes (Elt Ideal) f8 [(⟨Rect.unit (s := S2x128x8192) ![0, 0, 0] S1x128x8192.size inb8,
        k0_pay305 (View.readAt (Elt Ideal) arg4.view (Rect.unit (s := S1x16384x128) ![0, 0, 0] S1x128x128.size inbk).toLoadRect (harg4.unread x1)) (kernelRun.sl.v97_1 (F := Ideal) c arg3 harg3 arg7 x0)⟩ : View.Piece (Elt Ideal) S2x128x8192 .f32)])
      (arg9.view.writes (Elt Ideal) arg9.view.junk ((⟨Rect.unit (s := S1x8192) ![0, 0] S1x8192.size inb9, k0_pay302 (F := Ideal)⟩ : View.Piece (Elt Ideal) S1x8192 .f32) :: L9))
      (arg10.view.writes (Elt Ideal) arg10.view.junk ((⟨Rect.unit (s := S1x8192) ![0, 0] S1x8192.size inb10, k0_pay303 (F := Ideal)⟩ : View.Piece (Elt Ideal) S1x8192 .f32) :: L10))
      (arg11.view.writes (Elt Ideal) arg11.view.junk ((⟨Rect.unit (s := S128x8192) ![0, 0] S128x8192.size inb11, k0_pay304 (F := Ideal)⟩ : View.Piece (Elt Ideal) S128x8192 .f32) :: L11)) 0 0 := by
  refine ⟨fun r j => ?_, fun y => ?_, fun y => ?_, fun y => ?_⟩
  · rw [harg4.read_unread, q_read]
    refine read_step arg8.view f8 _ _ _ (fun y => sc x1 (qT x0) (0 + (y 1).val) (y 2)) (fun x => ?_) (ix3 0 r j) fun g => absurd (Rect.mem_set_unit.mpr fun a => ?_) g
    · refine (st_pay _ _ x).trans (Finset.sum_congr rfl fun d _ => congrArg₂ (· * ·) ((k_load arg4 harg4 x1 _ _).trans (congrArg x1 ?_)) ((q_cov c arg3 harg3 arg7 x0 _ _).trans (congrArg (qT x0) ?_)))
      · refine congrArg (fun t => ix3 0 (key t) d) ?_
        show (x 1).val = 0 + (0 + 1 * (x 1).val); omega
      · refine congrArg (ix2 d) (Fin.ext ?_)
        show (x 2).val = 0 + 1 * (x 2).val; omega
    · match a with
      | 0 => exact ⟨Nat.zero_le _, by show 0 < 0 + 1; omega⟩
      | 1 => exact ⟨Nat.zero_le _, by show r.val < 0 + 128; omega⟩
      | 2 => exact ⟨Nat.zero_le _, by show j.val < 0 + 8192; omega⟩
  · rw [View.read_writes_junk_eq_canon]
    exact (whole_cons (R := 1) _ _ _ y).trans (start_m y)
  · rw [View.read_writes_junk_eq_canon]
    exact (whole_cons (R := 1) _ _ _ y).trans (start_l y)
  · rw [View.read_writes_junk_eq_canon]
    exact (whole_cons (R := 128) _ _ _ y).trans (start_a y)

/-- The running softmax's normaliser. -/
theorem lo_val (y : S1x8192.Idx) :
    kernelRun.sl.v104 (F := Ideal) c i arg3 harg3 arg4 harg4 arg5 harg5 arg6 harg6 arg7 harg7 arg8 harg8 arg9 harg9 arg10 harg10 arg11 harg11 x0 x1 x2 f8 y = Lo x0 x1 y := by
  unfold kernelRun.sl.v104
  rw [View.readCov_eq_canon']
  refine (congrArg _ (all_idx (R := 1) _ y)).trans ?_
  rw [← View.read_writes_junk_eq_canon arg10.view, View.writes_append]
  refine ((onl_loop Variants.none c none i arg3 harg3 arg4 harg4 arg5 harg5 arg6 harg6 arg7 harg7 arg8 harg8 arg9 harg9 arg10 harg10 arg11 harg11 _ _ _ _ _ _ _
    (start_found c arg3 harg3 arg4 harg4 arg5 harg5 arg7 arg8 arg9 arg10 arg11 x0 x1 x2 f8 _ _ _ _ _ _ _ _) 64 le_rfl).l y).trans ?_
  rw [harg4.read_unread, q_read]
  rfl

/-- The running softmax's accumulator. -/
theorem ao_val (y : S128x8192.Idx) :
    kernelRun.sl.v103 (F := Ideal) c i arg3 harg3 arg4 harg4 arg5 harg5 arg6 harg6 arg7 harg7 arg8 harg8 arg9 harg9 arg10 harg10 arg11 harg11 x0 x1 x2 f8 y = Ao x0 x1 x2 y := by
  unfold kernelRun.sl.v103
  rw [View.readCov_eq_canon']
  refine (congrArg _ (all_idx (R := 128) _ y)).trans ?_
  rw [← View.read_writes_junk_eq_canon arg11.view, View.writes_append]
  refine ((onl_loop Variants.none c none i arg3 harg3 arg4 harg4 arg5 harg5 arg6 harg6 arg7 harg7 arg8 harg8 arg9 harg9 arg10 harg10 arg11 harg11 _ _ _ _ _ _ _
    (start_found c arg3 harg3 arg4 harg4 arg5 harg5 arg7 arg8 arg9 arg10 arg11 x0 x1 x2 f8 _ _ _ _ _ _ _ _) 64 le_rfl).a y).trans ?_
  rw [harg4.read_unread, harg5.read_unread, q_read]
  rfl

end

end Cert.KernelIdeal.Dense
-- ==== Proof.DenseValue.lean ====
module

public import proofs.«01_k».proof.Proof.DenseTriple
public import proofs.«01_k».proof.Proof.DenseModel2

@[expose] public section

set_option maxRecDepth 16384

noncomputable section

namespace Cert.KernelIdeal.DenseV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Dense

local notation "𝕄" => MT nD τ sig Unit (Elt Ideal) ℕ (UR sig nD τ) ℕ

/-! ## What a grid point leaves -/

/-- Whether the plain sweep's sums are out of range. -/
def bad (x0 : S1x2048x512.Idx → EReal) (x1 x2 : S1x16384x128.Idx → EReal) : BitVec 1 :=
  Scalar.cmpf (F := Ideal) .olt (k0_pay1 (F := Ideal) (Lz x0 x1) (k0_pay322 (F := Ideal) (Az x0 x1 x2))) (kernelRun.sl.cst_41 (F := Ideal))

/-- The block a point writes: the plain sweep's quotient, or the running softmax's. -/
def outModel (x0 : S1x2048x512.Idx → EReal) (x1 x2 : S1x16384x128.Idx → EReal) : S1x2048x512.Idx → EReal :=
  if bad x0 x1 x2 = 1#1 then outOf (Ao x0 x1 x2) (Lo x0 x1) else outOf (Az x0 x1 x2) (Lz x0 x1)

theorem bit_on : ∀ b : BitVec 1, Iff (Scalar.cmpi .ne (Scalar.extui b : BitVec 32) 0#32 = 1#1) (b = 1#1) := by decide
theorem bit_off : ∀ b : BitVec 1, b ≠ 1#1 → Scalar.cmpi .ne (Scalar.extui (Scalar.xori b 1#1) : BitVec 32) 0#32 = 1#1 := by decide

section
variable (c : Dev nD) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (x0 : S1x2048x512.Idx → Elt Ideal .bf16) (x1 x2 : S1x16384x128.Idx → Elt Ideal .bf16) (f8 : BufTy.Contents (Elt Ideal) arg8.view.ty)

theorem l_eq : kernelRun.sl.v50 (F := Ideal) c i arg3 harg3 arg4 harg4 arg5 harg5 arg6 harg6 arg7 harg7 arg8 harg8 arg9 harg9 arg10 harg10 arg11 harg11 x0 x1 x2 = Lz x0 x1 := funext fun y => l_val c i arg3 harg3 arg4 harg4 arg5 harg5 arg6 harg6 arg7 harg7 arg8 harg8 arg9 harg9 arg10 harg10 arg11 harg11 x0 x1 x2 y
theorem a_eq : kernelRun.sl.v51 (F := Ideal) c i arg3 harg3 arg4 harg4 arg5 harg5 arg6 harg6 arg7 harg7 arg8 harg8 arg9 harg9 arg10 harg10 arg11 harg11 x0 x1 x2 = Az x0 x1 x2 := funext fun y => a_val c i arg3 harg3 arg4 harg4 arg5 harg5 arg6 harg6 arg7 harg7 arg8 harg8 arg9 harg9 arg10 harg10 arg11 harg11 x0 x1 x2 y
theorem lo_eq : kernelRun.sl.v104 (F := Ideal) c i arg3 harg3 arg4 harg4 arg5 harg5 arg6 harg6 arg7 harg7 arg8 harg8 arg9 harg9 arg10 harg10 arg11 harg11 x0 x1 x2 f8 = Lo x0 x1 := funext fun y => lo_val c i arg3 harg3 arg4 harg4 arg5 harg5 arg6 harg6 arg7 harg7 arg8 harg8 arg9 harg9 arg10 harg10 arg11 harg11 x0 x1 x2 f8 y
theorem ao_eq : kernelRun.sl.v103 (F := Ideal) c i arg3 harg3 arg4 harg4 arg5 harg5 arg6 harg6 arg7 harg7 arg8 harg8 arg9 harg9 arg10 harg10 arg11 harg11 x0 x1 x2 f8 = Ao x0 x1 x2 := funext fun y => ao_val c i arg3 harg3 arg4 harg4 arg5 harg5 arg6 harg6 arg7 harg7 arg8 harg8 arg9 harg9 arg10 harg10 arg11 harg11 x0 x1 x2 f8 y

theorem bad_eq : kernelRun.sl.v75 (F := Ideal) c i arg3 harg3 arg4 harg4 arg5 harg5 arg6 harg6 arg7 harg7 arg8 harg8 arg9 harg9 arg10 harg10 arg11 harg11 x0 x1 x2 = bad x0 x1 x2 := by
  unfold kernelRun.sl.v75 kernelRun.sl.r
  rw [l_eq, a_eq]; rfl

/-- The second branch is taken exactly when the sums are out of range, -/
theorem on_iff : Iff (kernelRun.sl.v80 (F := Ideal) c i arg3 harg3 arg4 harg4 arg5 harg5 arg6 harg6 arg7 harg7 arg8 harg8 arg9 harg9 arg10 harg10 arg11 harg11 x0 x1 x2 = 1#1) (bad x0 x1 x2 = 1#1) := by
  unfold kernelRun.sl.v80 kernelRun.sl.v79
  rw [bad_eq]; exact bit_on _

/-- and the first whenever they are not. -/
theorem off_of (h : bad x0 x1 x2 ≠ 1#1) : kernelRun.sl.v78 (F := Ideal) c i arg3 harg3 arg4 harg4 arg5 harg5 arg6 harg6 arg7 harg7 arg8 harg8 arg9 harg9 arg10 harg10 arg11 harg11 x0 x1 x2 = 1#1 := by
  unfold kernelRun.sl.v78 kernelRun.sl.v77 kernelRun.sl.v76
  rw [bad_eq]; exact bit_off _ h
end

/-- The body at any point, on any staging buffers, leaves the block of `outModel`. -/
theorem kernelAt (c : Dev nD) (i : grid0.Coords) (arg3 : Memref sig .tc .vmem S1x2048x512 .bf16) (harg3 : arg3.IsWhole)
    (arg4 : Memref sig .tc .vmem S1x16384x128 .bf16) (harg4 : arg4.IsWhole) (arg5 : Memref sig .tc .vmem S1x16384x128 .bf16) (harg5 : arg5.IsWhole)
    (arg6 : Memref sig .tc .vmem S1x2048x512 .bf16) (harg6 : arg6.IsWhole) (arg7 : Memref sig .tc .vmem S128x8192 .bf16) (harg7 : arg7.IsWhole)
    (arg8 : Memref sig .tc .vmem S2x128x8192 .f32) (harg8 : arg8.IsWhole) (arg9 : Memref sig .tc .vmem S1x8192 .f32) (harg9 : arg9.IsWhole)
    (arg10 : Memref sig .tc .vmem S1x8192 .f32) (harg10 : arg10.IsWhole) (arg11 : Memref sig .tc .vmem S128x8192 .f32) (harg11 : arg11.IsWhole)
    (x0 : S1x2048x512.Idx → Elt Ideal .bf16) (x1 x2 : S1x16384x128.Idx → Elt Ideal .bf16) (E : Set ℕ) (Q : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (outModel x0 x1 x2 : Vec Ideal S1x2048x512 .bf16) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)) -∗ Q ⟨⟩))
      ⊢ wp frame (wpE (defs₀ (F := Ideal)) Variants.none c none) E (cc0_dense_attn i arg3 harg3 arg4 harg4 arg5 harg5 arg6 harg6 arg7 harg7 arg8 harg8 arg9 harg9 arg10 harg10 arg11 harg11) Q := by
  refine kernelVal c i arg3 harg3 arg4 harg4 arg5 harg5 arg6 harg6 arg7 harg7 arg8 harg8 arg9 harg9 arg10 harg10 arg11 harg11 x0 x1 x2 (outModel x0 x1 x2) (fun h f6 f8 => ?_) (fun h f6 => ?_) E Q
  · have hb := (on_iff c i arg3 harg3 arg4 harg4 arg5 harg5 arg6 harg6 arg7 harg7 arg8 harg8 arg9 harg9 arg10 harg10 arg11 harg11 x0 x1 x2).mp h
    unfold outModel
    rw [if_pos hb]
    unfold kernelRun.sl.r_1
    rw [lo_eq, ao_eq]
    exact out_read arg6 f6 (Ao x0 x1 x2) (Lo x0 x1) _ _ _ _ _ _ _ _ (fun x => h10_pay _ x) (fun x => h9_pay _ x) (fun x => h8_pay _ x) (fun x => h7_pay _ _ x)
  · have hb : bad x0 x1 x2 ≠ 1#1 := fun hb => h ((on_iff c i arg3 harg3 arg4 harg4 arg5 harg5 arg6 harg6 arg7 harg7 arg8 harg8 arg9 harg9 arg10 harg10 arg11 harg11 x0 x1 x2).mpr hb)
    unfold outModel
    rw [if_neg hb, if_pos (off_of c i arg3 harg3 arg4 harg4 arg5 harg5 arg6 harg6 arg7 harg7 arg8 harg8 arg9 harg9 arg10 harg10 arg11 harg11 x0 x1 x2 hb), l_eq, a_eq]
    exact out_read arg6 f6 (Az x0 x1 x2) (Lz x0 x1) _ _ _ _ _ _ _ _ (fun x => h6_pay _ _ x) (fun x => h5_pay _ _ x) (fun x => h4_pay _ _ x) (fun x => h3_pay _ _ x)

/-! ## The launch, to its values -/

section
variable (m : (ℓ : Loc nD τ sig) → Buf (Elt Ideal) ℓ) (ρ : Dev nD → PrngReg)

/-- What a point leaves in the output's staging buffer. -/
def left (c : Dev nD) (t : Fin cfg0.N) : Vec Ideal S1x2048x512 .bf16 := outModel (iblk (F := Ideal) m c 0 t) (iblk (F := Ideal) m c 1 t) (iblk (F := Ideal) m c 2 t)

/-- The proof data: each input keeps its block, the output is left at the model's block. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := Pipeline.ΦA spec0 c
  q w := Pipeline.shareOf spec0 w
  owed _ := 0

theorem vA_eq (c : Dev nD) (w : Fin cfg0.W) : (vdats m 0 c).A w = V m c (Pipeline.arrRef spec0 w) := by
  dsimp only [vdats]
theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = left m c t := by dsimp only [vdats]

/-- Each input's staging buffer holds its block when the body is called. -/
theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d

/-- What the body is called with at a point, -/
def valPre (c : Dev nD) (t : Fin cfg0.N) : sProp 𝕄 :=
  iprop((vdats m 0 c).Φ t.castSucc ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d)))

/-- and what it gives back. -/
def valPost (c : Dev nD) (t : Fin cfg0.N) : sProp 𝕄 :=
  iprop((vdats m 0 c).Φ t.succ ∗ (vdats m 0 c).owesAt () t.succ
    ∗ (vdats m 0 c).leavesExact 0 t
    ∗ (vdats m 0 c).leavesExact 1 t
    ∗ (vdats m 0 c).leavesExact 2 t
    ∗ (vdats m 0 c).leavesExact 3 t)

set_option maxHeartbeats 800000 in
/-- The body's triple at a point, from the run on any buffers. -/
theorem sound_val (c : Dev nD) (t : Fin cfg0.N) :
    valPre m c t ⊢ wp frame (wpE (defs₀ (F := Ideal)) Variants.none c none) Set.univ (bodyAt0 t) (fun _ => valPost m c t) := by
  unfold valPre valPost bodyAt0
  simp only [vbefore0, vbefore1, vbefore2]
  rw [show (vdats m 0 c).Φ t.succ = (vdats m 0 c).Φ t.castSucc from rfl,
    show (vdats m 0 c).owesAt () t.succ = (vdats m 0 c).owesAt () t.castSucc from rfl]
  rw [show (vdats m 0 c).Φ t.castSucc = Pipeline.ΦA spec0 c from rfl, PhiA0_eq]
  rw [show (vdats m 0 c).leavesExact 0 t = owns (c : Thread nD τ) (ms0 t) fullShare ((vdats m 0 c).after 0 t) from by
    unfold Dat.leavesExact; rw [live0 t], vafter0]
  rw [show (vdats m 0 c).leavesExact 1 t = owns (c : Thread nD τ) (ms1 t) fullShare ((vdats m 0 c).after 1 t) from by
    unfold Dat.leavesExact; rw [live1 t], vafter1]
  rw [show (vdats m 0 c).leavesExact 2 t = owns (c : Thread nD τ) (ms2 t) fullShare ((vdats m 0 c).after 2 t) from by
    unfold Dat.leavesExact; rw [live2 t], vafter2]
  rw [show (vdats m 0 c).leavesExact 3 t = owns (c : Thread nD τ) (ms3 t) fullShare ((vdats m 0 c).after 3 t) from by
    unfold Dat.leavesExact; rw [live3 t], vafter3]
  iintro ⟨⟨⟨S0, S1, S2, S3, S4⟩, Hg⟩, Ho, ⟨%d0, H0⟩, ⟨%d1, H1⟩, ⟨%d2, H2⟩, ⟨%d3, H3⟩⟩
  iapply (kernelAt c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  iintro ⟨H0, H1, H2, H3, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  iexact H3
/-- The pipeline's obligation of the body. -/
theorem val_obligation (c : Dev nD) : BodyObligation (vdats m 0 c) (defs₀ (F := Ideal)) Variants.none () Set.univ := fun t => by
  rw [bigSep_W0, bigSep_W0, defs₀_row]
  exact triple_restated (sound_val m c t) rfl .rfl fun _ => .rfl

set_option backward.isDefEq.respectTransparency.types false in
/-- Every fair run ends with the pipeline's arrays as the proof data says and every semaphore counter at zero. -/
theorem run_val : θ_run defs (onTc (τ := τ) (main (F := Ideal))) (s₀ m ρ) (fun r => (Pipeline.FramePost cfgs (vdats m) 0 (V m)) r ∧ r.2.sem = fun _ => 0) :=
  Pipeline.θ_run_frame_track_shared (Q' := _) cfgs (vdats m) (0 : Fin 1) launch₀0 defs₀ Variants.none m ρ main
    (hbody := fun c => (val_obligation m c).loose) (hq := fun _ _ _ => rfl)
    (howed := fun _ _ => rfl) (V := V m) (hmain := hmain m Variants.none) (hA := vA_eq m) (hin := fun _ => .rfl) (hout := fun _ => .rfl)

end

end Cert.KernelIdeal.DenseV

end
-- ==== Proof.DenseMath.lean ====
module

public import proofs.«01_k».proof.Proof.DenseModel2

@[expose] public section

set_option maxRecDepth 16384

noncomputable section

namespace Cert.KernelIdeal.Dense

open Cert.KernelIdeal Cert.KernelIdeal.Gen
open Idealize Idealize.ShloMosaic Finset
open Idealize.ShloMosaic.ValueKit

/-! ## Softmax does not depend on the shift -/

/-- A nonnegative number times a sum. -/
theorem coe_mul_sum {ι : Type} (s : Finset ι) (f : ι → EReal) (a : ℝ) (ha : 0 ≤ a) : (a : EReal) * ∑ i ∈ s, f i = ∑ i ∈ s, (a : EReal) * f i := by
  classical
  induction s using Finset.induction_on with
  | empty => simp
  | insert i s hi ih =>
    rw [sum_insert hi, sum_insert hi, ← ih]
    exact EReal.left_distrib_of_nonneg_of_ne_top (by exact_mod_cast ha) (EReal.coe_ne_top a) _ _

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- Base two of a difference of scores. -/
theorem exp2_sub (a M : ℝ) : Ideal.exp2 ((a : EReal) - (M : EReal)) = (((2 : ℝ) ^ (a - M) : ℝ) : EReal) := by
  rw [← EReal.coe_sub]; rfl

/-- The weighted mean of `v` by the softmax of `σ` over the first `N` keys. -/
def soft (σ : ℕ → ℝ) (v : ℕ → EReal) (N : ℕ) : EReal :=
  ∑ n ∈ range N, v n * ((Real.exp (σ n) / ∑ k ∈ range N, Real.exp (σ k) : ℝ) : EReal)

theorem pow_two (x : ℝ) : (2 : ℝ) ^ x = Real.exp (x * Real.log 2) := by
  rw [Real.rpow_def_of_pos (by norm_num), mul_comm]

theorem exp_pos_sum (σ : ℕ → ℝ) {N : ℕ} (hN : 0 < N) : 0 < ∑ k ∈ range N, Real.exp (σ k) :=
  sum_pos (fun _ _ => Real.exp_pos _) ⟨0, by simpa using hN⟩

/-- A quotient of sums weighted by a positive multiple of the exponentials is the softmax's mean. -/
theorem quot_soft (σ : ℕ → ℝ) (v : ℕ → EReal) (w : ℕ → ℝ) (a : ℝ) (ha : 0 < a) {N : ℕ} (hN : 0 < N) (hw : ∀ n, w n = a * Real.exp (σ n)) :
    Ideal.div (∑ n ∈ range N, v n * (w n : EReal)) (∑ n ∈ range N, (w n : EReal)) = soft σ v N := by
  have hE := exp_pos_sum σ hN
  have hs : (∑ n ∈ range N, (w n : EReal)) = ((a * ∑ k ∈ range N, Real.exp (σ k) : ℝ) : EReal) := by
    rw [mul_sum, coe_sum]
    exact sum_congr rfl fun n _ => by rw [hw]
  have hp : 0 < a * ∑ k ∈ range N, Real.exp (σ k) := mul_pos ha hE
  rw [hs, Ideal.div_coe hp.ne', mul_comm, coe_mul_sum _ _ _ (by positivity)]
  unfold soft
  refine sum_congr rfl fun n _ => ?_
  rw [mul_left_comm, ← EReal.coe_mul, hw]
  congr 2
  field_simp

/-- With base two and any shift. -/
theorem quot_two (σ : ℕ → ℝ) (v : ℕ → EReal) (M : ℝ) {N : ℕ} (hN : 0 < N) :
    Ideal.div (∑ n ∈ range N, v n * Ideal.exp2 (((σ n / Real.log 2 : ℝ) : EReal) - (M : EReal))) (∑ n ∈ range N, Ideal.exp2 (((σ n / Real.log 2 : ℝ) : EReal) - (M : EReal))) = soft σ v N := by
  simp only [exp2_sub]
  refine quot_soft σ v _ (Real.exp (-(M * Real.log 2))) (Real.exp_pos _) hN fun n => ?_
  have h2 : Real.log 2 ≠ 0 := (Real.log_pos (by norm_num)).ne'
  rw [pow_two, ← Real.exp_add]
  congr 1
  field_simp
  ring

/-- The reference's form: each weight divided before the sum. -/
theorem sum_soft (σ : ℕ → ℝ) (v : ℕ → EReal) (M : ℝ) {N : ℕ} (hN : 0 < N) :
    ∑ n ∈ range N, v n * Ideal.div (Ideal.exp ((σ n : EReal) - (M : EReal))) (∑ k ∈ range N, Ideal.exp ((σ k : EReal) - (M : EReal))) = soft σ v N := by
  have he : ∀ n, Ideal.exp ((σ n : EReal) - (M : EReal)) = ((Real.exp (-M) * Real.exp (σ n) : ℝ) : EReal) := fun n => by
    rw [← EReal.coe_sub, ← Real.exp_add, neg_add_eq_sub]; rfl
  have hE := exp_pos_sum σ hN
  have hM := Real.exp_pos (-M)
  simp only [he]
  rw [← coe_sum, ← mul_sum]
  unfold soft
  refine sum_congr rfl fun n _ => congrArg (v n * ·) ?_
  rw [Ideal.div_coe (mul_pos hM hE).ne', ← EReal.coe_mul]
  congr 1
  field_simp

/-! ## Maxima of numbers are numbers -/

theorem bot_eq : bot = ⊥ := by
  unfold bot
  simp [Ideal.ofBits, Ideal.ieee]

theorem fold_real {ι : Type} (s : Finset ι) (hs : s.Nonempty) (f : ι → ℝ) : ∃ r : ℝ, fold max bot (fun i => (f i : EReal)) s = (r : EReal) := by
  classical
  rw [bot_eq]
  induction hs using Finset.Nonempty.cons_induction with
  | singleton a => exact ⟨f a, by simp⟩
  | cons a s ha hs ih =>
    obtain ⟨r, hr⟩ := ih
    exact ⟨max (f a) r, by rw [fold_cons, hr]; exact (EReal.coe_strictMono.monotone.map_max).symm⟩

/-! ## The kernel's two quotients -/

section
variable {K V : S1x16384x128.Idx → EReal} {Q : S128x8192.Idx → EReal} {j : Fin 8192} {s : ℕ → ℝ} (hs : ∀ n, sc K Q n j = (s n : EReal)) (d : Fin 128)
include hs

/-- One fixed shift. -/
theorem lazy_soft (σ : ℕ → ℝ) (hσ : ∀ n, s n = σ n / Real.log 2) (m : S1x8192.Idx → EReal) (M : ℝ) (hm : m (ix2 0 j) = (M : EReal)) :
    Ideal.div (0 + ∑ i ∈ range 16384, V (ix3 0 (key i) d) * W K Q m i j) (0 + ∑ i ∈ range 16384, W K Q m i j) = soft σ (fun n => V (ix3 0 (key n) d)) 16384 := by
  rw [zero_add, zero_add, ← quot_two σ (fun n => V (ix3 0 (key n) d)) M (by norm_num)]
  unfold W
  simp only [hs, hm, hσ]

theorem block_sum (f : ℕ → EReal) (b : ℕ) : ∑ n ∈ range (128 * (b + 1)), f n = ∑ n ∈ range (128 * b), f n + ∑ i : Fin 128, f (128 * b + i.val) := by
  rw [Nat.mul_succ, sum_range_add, Finset.sum_range fun i => f (128 * b + i)]

/-- The running values over the blocks so far. -/
theorem onl_real (b : ℕ) : ∃ M : ℝ, om K Q (b + 1) j = (M : EReal)
    ∧ ol K Q (b + 1) j = ∑ n ∈ range (128 * (b + 1)), Ideal.exp2 ((s n : EReal) - (M : EReal))
    ∧ oa K V Q (b + 1) d j = ∑ n ∈ range (128 * (b + 1)), V (ix3 0 (key n) d) * Ideal.exp2 ((s n : EReal) - (M : EReal)) := by
  have hf : ∀ b, ∃ r : ℝ, fold max bot (fun i : Fin 128 => sc K Q (128 * b + i.val) j) univ = (r : EReal) := fun b => by
    simp only [hs]
    exact fold_real univ univ_nonempty fun i : Fin 128 => s (128 * b + i.val)
  induction b with
  | zero =>
    obtain ⟨r, hr⟩ := hf 0
    have hm : om K Q (0 + 1) j = (r : EReal) := by
      rw [om, hr, om, bot_eq]; exact max_eq_right bot_le
    refine ⟨r, hm, ?_, ?_⟩
    · rw [block_sum hs, ol, ol, hm, mul_zero]
      simp [hs]
    · rw [block_sum hs, oa, oa, hm, mul_zero]
      simp [hs]
  | succ b ih =>
    obtain ⟨M, hM, hl, ha⟩ := ih
    obtain ⟨r, hr⟩ := hf (b + 1)
    have hm : om K Q (b + 1 + 1) j = ((max M r : ℝ) : EReal) := by
      rw [om, hr, hM]; exact (EReal.coe_strictMono.monotone.map_max).symm
    have hp : ∀ n, Ideal.exp2 ((M : EReal) - ((max M r : ℝ) : EReal)) * Ideal.exp2 ((s n : EReal) - (M : EReal)) = Ideal.exp2 ((s n : EReal) - ((max M r : ℝ) : EReal)) := fun n => by
      rw [exp2_sub, exp2_sub, exp2_sub, ← EReal.coe_mul, ← Real.rpow_add (by norm_num)]
      congr 2; ring
    have h0 : (0 : ℝ) ≤ (2 : ℝ) ^ (M - max M r) := by positivity
    refine ⟨max M r, hm, ?_, ?_⟩
    · rw [block_sum hs, ol, hm, hM, hl]
      simp only [hs]
      refine congrArg (· + _) ?_
      rw [exp2_sub M, coe_mul_sum _ _ _ h0, ← exp2_sub M]
      exact sum_congr rfl fun n _ => hp n
    · rw [block_sum hs, oa, hm, hM, ha]
      simp only [hs]
      refine congrArg (· + _) ?_
      rw [exp2_sub M, coe_mul_sum _ _ _ h0, ← exp2_sub M]
      exact sum_congr rfl fun n _ => by rw [mul_left_comm, hp]

/-- The running shift. -/
theorem onl_soft (σ : ℕ → ℝ) (hσ : ∀ n, s n = σ n / Real.log 2) :
    Ideal.div (oa K V Q 128 d j) (ol K Q 128 j) = soft σ (fun n => V (ix3 0 (key n) d)) 16384 := by
  obtain ⟨M, -, hl, ha⟩ := onl_real (V := V) hs d 127
  refine (congrArg₂ Ideal.div ha hl).trans ?_
  simp only [hσ]
  exact quot_two σ (fun n => V (ix3 0 (key n) d)) M (by norm_num)

end

end Cert.KernelIdeal.Dense
-- ==== Proof.DenseClaim.lean ====
module

public import proofs.«01_k».proof.Proof.DenseValue
public import proofs.«01_k».proof.Proof.DenseMath

@[expose] public section

set_option maxRecDepth 16384

noncomputable section

namespace Cert.KernelIdeal.DenseV

open Cert.KernelIdeal Cert.KernelIdeal.Gen Dense
open Idealize Idealize.ShloMosaic Idealize.ShloMosaic.TcCoe Idealize.SL.Sem Finset
open Idealize.ShloMosaic.ValueKit

section
variable (m : (ℓ : Loc nD τ sig) → Buf (Elt Ideal) ℓ) (c : Dev nD)

/-- The three arguments. -/
abbrev aQ : FVec Ideal S3x16384x8x128 .f32 := m ((c : Thread nD τ).loc main_arg0)
abbrev aK : FVec Ideal S3x16384x2x128 .f32 := m ((c : Thread nD τ).loc main_arg1)
abbrev aV : FVec Ideal S3x16384x2x128 .f32 := m ((c : Thread nD τ).loc main_arg2)

/-- The number the queries are multiplied by. -/
def qscale : EReal := Ideal.div (Ideal.ofBits FTy.f32 0x3F800000#32) (Ideal.sqrt (Ideal.ofBits FTy.f32 0x43000000#32) * Ideal.log (Ideal.ofBits FTy.f32 0x40000000#32))

/-- Which block each window shows at a point. -/
theorem idx : ∀ t : Fin cfg0.N, win0_0.index t = ![t.val / 16, t.val % 8, t.val / 8 % 2] ∧ win0_1.index t = ![t.val / 16, 0, 8 + t.val / 8 % 2]
    ∧ win0_2.index t = ![t.val / 16, 0, 10 + t.val / 8 % 2] ∧ win0_3.index t = ![t.val / 16, t.val % 8, t.val / 8 % 2] ∧ t.val / 16 < 3 :=
  (by decide +kernel : ∀ t : Fin grid0.N, _)

/-- The queries as they are laid out, scaled; the keys; the values. -/
def hQ : FVec Ideal S3x16384x1024 .bf16 := truncf .bf16 (mulf (shapeCast S3x16384x1024 (aQ m c) shapeCasts_S3x16384x8x128_S3x16384x1024)
  (broadcastInDim S3x16384x1024 ![] bcast_S_S3x16384x1024 (Host.divf (constant (F := Ideal) S_ .f32 0x3F800000#32)
    (mulf (Host.sqrt (constant (F := Ideal) S_ .f32 0x43000000#32)) (Host.log (constant (F := Ideal) S_ .f32 0x40000000#32)))))) bitsLt_bf16_f32
def hK : FVec Ideal S3x16384x256 .bf16 := truncf .bf16 (shapeCast S3x16384x256 (aK m c) shapeCasts_S3x16384x2x128_S3x16384x256) bitsLt_bf16_f32
def hV : FVec Ideal S3x16384x256 .bf16 := truncf .bf16 (shapeCast S3x16384x256 (aV m c) shapeCasts_S3x16384x2x128_S3x16384x256) bitsLt_bf16_f32

/-- The array the kernel reads: the three side by side. -/
theorem arr_eq : V (F := Ideal) m c main_v12 = concatenate S3x16384x1536 2 [⟨S3x16384x1024, hQ m c⟩, ⟨S3x16384x256, hK m c⟩, ⟨S3x16384x256, hV m c⟩] concatenates_S3x16384x1024_S3x16384x256_S3x16384x256_S3x16384x1536_d2 := by
  unfold V
  after_results <;> rfl

theorem hQ_at (b : Fin 3) (r : Fin 16384) (e : Fin 1024) (h : Fin 8) (d : Fin 128) (he : e.val = 128 * h.val + d.val) :
    hQ m c (ix3 b r e) = aQ m c (ix4 b r h d) * qscale := by
  unfold hQ qscale
  pointwise []
  blk_point []

theorem hK_at (b : Fin 3) (r : Fin 16384) (e : Fin 256) (h : Fin 2) (d : Fin 128) (he : e.val = 128 * h.val + d.val) :
    hK m c (ix3 b r e) = aK m c (ix4 b r h d) := by
  unfold hK
  pointwise []
  blk_point []

theorem hV_at (b : Fin 3) (r : Fin 16384) (e : Fin 256) (h : Fin 2) (d : Fin 128) (he : e.val = 128 * h.val + d.val) :
    hV m c (ix3 b r e) = aV m c (ix4 b r h d) := by
  unfold hV
  pointwise []
  blk_point []

/-- At a query's place, -/
theorem arr_q (b : Fin 3) (r : Fin 16384) (e : Fin 1536) (h : Fin 8) (d : Fin 128) (he : e.val = 128 * h.val + d.val) :
    (V (F := Ideal) m c main_v12 : S3x16384x1536.Idx → EReal) (ix3 b r e) = aQ m c (ix4 b r h d) * qscale := by
  have hh := h.isLt
  have hd := d.isLt
  rw [arr_eq]
  pointwise []
  rw [dif_pos (by omega)]
  exact hQ_at m c b r _ h d he

/-- at a key's, -/
theorem arr_k (b : Fin 3) (r : Fin 16384) (e : Fin 1536) (h : Fin 2) (d : Fin 128) (he : e.val = 1024 + 128 * h.val + d.val) :
    (V (F := Ideal) m c main_v12 : S3x16384x1536.Idx → EReal) (ix3 b r e) = aK m c (ix4 b r h d) := by
  have hh := h.isLt
  have hd := d.isLt
  rw [arr_eq]
  pointwise []
  rw [dif_neg (by omega), dif_pos (by omega)]
  exact hK_at m c b r _ h d (by show e.val - 1024 = _; omega)

/-- and at a value's. -/
theorem arr_v (b : Fin 3) (r : Fin 16384) (e : Fin 1536) (h : Fin 2) (d : Fin 128) (he : e.val = 1280 + 128 * h.val + d.val) :
    (V (F := Ideal) m c main_v12 : S3x16384x1536.Idx → EReal) (ix3 b r e) = aV m c (ix4 b r h d) := by
  have hh := h.isLt
  have hd := d.isLt
  rw [arr_eq]
  pointwise []
  rw [dif_neg (by omega), dif_neg (by omega)]
  exact hV_at m c b r _ h d (by show e.val - 1024 - 256 = _; omega)

section
variable (t : Fin cfg0.N)

/-- The array the three windows read. -/
theorem blk0 (y : S1x2048x512.Idx) (h : Fin 8) (d : Fin 128) (b : Fin 3) (r : Fin 16384) (hb : b.val = t.val / 16) (hr : r.val = 2048 * (t.val % 8) + (y 1).val)
    (hh : 128 * h.val + d.val = 512 * (t.val / 8 % 2) + (y 2).val) : (iblk m c 0 t : S1x2048x512.Idx → EReal) y = aQ m c (ix4 b r h d) * qscale := by
  have hN : (y 0).val < 1 := (y 0).isLt
  have h8 := h.isLt
  have h9 := d.isLt
  rw [← arr_q m c b r ⟨128 * h.val + d.val, by omega⟩ h d rfl]
  unfold iblk
  blk_point [idx t]

theorem blk1 (y : S1x16384x128.Idx) (h : Fin 2) (b : Fin 3) (hb : b.val = t.val / 16) (hh : h.val = t.val / 8 % 2) :
    (iblk m c 1 t : S1x16384x128.Idx → EReal) y = aK m c (ix4 b (y 1) h (y 2)) := by
  have hN : (y 0).val < 1 := (y 0).isLt
  have h9 : (y 2).val < 128 := (y 2).isLt
  have h8 := h.isLt
  rw [← arr_k m c b (y 1) ⟨1024 + 128 * h.val + (y 2).val, by omega⟩ h (y 2) rfl]
  unfold iblk
  blk_point [idx t]

theorem blk2 (y : S1x16384x128.Idx) (h : Fin 2) (b : Fin 3) (hb : b.val = t.val / 16) (hh : h.val = t.val / 8 % 2) :
    (iblk m c 2 t : S1x16384x128.Idx → EReal) y = aV m c (ix4 b (y 1) h (y 2)) := by
  have hN : (y 0).val < 1 := (y 0).isLt
  have h9 : (y 2).val < 128 := (y 2).isLt
  have h8 := h.isLt
  rw [← arr_v m c b (y 1) ⟨1280 + 128 * h.val + (y 2).val, by omega⟩ h (y 2) rfl]
  unfold iblk
  blk_point [idx t]
end

end

/-- The scale is a number. -/
theorem qscale_eq : qscale = ((1 / (Real.sqrt 128 * Real.log 2) : ℝ) : EReal) := by
  have e1 : Ideal.ofBits FTy.f32 0x3F800000#32 = ((1 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have e3 : Ideal.ofBits FTy.f32 0x43000000#32 = ((128 : ℝ) : EReal) := by
    simp [Ideal.ofBits, Ideal.ieee, -EReal.coe_mul]; norm_num
  have hs : (0 : ℝ) < Real.sqrt 128 := Real.sqrt_pos.mpr (by norm_num)
  have hl : (0 : ℝ) < Real.log 2 := Real.log_pos (by norm_num)
  have e4 : Ideal.sqrt ((128 : ℝ) : EReal) = ((Real.sqrt 128 : ℝ) : EReal) := by
    show (if (128 : ℝ) < 0 then ⊥ else ((Real.sqrt 128 : ℝ) : EReal)) = _
    rw [if_neg (by norm_num)]
  have e5 : Ideal.log ((2 : ℝ) : EReal) = ((Real.log 2 : ℝ) : EReal) := by
    show (if (2 : ℝ) ≤ 0 then ⊥ else ((Real.log 2 : ℝ) : EReal)) = _
    rw [if_neg (by norm_num)]
  unfold qscale
  rw [e1, e2, e3, e4, e5, ← EReal.coe_mul, Ideal.div_coe (mul_pos hs hl).ne', ← EReal.coe_mul, one_mul]

/-- An array whose entries all stay below infinity in size holds numbers. -/
theorem real_of {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) : ∃ r : ℝ, x i = (r : EReal) := by
  have hi : Ideal.ofBits FTy.f32 0x7F800000#32 = (⊤ : EReal) := by
    simp [Ideal.ofBits, Ideal.ieee]
  have h1 : Ideal.cmp CmpFPredicate.olt (max (x i) (-(x i))) (Ideal.ofBits FTy.f32 0x7F800000#32) = 1#1 := congrFun h i
  rw [hi] at h1
  have h2 : max (x i) (-(x i)) < (⊤ : EReal) := by
    by_contra h3
    simp [Ideal.cmp, h3] at h1
  obtain ⟨h4, h5⟩ := max_lt_iff.mp h2
  refine ⟨(x i).toReal, (EReal.coe_toReal h4.ne ?_).symm⟩
  intro h6
  rw [h6] at h5
  simp at h5

end Cert.KernelIdeal.DenseV

end
-- ==== Proof.DenseRef.lean ====
module

public import proofs.«01_k».proof.Proof.DenseMath
public import proofs.«01_k».proof.Proof.Gen.ReferenceIdeal.Run
public import proofs.«01_k».proof.Proof.Gen.ReferenceIdeal.Read

@[expose] public section

set_option maxRecDepth 16384

noncomputable section

namespace Cert.KernelIdeal.DenseR

open Cert.ReferenceIdeal Cert.ReferenceIdeal.Gen Cert.ReferenceIdeal.Read
open Cert.KernelIdeal.Dense (soft bot bot_eq fold_real coe_sum sum_soft key)
open Idealize Idealize.ShloMosaic Idealize.ShloMosaic.TcCoe Idealize.SL.Sem Finset
open Idealize.ShloMosaic.ValueKit

/-! ## The reference at an index -/

/-- The largest entry of a row. -/
theorem rowmax {a b c m n : ℕ} (v : FVec Ideal (⟨5, ![a, b, c, m, n]⟩ : Shape) .f32) (h : (⟨5, ![a, b, c, m, n]⟩ : Shape).ReducesTo [4] (⟨4, ![a, b, c, m]⟩ : Shape)) (hu : 0 < S_.numel)
    (j : (⟨4, ![a, b, c, m]⟩ : Shape).Idx) :
    Host.reduce (FloatOps.maximumf (F := Ideal)) v (constant (F := Ideal) S_ .f32 0xFF800000#32) h hu j = fold max bot (fun k : Fin n => v (ix5 (j 0) (j 1) (j 2) (j 3) k)) univ := by
  unfold bot
  pointwise []

/-- The root the scores are divided by. -/
theorem root_eq (i : S3x2x4x16384x16384.Idx) : val_main_v4 (F := Ideal) i = ((Real.sqrt 128 : ℝ) : EReal) := by
  have e : Ideal.ofBits FTy.f32 0x43000000#32 = ((128 : ℝ) : EReal) := by
    simp [Ideal.ofBits, Ideal.ieee, -EReal.coe_mul]; norm_num
  rw [val_main_v4_apply, val_main_v3_apply, val_main_cst_apply]
  show Ideal.sqrt (Ideal.ofBits FTy.f32 0x43000000#32) = _
  rw [e]
  show (if (128 : ℝ) < 0 then ⊥ else ((Real.sqrt 128 : ℝ) : EReal)) = _
  rw [if_neg (by norm_num)]

section
variable (x0 : (⟨S3x16384x8x128, .f32⟩ : BufTy).Contents (Elt Ideal)) (x1 x2 : (⟨S3x16384x2x128, .f32⟩ : BufTy).Contents (Elt Ideal))
    (q : S3x16384x8x128.Idx → ℝ) (k : S3x16384x2x128.Idx → ℝ) (hq : ∀ i, x0 i = (q i : EReal)) (hk : ∀ i, x1 i = (k i : EReal))

/-- The real score of key `n` against the query of head `4 g + h` at row `r`. -/
def score (b : Fin 3) (g : Fin 2) (h : Fin 8) (r : Fin 16384) (n : ℕ) : ℝ :=
  (∑ d : Fin 128, k (ix4 b (key n) g d) * q (ix4 b r h d)) / Real.sqrt 128

include hq hk

/-- The scaled scores. -/
theorem score_eq (b : Fin 3) (g : Fin 2) (p : Fin 4) (h : Fin 8) (hh : h.val = 4 * g.val + p.val) (r n : Fin 16384) :
    val_main_v5 (F := Ideal) x0 x1 (ix5 b g p r n) = (score q k b g h r n.val : EReal) := by
  have hs : (0 : ℝ) < Real.sqrt 128 := Real.sqrt_pos.mpr (by norm_num)
  have e : ∀ d : Fin 128, x1 (lidx_main_v1 (idx_main_v2 (ix5 b g p r n)) d) * (val_main_v0 (F := Ideal) x0) (ridx_main_v1 (idx_main_v2 (ix5 b g p r n)) d)
      = ((k (ix4 b (key n.val) g d) * q (ix4 b r h d) : ℝ) : EReal) := fun d => by
    rw [val_main_v0_apply, hq, hk, EReal.coe_mul]
    have h0 := b.isLt; have h1 := g.isLt; have h2 := p.isLt; have h3 := r.isLt; have h4 := d.isLt; have h5 := n.isLt
    congr 3
    · congr 1
      funext a
      refine Fin.ext ?_
      match a with
      | 0 => rfl
      | 1 => show n.val = n.val % 16384; omega
      | 2 => rfl
      | 3 => rfl
    · congr 1
      funext a
      refine Fin.ext ?_
      match a with
      | 0 => show ((((b.val * 16384 + r.val) * 2 + g.val) * 4 + p.val) * 128 + d.val) / 16777216 = b.val; omega
      | 1 => show ((((b.val * 16384 + r.val) * 2 + g.val) * 4 + p.val) * 128 + d.val) / 1024 % 16384 = r.val; omega
      | 2 => show ((((b.val * 16384 + r.val) * 2 + g.val) * 4 + p.val) * 128 + d.val) / 128 % 8 = h.val; omega
      | 3 => show ((((b.val * 16384 + r.val) * 2 + g.val) * 4 + p.val) * 128 + d.val) % 128 = d.val; omega
  rw [val_main_v5_apply, root_eq, val_main_v2_apply, val_main_v1_apply]
  show Ideal.div _ _ = _
  rw [sum_congr rfl fun d _ => e d, ← coe_sum, Ideal.div_coe hs.ne', ← EReal.coe_mul]
  unfold score
  congr 1
  rw [mul_one_div]

/-- The row's maximum is a number. -/
theorem max_real (b : Fin 3) (g : Fin 2) (p : Fin 4) (r : Fin 16384) : ∃ M : ℝ, val_main_v8 (F := Ideal) x0 x1 (ix4 b g p r) = (M : EReal) := by
  have hh := g.isLt
  have hp := p.isLt
  have e : val_main_v6 (F := Ideal) x0 x1 (ix4 b g p r) = fold max bot (fun n : Fin 16384 => val_main_v5 (F := Ideal) x0 x1 (ix5 b g p r n)) univ := by
    unfold val_main_v6 val_main_cst_0
    exact rowmax (val_main_v5 (F := Ideal) x0 x1) _ _ (ix4 b g p r)
  obtain ⟨M, hM⟩ := fold_real (univ : Finset (Fin 16384)) univ_nonempty fun n => score q k b g ⟨4 * g.val + p.val, by omega⟩ r n.val
  refine ⟨M, ?_⟩
  rw [val_main_v8_apply, e, val_main_v7_apply]
  simp only [score_eq x0 x1 q k hq hk b g p ⟨4 * g.val + p.val, by omega⟩ rfl r, hM]
  show max bot (M : EReal) = M
  rw [bot_eq]; exact max_eq_right bot_le

/-- The reference's result is the softmax's mean of the values. -/
theorem ref_soft (b : Fin 3) (r : Fin 16384) (e : Fin 1024) (g : Fin 2) (p : Fin 4) (h : Fin 8) (d : Fin 128) (hh : h.val = 4 * g.val + p.val) (he : e.val = 512 * g.val + 128 * p.val + d.val) :
    val_main_v20 (F := Ideal) x0 x1 x2 (ix3 b r e) = soft (score q k b g h r) (fun n => x2 (ix4 b (key n) g d)) 16384 := by
  obtain ⟨M, hM⟩ := max_real x0 x1 q k hq hk b g p r
  have h0 := b.isLt; have h1 := g.isLt; have h2 := p.isLt; have h3 := r.isLt; have h4 := d.isLt
  have hw : ∀ n : Fin 16384, val_main_v12 (F := Ideal) x0 x1 (ix5 b g p r n) = Ideal.exp ((score q k b g h r n.val : EReal) - (M : EReal)) := fun n => by
    rw [val_main_v12_apply, val_main_v11_apply, val_main_v10_apply, val_main_v9_apply, score_eq x0 x1 q k hq hk b g p h hh r n,
      show idx_main_v9 (idx_main_v10 (ix5 b g p r n)) = ix4 b g p r from by
        funext a; exact (match a with | 0 => rfl | 1 => rfl | 2 => rfl | 3 => rfl), hM]
    rfl
  have hz : val_main_cst_2 (F := Ideal) (Shape.Idx.first h_S_) = (0 : EReal) := by
    show Ideal.ofBits FTy.f32 0x00000000#32 = 0
    simp [Ideal.ofBits, Ideal.ieee]
  have hsum : ∀ n : Fin 16384, val_main_v15 (F := Ideal) x0 x1 (ix5 b g p r n) = ∑ l ∈ range 16384, Ideal.exp ((score q k b g h r l : EReal) - (M : EReal)) := fun n => by
    rw [val_main_v15_apply, val_main_v14_apply, val_main_v13_apply, hz, zero_add, Finset.sum_range]
    refine sum_congr rfl fun l _ => Eq.trans (congrArg _ ?_) (hw l)
    funext a; exact (match a with | 0 => rfl | 1 => rfl | 2 => rfl | 3 => rfl | 4 => rfl)
  have hi : idx_main_v18 (idx_main_v19 (ix3 b r e)) = ix5 b g d p r := by
    funext a
    refine Fin.ext ?_
    match a with
    | 0 => show ((b.val * 16384 + r.val) * 1024 + e.val) / 16777216 = b.val; omega
    | 1 => show ((b.val * 16384 + r.val) * 1024 + e.val) / 512 % 2 = g.val; omega
    | 2 => show ((b.val * 16384 + r.val) * 1024 + e.val) % 128 = d.val; omega
    | 3 => show ((b.val * 16384 + r.val) * 1024 + e.val) / 128 % 4 = p.val; omega
    | 4 => show ((b.val * 16384 + r.val) * 1024 + e.val) / 1024 % 16384 = r.val; omega
  rw [val_main_v20_apply]
  show val_main_v19 (F := Ideal) x0 x1 x2 (ix3 b r e) = _
  rw [val_main_v19_apply, val_main_v18_apply, hi, val_main_v17_apply, ← sum_soft _ _ M (by norm_num), Finset.sum_range]
  refine sum_congr rfl fun n _ => ?_
  have hl : lidx_main_v17 (ix5 b g d p r) n = ix4 b (key n.val) g d := by
    have h5 := n.isLt
    funext a
    refine Fin.ext ?_
    match a with
    | 0 => rfl
    | 1 => show n.val = n.val % 16384; omega
    | 2 => rfl
    | 3 => rfl
  have hr : ridx_main_v17 (ix5 b g d p r) n = ix5 b g p r n := by
    funext a; exact (match a with | 0 => rfl | 1 => rfl | 2 => rfl | 3 => rfl | 4 => rfl)
  rw [hl, hr, val_main_v16_apply, hw, hsum]
  rfl

end

end Cert.KernelIdeal.DenseR

end
-- ==== Proof.DenseEnd.lean ====
module

public import proofs.«01_k».proof.Proof.DenseClaim
public import proofs.«01_k».proof.Proof.DenseRef

@[expose] public section

set_option maxRecDepth 16384

noncomputable section

namespace Cert.KernelIdeal.DenseV

open Cert.KernelIdeal Cert.KernelIdeal.Gen Dense
open Cert.KernelIdeal.DenseR (score ref_soft)
open Idealize Idealize.ShloMosaic Idealize.ShloMosaic.TcCoe Idealize.SL.Sem Finset
open Idealize.ShloMosaic.ValueKit
open Idealize.SL Idealize.SL.RA Idealize.ShloMosaic.Rounds
open Idealize.ShloMosaic.Pipeline (Dat Cfg Window)

section
variable (m : (ℓ : Loc nD τ sig) → Buf (Elt Ideal) ℓ) (c : Dev nD)
    (q : S3x16384x8x128.Idx → ℝ) (k : S3x16384x2x128.Idx → ℝ) (hq : ∀ i, aQ m c i = (q i : EReal)) (hk : ∀ i, aK m c i = (k i : EReal))
    (t : Fin cfg0.N) (b : Fin 3) (g : Fin 2) (hb : b.val = t.val / 16) (hg : g.val = t.val / 8 % 2)
include hq hk hb hg

/-- The kernel's score, in units of the logarithm of two. -/
theorem sc_at (h : Fin 8) (r : Fin 16384) (j : Fin 8192) (hh : h.val = 4 * g.val + j.val / 2048) (hr : r.val = 2048 * (t.val % 8) + j.val % 2048) (n : ℕ) :
    sc (iblk m c 1 t) (qT (iblk m c 0 t)) n j = ((score q k b g h r n / Real.log 2 : ℝ) : EReal) := by
  have hj := j.isLt
  unfold sc
  have e : ∀ d : Fin 128, (show EReal from (iblk m c 1 t : S1x16384x128.Idx → EReal) (ix3 0 (key n) d)) * qT (iblk m c 0 t) (ix2 d j)
      = ((k (ix4 b (key n) g d) * (q (ix4 b r h d) * (1 / (Real.sqrt 128 * Real.log 2))) : ℝ) : EReal) := fun d => by
    unfold qT
    rw [blk1 m c t _ g b hb hg, blk0 m c t _ h d b r hb hr (by show _ = 512 * (t.val / 8 % 2) + (128 * (j.val / 2048) + d.val); omega), hq, qscale_eq, EReal.coe_mul, EReal.coe_mul]
    exact congrArg (· * _) (hk _)
  refine (sum_congr rfl fun d _ => e d).trans ?_
  rw [← coe_sum]
  congr 1
  unfold score
  rw [div_div, sum_div]
  exact sum_congr rfl fun d _ => by rw [← mul_assoc, mul_one_div]

/-- What a point leaves is the softmax's mean of the values. -/
theorem left_soft (h : Fin 8) (r : Fin 16384) (d : Fin 128) (y : S1x2048x512.Idx) (hh : h.val = 4 * g.val + (y 2).val / 128) (hr : r.val = 2048 * (t.val % 8) + (y 1).val)
    (hd : d.val = (y 2).val % 128) :
    left m c t y = soft (score q k b g h r) (fun n => aV m c (ix4 b (key n) g d)) 16384 := by
  have h1 : (y 1).val < 2048 := (y 1).isLt
  have h2 : (y 2).val < 512 := (y 2).isLt
  have hs : ∀ n, sc (iblk m c 1 t) (qT (iblk m c 0 t)) n ⟨2048 * ((y 2).val / 128) + (y 1).val, by omega⟩ = ((score q k b g h r n / Real.log 2 : ℝ) : EReal) := fun n =>
    sc_at m c q k hq hk t b g hb hg h r _ (by show h.val = 4 * g.val + (2048 * ((y 2).val / 128) + (y 1).val) / 2048; omega)
      (by show r.val = 2048 * (t.val % 8) + (2048 * ((y 2).val / 128) + (y 1).val) % 2048; omega) n
  have hv : (fun n => (iblk m c 2 t : S1x16384x128.Idx → EReal) (ix3 0 (key n) ⟨(y 2).val % 128, Nat.mod_lt _ (by norm_num)⟩)) = fun n => aV m c (ix4 b (key n) g d) :=
    funext fun n => by
      rw [blk2 m c t _ g b hb hg]
      rw [show d = ⟨(y 2).val % 128, Nat.mod_lt _ (by norm_num)⟩ from Fin.ext hd]
      rfl
  rw [← hv]
  unfold left outModel
  split
  · unfold outOf Ao Lo
    exact onl_soft hs _ _ fun n => rfl
  · obtain ⟨M, hM⟩ := fold_real (univ : Finset (Fin 128)) univ_nonempty fun i => score q k b g h r i.val / Real.log 2
    unfold outOf Az Lz
    refine lazy_soft hs _ _ (fun n => rfl) _ M ?_
    unfold m0
    simp only [← hM]
    exact congrArg (fun f => fold max bot f univ) (funext fun i => hs i.val)
end

/-- An array every block of which is what its point leaves is the one the run leaves. -/
theorem arr_gen (c : Dev nD) (D : Dat τ (Elt Ideal) Unit ℕ (UR sig nD τ) ℕ cfg0 c) (L : (t : Fin cfg0.N) → S1x2048x512.Idx → EReal) (hD : ∀ t, D.after 3 t = L t) (G : S3x16384x1024.Idx → EReal)
    (h : ∀ (t : Fin cfg0.N) (y : S1x2048x512.Idx) (i : S3x16384x1024.Idx), (i 0).val = t.val / 16 → (i 1).val = 2048 * (t.val % 8) + (y 1).val → (i 2).val = 512 * (t.val / 8 % 2) + (y 2).val → L t y = G i) :
    D.arrAt 3 cfg0.N = G := by
  refine D.arrAt_eq_of_covers 3 G (by decide +kernel) fun t hf y => ?_
  blk_simp
  rw [hD]
  have h0 : (y 0).val < 1 := (y 0).isLt
  obtain ⟨-, -, -, ht, hl⟩ := idx t
  refine h t y _ ?_ ?_ ?_
  · blk_simp [ht]
  · blk_simp [ht]
    omega
  · blk_simp [ht]
    omega

/-- The array the run leaves is the reference's result. -/
theorem final (m : (ℓ : Loc nD τ sig) → Buf (Elt Ideal) ℓ) (c : Dev nD) (hq : ∀ i, ∃ r : ℝ, aQ m c i = (r : EReal)) (hk : ∀ i, ∃ r : ℝ, aK m c i = (r : EReal))
    (G : S3x16384x1024.Idx → EReal) (hG : G = Cert.ReferenceIdeal.Read.val_main_v20 (F := Ideal) (aQ m c) (aK m c) (aV m c)) :
    (vdats m 0 c).arrAt 3 cfg0.N = G := by
  obtain ⟨q, hq⟩ := Classical.axiomOfChoice hq
  obtain ⟨k, hk⟩ := Classical.axiomOfChoice hk
  refine arr_gen c (vdats m 0 c) (left m c) (vafter3 m c) G fun t y i e0 e1 e2 => ?_
  have h1 : (y 1).val < 2048 := (y 1).isLt
  have h2 : (y 2).val < 512 := (y 2).isLt
  have hp : (y 2).val / 128 < 4 := by omega
  have hm : (y 2).val % 128 < 128 := by omega
  have hg : t.val / 8 % 2 < 2 := by omega
  have hh : 4 * (t.val / 8 % 2) + (y 2).val / 128 < 8 := by omega
  refine (left_soft m c q k hq hk t (i 0) ⟨t.val / 8 % 2, hg⟩ e0 rfl ⟨4 * (t.val / 8 % 2) + (y 2).val / 128, hh⟩ (i 1) ⟨(y 2).val % 128, hm⟩ y rfl e1 rfl).trans ?_
  have hr := ref_soft (aQ m c) (aK m c) (aV m c) q k hq hk (i 0) (i 1) (i 2) ⟨t.val / 8 % 2, hg⟩ ⟨(y 2).val / 128, hp⟩
    ⟨4 * (t.val / 8 % 2) + (y 2).val / 128, hh⟩ ⟨(y 2).val % 128, hm⟩ rfl (by show (i 2).val = 512 * (t.val / 8 % 2) + 128 * ((y 2).val / 128) + (y 2).val % 128; omega)
  rw [← hG] at hr
  refine hr.symm.trans (congrArg G ?_)
  exact ix3_eta i

/-- The run leaves the reference's result and the arguments as they were. -/
theorem run_dense (m : (ℓ : Loc nD τ sig) → Buf (Elt Ideal) ℓ) (ρ : Dev nD → PrngReg) (G : (c : Dev nD) → S3x16384x1024.Idx → EReal) (hG : ∀ c, (vdats m 0 c).arrAt 3 cfg0.N = G c) :
    θ_run defs (onTc (τ := τ) (main (F := Ideal))) ⟨m, fun _ => 0, ρ⟩ (fun r => ∀ c : Dev nD,
      r.2.mem ((c.tc : Thread nD τ).loc main_v13) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (hG c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_val m ρ)

end Cert.KernelIdeal.DenseV

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.Pre_finite_scores
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.ReferenceIdeal.Run
public import proofs.«01_k».proof.Proof.Gen.ReferenceIdeal.Read
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gen.LastIdeal.Value
public import proofs.«01_k».proof.Proof.Gen.LastReferenceIdeal.Run
public import proofs.«01_k».proof.Proof.Gen.LastReferenceIdeal.Read
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.DenseFrame
public import proofs.«01_k».proof.Proof.DenseFrameIdeal
public import proofs.«01_k».proof.Proof.FfnEq
public import proofs.«01_k».proof.Proof.OutValue
public import proofs.«01_k».proof.Proof.LastEq
public import proofs.«01_k».proof.Proof.MergeEq
public import proofs.«01_k».proof.Proof.DenseEnd
public import Idealize.ShloMosaic.Adequacy
public import Idealize.ShloMosaic.Init

@[expose] public section

noncomputable section

namespace Cert.Proof

open Idealize.ShloMosaic Idealize.SL.Sem Cert.Kernel

/-- The plain half-step leaves its arguments and every semaphore counter as they were. -/
theorem half_reference_frame : letI := Cert.FfnReferenceIdeal.Gen.facts; Cert.quiescent_FfnReferenceIdeal :=
  fun m g _ => (θ_run _ _ _).mono
    (fun r h => ⟨fun c => (h c).2, sem_eq_zero_of_no_sems (by decide) r.2⟩) (Cert.FfnReferenceIdeal.Value.run (F := Ideal) m g)

/-- The plain attention leaves its arguments and every semaphore counter as they were. -/
theorem dense_reference_frame : letI := Cert.ReferenceIdeal.Gen.facts; Cert.quiescent_ReferenceIdeal :=
  fun m g _ => (θ_run _ _ _).mono
    (fun r h => ⟨fun c => (h c).2, sem_eq_zero_of_no_sems (by decide) r.2⟩) (Cert.ReferenceIdeal.Value.run (F := Ideal) m g)

/-- The half-step kernel and the plain half-step end with the same array. -/
theorem half_claim : letI := Cert.FfnIdeal.Gen.facts; letI := Cert.FfnReferenceIdeal.Gen.facts; Cert.algebraic_FfnIdeal_FfnReferenceIdeal := by
  pair_intro
  · run_from Cert.FfnIdeal.Value.run m g
  · run_from Cert.FfnReferenceIdeal.Value.run m' g'
    obtain ⟨h0, h1, h2, h3⟩ := hagree c
    refine Eq.trans ?_ (Cert.FfnIdeal.Half.final m c).symm
    exact (Cert.FfnReferenceIdeal.Read.val_main_v27_eq m' c).trans (by rw [h0, h1, h2, h3])

/-- The plain last half-step leaves its arguments and every semaphore counter as they were. -/
theorem last_reference_frame : letI := Cert.LastReferenceIdeal.Gen.facts; Cert.quiescent_LastReferenceIdeal :=
  fun m g _ => (θ_run _ _ _).mono
    (fun r h => ⟨fun c => (h c).2, sem_eq_zero_of_no_sems (by decide) r.2⟩) (Cert.LastReferenceIdeal.Value.run (F := Ideal) m g)

/-- The last half-step's call and the plain last half-step end with the same array. -/
theorem last_claim : letI := Cert.LastIdeal.Gen.facts; letI := Cert.LastReferenceIdeal.Gen.facts; Cert.algebraic_LastIdeal_LastReferenceIdeal := by
  pair_intro
  · run_from Cert.LastIdeal.Value.run m g
  · run_from Cert.LastReferenceIdeal.Value.run m' g'
    obtain ⟨h0, h1, h2, h3, h4⟩ := hagree c
    refine Eq.trans ?_ (Cert.LastIdeal.LastHalf.final m c).symm
    exact (Cert.LastReferenceIdeal.Read.val_main_v40_eq m' c).trans (by rw [h0, h1, h2, h3, h4])

/-- The plain mixer's output leaves its arguments and every semaphore counter as they were. -/
theorem out_reference_frame : letI := Cert.OutReferenceIdeal.Gen.facts; Cert.quiescent_OutReferenceIdeal :=
  fun m g _ => (θ_run _ _ _).mono
    (fun r h => ⟨fun c => (h c).2, sem_eq_zero_of_no_sems (by decide) r.2⟩) (Cert.OutReferenceIdeal.Value.run (F := Ideal) m g)

/-- The mixer's output call and the plain mixer's output end with the same array. -/
theorem out_claim : letI := Cert.OutIdeal.Gen.facts; letI := Cert.OutReferenceIdeal.Gen.facts; Cert.algebraic_OutIdeal_OutReferenceIdeal := by
  pair_intro
  · run_from Cert.OutIdeal.Value.run m g
  · run_from Cert.OutReferenceIdeal.Value.run m' g'
    refine Eq.trans ?_ (Cert.OutIdeal.Mix.final m c).symm
    exact (Cert.OutReferenceIdeal.Read.val_main_v34_eq _ _ _ _ _ _ _ _ _ _).trans rfl

/-- The attention kernel and the plain attention end with the same array, the queries and keys being numbers. -/
theorem dense_claim : letI := Cert.KernelIdeal.Gen.facts; letI := Cert.ReferenceIdeal.Gen.facts; letI := Cert.Pre_finite_scores.Gen.facts;
    Cert.algebraic_KernelIdeal_ReferenceIdeal_pre_finite_scores := by
  intro m g m' g' hpre hagree
  have hq := fun c => Cert.KernelIdeal.DenseV.real_of (Cert.KernelIdeal.DenseV.aQ m c) _ (hpre c).1
  have hk := fun c => Cert.KernelIdeal.DenseV.real_of (Cert.KernelIdeal.DenseV.aK m c) _ (hpre c).2
  refine ⟨fun c => Cert.ReferenceIdeal.Read.val_main_v20 (F := Ideal) (Cert.KernelIdeal.DenseV.aQ m c) (Cert.KernelIdeal.DenseV.aK m c) (Cert.KernelIdeal.DenseV.aV m c),
    Cert.KernelIdeal.DenseV.run_dense m g _ fun c => Cert.KernelIdeal.DenseV.final m c (hq c) (hk c) _ rfl,
    (θ_run _ _ _).mono (fun r h c => ⟨(h c).1.trans ?_, (h c).2⟩) (Cert.ReferenceIdeal.Value.run (F := Ideal) m' g')⟩
  obtain ⟨h0, h1, h2⟩ := hagree c
  exact (Cert.ReferenceIdeal.Read.val_main_v20_eq _ _ _).trans (by rw [h0, h1, h2])

/-- The plain merge leaves its arguments and every semaphore counter as they were. -/
theorem merge_reference_frame : letI := Cert.MergeReferenceIdeal.Gen.facts; Cert.quiescent_MergeReferenceIdeal :=
  fun m g _ => (θ_run _ _ _).mono
    (fun r h => ⟨fun c => (h c).2, sem_eq_zero_of_no_sems (by decide) r.2⟩) (Cert.MergeReferenceIdeal.Value.run (F := Ideal) m g)

/-- The merge's call and the plain merge end with the same array. -/
theorem merge_claim : letI := Cert.MergeIdeal.Gen.facts; letI := Cert.MergeReferenceIdeal.Gen.facts; Cert.algebraic_MergeIdeal_MergeReferenceIdeal := by
  intro m g m' g' hpre hagree
  refine ⟨fun c => Cert.MergeReferenceIdeal.Read.val_main_v55 (F := Ideal) (Cert.MergeIdeal.Blend.a0 m c) (Cert.MergeIdeal.Blend.a1 m c) (Cert.MergeIdeal.Blend.a2 m c)
      (Cert.MergeIdeal.Blend.a3 m c) (Cert.MergeIdeal.Blend.a4 m c) (Cert.MergeIdeal.Blend.a5 m c),
    Cert.MergeIdeal.Blend.run_merge m g _ fun c => Cert.MergeIdeal.Blend.final m c _ rfl,
    (θ_run _ _ _).mono (fun r h c => ⟨(h c).1.trans ?_, (h c).2⟩) (Cert.MergeReferenceIdeal.Value.run (F := Ideal) m' g')⟩
  obtain ⟨h0, h1, h2, h3, h4, h5⟩ := hagree c
  exact (Cert.MergeReferenceIdeal.Read.val_main_v55_eq m' c).trans (by rw [h0, h1, h2, h3, h4, h5]; rfl)

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Out.Gen.facts, Cert.OutIdeal.Gen.facts, Cert.OutReferenceIdeal.Gen.facts, Cert.Last.Gen.facts, Cert.LastIdeal.Gen.facts, Cert.LastReferenceIdeal.Gen.facts, Cert.Merge.Gen.facts, Cert.MergeIdeal.Gen.facts, Cert.MergeReferenceIdeal.Gen.facts, Cert.Pre_finite_scores.Gen.facts,
  fun m ρ _ => Cert.Kernel.Dense.frame m ρ,
  fun m ρ _ => Cert.KernelIdeal.Dense.frame m ρ,
  fun m ρ _ => Cert.KernelIdeal.Dense.frame m ρ,
  dense_reference_frame,
  fun m ρ _ => dense_reference_frame m ρ trivial,
  fun m ρ _ => Cert.Ffn.Gen.frame m ρ,
  fun m ρ _ => Cert.FfnIdeal.Gen.frame m ρ,
  half_reference_frame,
  fun m ρ _ => Cert.Out.Gen.frame m ρ,
  fun m ρ _ => Cert.OutIdeal.Gen.frame m ρ,
  out_reference_frame,
  fun m ρ _ => Cert.Last.Gen.frame m ρ,
  fun m ρ _ => Cert.LastIdeal.Gen.frame m ρ,
  last_reference_frame,
  fun m ρ _ => Cert.Merge.Gen.frame m ρ,
  fun m ρ _ => Cert.MergeIdeal.Gen.frame m ρ,
  merge_reference_frame,
  trivial,
  dense_claim,
  trivial,
  half_claim,
  trivial,
  out_claim,
  trivial,
  last_claim,
  trivial,
  merge_claim⟩

end Cert.Proof

end
